-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_tame [hPre_inputs_tame : Cert.Pre_inputs_tame.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame [hPre_inputs_tame : Cert.Pre_inputs_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_tame [hKernelIdeal : Cert.KernelIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_tame [hReferenceIdeal : Cert.ReferenceIdeal.Facts] [hPre_inputs_tame : Cert.Pre_inputs_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "log2_e_over_8" .f32 0x3E38AA3B#32 (((Real.log 2)⁻¹ * 8⁻¹ : ℝ) : EReal)

def algebraic_KernelIdeal_ReferenceIdeal_pre_inputs_tame [hKernelIdeal : Cert.KernelIdeal.Facts] [hReferenceIdeal : Cert.ReferenceIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_v5)) (v6 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_v5) = v5 c
          ∧ r.2.mem ((c.tc : Thread Cert.KernelIdeal.nD Cert.KernelIdeal.τ).loc Cert.KernelIdeal.main_v6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v171) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_v172) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_tame : Cert.Pre_inputs_tame.Facts),
    quiescent_Kernel (hKernel := hKernel)
    ∧ quiescent_KernelIdeal (hKernelIdeal := hKernelIdeal)
    ∧ quiescent_KernelIdeal_pre_inputs_tame (hKernelIdeal := hKernelIdeal) (hPre_inputs_tame := hPre_inputs_tame)
    ∧ quiescent_ReferenceIdeal (hReferenceIdeal := hReferenceIdeal)
    ∧ quiescent_ReferenceIdeal_pre_inputs_tame (hReferenceIdeal := hReferenceIdeal) (hPre_inputs_tame := hPre_inputs_tame)
    ∧ preserves_Kernel_KernelIdeal
    ∧ algebraic_KernelIdeal_ReferenceIdeal_pre_inputs_tame (hKernelIdeal := hKernelIdeal) (hReferenceIdeal := hReferenceIdeal) (hPre_inputs_tame := hPre_inputs_tame)
-- ==== Pre_inputs_tame.lean ====
abbrev S9x2048x512 : Shape := ⟨3, ![9, 2048, 512]⟩
abbrev S9x2048x128 : Shape := ⟨3, ![9, 2048, 128]⟩
abbrev S_ : Shape := ⟨0, ![]⟩

class Facts : Prop where
  bitsLt_bf16_f32 : FTy.bits .bf16 < FTy.bits .f32
  bcast_S_S9x2048x512 : S_.BroadcastsInDim S9x2048x512 (![] : Fin 0 → Fin S9x2048x512.rank)
  bcast_S_S9x2048x128 : S_.BroadcastsInDim S9x2048x128 (![] : Fin 0 → Fin S9x2048x128.rank)

variable [Facts]

def fn_part1 {F : FTy → Type} [FloatOps F] (main_arg2 : FVec F S9x2048x128 .bf16) (main_v9 : IVec S9x2048x512 1) (main_v13 : IVec S9x2048x128 1) (main_v15 : IVec S9x2048x128 1) (main_v17 : IVec S9x2048x128 1) : IVec S9x2048x512 1 × IVec S9x2048x128 1 × IVec S9x2048x128 1 :=
  let main_v18 : IVec S9x2048x128 1 := andi main_v15 main_v17
  let main_v19 : IVec S9x2048x128 1 := ori main_v13 main_v18
  let main_v20 : FVec F S9x2048x128 .f32 := (extf .f32 · bitsLt_bf16_f32) main_arg2
  let main_v21 : FVec F S9x2048x128 .f32 := Host.absf main_v20
  let main_cst_5 : FVec F S_ .f32 := constant S_ .f32 0x00000000#32
  let main_v22 : FVec F S9x2048x128 .f32 := broadcastInDim S9x2048x128 ![] bcast_S_S9x2048x128 main_cst_5
  let main_v23 : IVec S9x2048x128 1 := cmpf .oeq main_v21 main_v22
  let main_cst_6 : FVec F S_ .f32 := constant S_ .f32 0x12800000#32
  let main_v24 : FVec F S9x2048x128 .f32 := broadcastInDim S9x2048x128 ![] bcast_S_S9x2048x128 main_cst_6
  let main_v25 : IVec S9x2048x128 1 := cmpf .oge main_v21 main_v24
  let main_cst_7 : FVec F S_ .f32 := constant S_ .f32 0x6C800000#32
  let main_v26 : FVec F S9x2048x128 .f32 := broadcastInDim S9x2048x128 ![] bcast_S_S9x2048x128 main_cst_7
  let main_v27 : IVec S9x2048x128 1 := cmpf .ole main_v21 main_v26
  let main_v28 : IVec S9x2048x128 1 := andi main_v25 main_v27
  let main_v29 : IVec S9x2048x128 1 := ori main_v23 main_v28
  (main_v9, main_v19, main_v29)

def fn {F : FTy → Type} [FloatOps F] (main_arg0 : FVec F S9x2048x512 .bf16) (main_arg1 : FVec F S9x2048x128 .bf16) (main_arg2 : FVec F S9x2048x128 .bf16) : IVec S9x2048x512 1 × IVec S9x2048x128 1 × IVec S9x2048x128 1 :=
  let main_v0 : FVec F S9x2048x512 .f32 := (extf .f32 · bitsLt_bf16_f32) main_arg0
  let main_v1 : FVec F S9x2048x512 .f32 := Host.absf main_v0
  let main_cst : FVec F S_ .f32 := constant S_ .f32 0x00000000#32
  let main_v2 : FVec F S9x2048x512 .f32 := broadcastInDim S9x2048x512 ![] bcast_S_S9x2048x512 main_cst
  let main_v3 : IVec S9x2048x512 1 := cmpf .oeq main_v1 main_v2
  let main_cst_0 : FVec F S_ .f32 := constant S_ .f32 0x12800000#32
  let main_v4 : FVec F S9x2048x512 .f32 := broadcastInDim S9x2048x512 ![] bcast_S_S9x2048x512 main_cst_0
  let main_v5 : IVec S9x2048x512 1 := cmpf .oge main_v1 main_v4
  let main_cst_1 : FVec F S_ .f32 := constant S_ .f32 0x6C800000#32
  let main_v6 : FVec F S9x2048x512 .f32 := broadcastInDim S9x2048x512 ![] bcast_S_S9x2048x512 main_cst_1
  let main_v7 : IVec S9x2048x512 1 := cmpf .ole main_v1 main_v6
  let main_v8 : IVec S9x2048x512 1 := andi main_v5 main_v7
  let main_v9 : IVec S9x2048x512 1 := ori main_v3 main_v8
  let main_v10 : FVec F S9x2048x128 .f32 := (extf .f32 · bitsLt_bf16_f32) main_arg1
  let main_v11 : FVec F S9x2048x128 .f32 := Host.absf main_v10
  let main_cst_2 : FVec F S_ .f32 := constant S_ .f32 0x00000000#32
  let main_v12 : FVec F S9x2048x128 .f32 := broadcastInDim S9x2048x128 ![] bcast_S_S9x2048x128 main_cst_2
  let main_v13 : IVec S9x2048x128 1 := cmpf .oeq main_v11 main_v12
  let main_cst_3 : FVec F S_ .f32 := constant S_ .f32 0x12800000#32
  let main_v14 : FVec F S9x2048x128 .f32 := broadcastInDim S9x2048x128 ![] bcast_S_S9x2048x128 main_cst_3
  let main_v15 : IVec S9x2048x128 1 := cmpf .oge main_v11 main_v14
  let main_cst_4 : FVec F S_ .f32 := constant S_ .f32 0x6C800000#32
  let main_v16 : FVec F S9x2048x128 .f32 := broadcastInDim S9x2048x128 ![] bcast_S_S9x2048x128 main_cst_4
  let main_v17 : IVec S9x2048x128 1 := cmpf .ole main_v11 main_v16
  fn_part1 (F := F) main_arg2 main_v9 main_v13 main_v15 main_v17
-- ==== Kernel.lean ====
abbrev S9x2048x512 : Shape := ⟨3, ![9, 2048, 512]⟩
abbrev S9x2048x128 : Shape := ⟨3, ![9, 2048, 128]⟩
abbrev S9x8x64x2048 : Shape := ⟨4, ![9, 8, 64, 2048]⟩
abbrev S9x8x2048 : Shape := ⟨3, ![9, 8, 2048]⟩
abbrev S9x2x64x2048 : Shape := ⟨4, ![9, 2, 64, 2048]⟩
abbrev S9x2x2048 : Shape := ⟨3, ![9, 2, 2048]⟩
abbrev S1x2048x512 : Shape := ⟨3, ![1, 2048, 512]⟩
abbrev S1x2048x128 : Shape := ⟨3, ![1, 2048, 128]⟩
abbrev S1x8x64x2048 : Shape := ⟨4, ![1, 8, 64, 2048]⟩
abbrev S1x8x2048 : Shape := ⟨3, ![1, 8, 2048]⟩
abbrev S1x2x64x2048 : Shape := ⟨4, ![1, 2, 64, 2048]⟩
abbrev S1x2x2048 : Shape := ⟨3, ![1, 2, 2048]⟩
abbrev S2x2048x64 : Shape := ⟨3, ![2, 2048, 64]⟩
abbrev S2x2048x128 : Shape := ⟨3, ![2, 2048, 128]⟩
abbrev S2048x256 : Shape := ⟨2, ![2048, 256]⟩
abbrev S8x64x2048 : Shape := ⟨3, ![8, 64, 2048]⟩
abbrev S256x256 : Shape := ⟨2, ![256, 256]⟩
abbrev S2048x128 : Shape := ⟨2, ![2048, 128]⟩
abbrev S128x2048 : Shape := ⟨2, ![128, 2048]⟩
abbrev S8x2048 : Shape := ⟨2, ![8, 2048]⟩
abbrev S1x2048x64 : Shape := ⟨3, ![1, 2048, 64]⟩
abbrev S2048x64 : Shape := ⟨2, ![2048, 64]⟩
abbrev S64x2048 : Shape := ⟨2, ![64, 2048]⟩
abbrev S2048 : Shape := ⟨1, ![2048]⟩
abbrev S1x2048 : Shape := ⟨2, ![1, 2048]⟩
abbrev S256x1x2048 : Shape := ⟨3, ![256, 1, 2048]⟩
abbrev S1x1x2048 : Shape := ⟨3, ![1, 1, 2048]⟩
abbrev S1x1x64x2048 : Shape := ⟨4, ![1, 1, 64, 2048]⟩
abbrev S8x128 : Shape := ⟨2, ![8, 128]⟩
abbrev S1x1x64x256 : Shape := ⟨4, ![1, 1, 64, 256]⟩
abbrev S64x256 : Shape := ⟨2, ![64, 256]⟩
abbrev S1x1x256 : Shape := ⟨3, ![1, 1, 256]⟩
abbrev S1x256 : Shape := ⟨2, ![1, 256]⟩
abbrev S1x256x64 : Shape := ⟨3, ![1, 256, 64]⟩
abbrev S256x64 : Shape := ⟨2, ![256, 64]⟩
abbrev S1x256x128 : Shape := ⟨3, ![1, 256, 128]⟩
abbrev S256x128 : Shape := ⟨2, ![256, 128]⟩
abbrev S1x128 : Shape := ⟨2, ![1, 128]⟩
abbrev S256 : Shape := ⟨1, ![256]⟩
abbrev S8x256 : Shape := ⟨2, ![8, 256]⟩
abbrev S256x8x256 : Shape := ⟨3, ![256, 8, 256]⟩
abbrev S1x8x256 : Shape := ⟨3, ![1, 8, 256]⟩
abbrev S1x64x256 : Shape := ⟨3, ![1, 64, 256]⟩
abbrev S512x256 : Shape := ⟨2, ![512, 256]⟩
abbrev S1x1x64x512 : Shape := ⟨4, ![1, 1, 64, 512]⟩
abbrev S64x512 : Shape := ⟨2, ![64, 512]⟩
abbrev S768x256 : Shape := ⟨2, ![768, 256]⟩
abbrev S1x1x64x768 : Shape := ⟨4, ![1, 1, 64, 768]⟩
abbrev S64x768 : Shape := ⟨2, ![64, 768]⟩
abbrev S1024x256 : Shape := ⟨2, ![1024, 256]⟩
abbrev S1x1x64x1024 : Shape := ⟨4, ![1, 1, 64, 1024]⟩
abbrev S64x1024 : Shape := ⟨2, ![64, 1024]⟩
abbrev S1280x256 : Shape := ⟨2, ![1280, 256]⟩
abbrev S1x1x64x1280 : Shape := ⟨4, ![1, 1, 64, 1280]⟩
abbrev S64x1280 : Shape := ⟨2, ![64, 1280]⟩
abbrev S1536x256 : Shape := ⟨2, ![1536, 256]⟩
abbrev S1x1x64x1536 : Shape := ⟨4, ![1, 1, 64, 1536]⟩
abbrev S64x1536 : Shape := ⟨2, ![64, 1536]⟩
abbrev S1792x256 : Shape := ⟨2, ![1792, 256]⟩
abbrev S1x1x64x1792 : Shape := ⟨4, ![1, 1, 64, 1792]⟩
abbrev S64x1792 : Shape := ⟨2, ![64, 1792]⟩
abbrev S1x64x2048 : Shape := ⟨3, ![1, 64, 2048]⟩
abbrev S9x2048x8x64 : Shape := ⟨4, ![9, 2048, 8, 64]⟩
abbrev S9x2048x8 : Shape := ⟨3, ![9, 2048, 8]⟩
abbrev S9x2048x2x64 : Shape := ⟨4, ![9, 2048, 2, 64]⟩
abbrev S9x2048x2 : Shape := ⟨3, ![9, 2048, 2]⟩

abbrev nBuf : Space → Nat
  | .hbm => 16
  | .vmem => 29
  | .smem => 0
  | _ => 0

abbrev bufTy : (tb : Table) → Fin (tcTables nBuf tb) → BufTy
  | .hbm, ⟨0, _⟩ => ⟨S9x2048x512, .bf16⟩
  | .hbm, ⟨1, _⟩ => ⟨S9x2048x128, .bf16⟩
  | .hbm, ⟨2, _⟩ => ⟨S9x2048x128, .bf16⟩
  | .hbm, ⟨3, _⟩ => ⟨S9x2048x512, .bf16⟩
  | .hbm, ⟨4, _⟩ => ⟨S9x8x64x2048, .fp8e4m3⟩
  | .hbm, ⟨5, _⟩ => ⟨S9x8x2048, .f32⟩
  | .hbm, ⟨6, _⟩ => ⟨S9x2x64x2048, .fp8e4m3⟩
  | .hbm, ⟨7, _⟩ => ⟨S9x2x2048, .f32⟩
  | .hbm, ⟨8, _⟩ => ⟨S9x2x64x2048, .fp8e4m3⟩
  | .hbm, ⟨9, _⟩ => ⟨S9x2x2048, .f32⟩
  | .hbm, ⟨10, _⟩ => ⟨S9x2048x8x64, .fp8e4m3⟩
  | .hbm, ⟨11, _⟩ => ⟨S9x2048x8, .f32⟩
  | .hbm, ⟨12, _⟩ => ⟨S9x2048x2x64, .fp8e4m3⟩
  | .hbm, ⟨13, _⟩ => ⟨S9x2048x2, .f32⟩
  | .hbm, ⟨14, _⟩ => ⟨S9x2048x2x64, .fp8e4m3⟩
  | .hbm, ⟨15, _⟩ => ⟨S9x2048x2, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x8x64x2048, .fp8e4m3⟩
  | .local _ .vmem, ⟨9, _⟩ => ⟨S1x8x64x2048, .fp8e4m3⟩
  | .local _ .vmem, ⟨10, _⟩ => ⟨S1x8x2048, .f32⟩
  | .local _ .vmem, ⟨11, _⟩ => ⟨S1x8x2048, .f32⟩
  | .local _ .vmem, ⟨12, _⟩ => ⟨S1x2x64x2048, .fp8e4m3⟩
  | .local _ .vmem, ⟨13, _⟩ => ⟨S1x2x64x2048, .fp8e4m3⟩
  | .local _ .vmem, ⟨14, _⟩ => ⟨S1x2x2048, .f32⟩
  | .local _ .vmem, ⟨15, _⟩ => ⟨S1x2x2048, .f32⟩
  | .local _ .vmem, ⟨16, _⟩ => ⟨S1x2x64x2048, .fp8e4m3⟩
  | .local _ .vmem, ⟨17, _⟩ => ⟨S1x2x64x2048, .fp8e4m3⟩
  | .local _ .vmem, ⟨18, _⟩ => ⟨S1x2x2048, .f32⟩
  | .local _ .vmem, ⟨19, _⟩ => ⟨S1x2x2048, .f32⟩
  | .local _ .vmem, ⟨20, _⟩ => ⟨S2x2048x64, .fp8e4m3⟩
  | .local _ .vmem, ⟨21, _⟩ => ⟨S2x2048x128, .f32⟩
  | .local _ .vmem, ⟨22, _⟩ => ⟨S2x2048x128, .f32⟩
  | .local _ .vmem, ⟨23, _⟩ => ⟨S2x2048x128, .f32⟩
  | .local _ .vmem, ⟨24, _⟩ => ⟨S2x2048x128, .f32⟩
  | .local _ .vmem, ⟨25, _⟩ => ⟨S2048x256, .f32⟩
  | .local _ .vmem, ⟨26, _⟩ => ⟨S2048x256, .f32⟩
  | .local _ .vmem, ⟨27, _⟩ => ⟨S8x64x2048, .f32⟩
  | .local _ .vmem, ⟨28, _⟩ => ⟨S256x256, .f32⟩
  | _, _ => ⟨S9x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32_287 : BitVec 32 := 0#32
  let c8_i32 : BitVec 32 := 8#32
  let v632 : BitVec 32 := Scalar.addi c0_i32_287 c8_i32
  let c1_i32_288 : BitVec 32 := 1#32
  ⟨c0_i32_287, v632, c1_i32_288⟩
def k0_off1 (k0_t1 : Fin k0_t1_loop.trips) : Fin 4 → Nat :=
  let c0_335 : Index := 0#32
  let c0_i32_287 : BitVec 32 := 0#32
  let c1_i32_288 : BitVec 32 := 1#32
  let arg20 : BitVec 32 := Scf.iv c0_i32_287 c1_i32_288 k0_t1
  let v698 : Index := Scalar.indexCast arg20
  let c0_336 : Index := 0#32
  let c0_337 : Index := 0#32
  ![0, v698.toNat, 0, 0]
def k0_off2 (k0_t1 : Fin k0_t1_loop.trips) : Fin 3 → Nat :=
  let c0_338 : Index := 0#32
  let c0_i32_287 : BitVec 32 := 0#32
  let c1_i32_288 : BitVec 32 := 1#32
  let arg20 : BitVec 32 := Scf.iv c0_i32_287 c1_i32_288 k0_t1
  let v701 : Index := Scalar.indexCast arg20
  let c0_339 : Index := 0#32
  ![0, v701.toNat, 0]
def k0_off3 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v707 : Index := Scalar.indexCast v689
  let c0_342 : Index := 0#32
  let c0_343 : Index := 0#32
  ![v707.toNat, 0, 0]
def k0_off4 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v711 : Index := Scalar.indexCast v689
  let c0_345 : Index := 0#32
  let c0_346 : Index := 0#32
  ![v711.toNat, 0, 0]
def k0_off5 (k0_t1 : Fin k0_t1_loop.trips) : Fin 4 → Nat :=
  let c0_379 : Index := 0#32
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v794 : Index := Scalar.indexCast v689
  let c0_380 : Index := 0#32
  let c0_381 : Index := 0#32
  ![0, v794.toNat, 0, 0]
def k0_off6 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let v801 : Index := Scalar.indexCast arg20
  let c0_383 : Index := 0#32
  let c0_384 : Index := 0#32
  ![v801.toNat, 0, 0]
def k0_off7 (k0_t1 : Fin k0_t1_loop.trips) : Fin 4 → Nat :=
  let c0_385 : Index := 0#32
  let c0_i32_287 : BitVec 32 := 0#32
  let c1_i32_288 : BitVec 32 := 1#32
  let arg20 : BitVec 32 := Scf.iv c0_i32_287 c1_i32_288 k0_t1
  let v805 : Index := Scalar.indexCast arg20
  let c0_386 : Index := 0#32
  let c256_387 : Index := 256#32
  ![0, v805.toNat, 0, 256]
def k0_off8 (k0_t1 : Fin k0_t1_loop.trips) : Fin 3 → Nat :=
  let c0_388 : Index := 0#32
  let c0_i32_287 : BitVec 32 := 0#32
  let c1_i32_288 : BitVec 32 := 1#32
  let arg20 : BitVec 32 := Scf.iv c0_i32_287 c1_i32_288 k0_t1
  let v808 : Index := Scalar.indexCast arg20
  let c256_389 : Index := 256#32
  ![0, v808.toNat, 256]
def k0_off9 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v845 : Index := Scalar.indexCast v689
  let c256_405 : Index := 256#32
  let c0_406 : Index := 0#32
  ![v845.toNat, 256, 0]
def k0_off10 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v849 : Index := Scalar.indexCast v689
  let c256_408 : Index := 256#32
  let c0_409 : Index := 0#32
  ![v849.toNat, 256, 0]
def k0_off11 (k0_t1 : Fin k0_t1_loop.trips) : Fin 4 → Nat :=
  let c0_449 : Index := 0#32
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v947 : Index := Scalar.indexCast v689
  let c0_450 : Index := 0#32
  let c0_451 : Index := 0#32
  ![0, v947.toNat, 0, 0]
def k0_off12 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let v954 : Index := Scalar.indexCast arg20
  let c0_453 : Index := 0#32
  let c256_454 : Index := 256#32
  ![v954.toNat, 0, 256]
def k0_off13 (k0_t1 : Fin k0_t1_loop.trips) : Fin 4 → Nat :=
  let c0_455 : Index := 0#32
  let c0_i32_287 : BitVec 32 := 0#32
  let c1_i32_288 : BitVec 32 := 1#32
  let arg20 : BitVec 32 := Scf.iv c0_i32_287 c1_i32_288 k0_t1
  let v958 : Index := Scalar.indexCast arg20
  let c0_456 : Index := 0#32
  let c512 : Index := 512#32
  ![0, v958.toNat, 0, 512]
def k0_off14 (k0_t1 : Fin k0_t1_loop.trips) : Fin 3 → Nat :=
  let c0_457 : Index := 0#32
  let c0_i32_287 : BitVec 32 := 0#32
  let c1_i32_288 : BitVec 32 := 1#32
  let arg20 : BitVec 32 := Scf.iv c0_i32_287 c1_i32_288 k0_t1
  let v961 : Index := Scalar.indexCast arg20
  let c512_458 : Index := 512#32
  ![0, v961.toNat, 512]
def k0_off15 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1029 : Index := Scalar.indexCast v689
  let c512_487 : Index := 512#32
  let c0_488 : Index := 0#32
  ![v1029.toNat, 512, 0]
def k0_off16 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1033 : Index := Scalar.indexCast v689
  let c512_490 : Index := 512#32
  let c0_491 : Index := 0#32
  ![v1033.toNat, 512, 0]
def k0_off17 (k0_t1 : Fin k0_t1_loop.trips) : Fin 4 → Nat :=
  let c0_538 : Index := 0#32
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1146 : Index := Scalar.indexCast v689
  let c0_539 : Index := 0#32
  let c0_540 : Index := 0#32
  ![0, v1146.toNat, 0, 0]
def k0_off18 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let v1153 : Index := Scalar.indexCast arg20
  let c0_542 : Index := 0#32
  let c512_543 : Index := 512#32
  ![v1153.toNat, 0, 512]
def k0_off19 (k0_t1 : Fin k0_t1_loop.trips) : Fin 4 → Nat :=
  let c0_544 : Index := 0#32
  let c0_i32_287 : BitVec 32 := 0#32
  let c1_i32_288 : BitVec 32 := 1#32
  let arg20 : BitVec 32 := Scf.iv c0_i32_287 c1_i32_288 k0_t1
  let v1157 : Index := Scalar.indexCast arg20
  let c0_545 : Index := 0#32
  let c768 : Index := 768#32
  ![0, v1157.toNat, 0, 768]
def k0_off20 (k0_t1 : Fin k0_t1_loop.trips) : Fin 3 → Nat :=
  let c0_546 : Index := 0#32
  let c0_i32_287 : BitVec 32 := 0#32
  let c1_i32_288 : BitVec 32 := 1#32
  let arg20 : BitVec 32 := Scf.iv c0_i32_287 c1_i32_288 k0_t1
  let v1160 : Index := Scalar.indexCast arg20
  let c768_547 : Index := 768#32
  ![0, v1160.toNat, 768]
def k0_off21 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1259 : Index := Scalar.indexCast v689
  let c768_589 : Index := 768#32
  let c0_590 : Index := 0#32
  ![v1259.toNat, 768, 0]
def k0_off22 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1263 : Index := Scalar.indexCast v689
  let c768_592 : Index := 768#32
  let c0_593 : Index := 0#32
  ![v1263.toNat, 768, 0]
def k0_off23 (k0_t1 : Fin k0_t1_loop.trips) : Fin 4 → Nat :=
  let c0_647 : Index := 0#32
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1391 : Index := Scalar.indexCast v689
  let c0_648 : Index := 0#32
  let c0_649 : Index := 0#32
  ![0, v1391.toNat, 0, 0]
def k0_off24 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let v1398 : Index := Scalar.indexCast arg20
  let c0_651 : Index := 0#32
  let c768_652 : Index := 768#32
  ![v1398.toNat, 0, 768]
def k0_off25 (k0_t1 : Fin k0_t1_loop.trips) : Fin 4 → Nat :=
  let c0_653 : Index := 0#32
  let c0_i32_287 : BitVec 32 := 0#32
  let c1_i32_288 : BitVec 32 := 1#32
  let arg20 : BitVec 32 := Scf.iv c0_i32_287 c1_i32_288 k0_t1
  let v1402 : Index := Scalar.indexCast arg20
  let c0_654 : Index := 0#32
  let c1024 : Index := 1024#32
  ![0, v1402.toNat, 0, 1024]
def k0_off26 (k0_t1 : Fin k0_t1_loop.trips) : Fin 3 → Nat :=
  let c0_655 : Index := 0#32
  let c0_i32_287 : BitVec 32 := 0#32
  let c1_i32_288 : BitVec 32 := 1#32
  let arg20 : BitVec 32 := Scf.iv c0_i32_287 c1_i32_288 k0_t1
  let v1405 : Index := Scalar.indexCast arg20
  let c1024_656 : Index := 1024#32
  ![0, v1405.toNat, 1024]
def k0_off27 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1535 : Index := Scalar.indexCast v689
  let c1024_711 : Index := 1024#32
  let c0_712 : Index := 0#32
  ![v1535.toNat, 1024, 0]
def k0_off28 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1539 : Index := Scalar.indexCast v689
  let c1024_714 : Index := 1024#32
  let c0_715 : Index := 0#32
  ![v1539.toNat, 1024, 0]
def k0_off29 (k0_t1 : Fin k0_t1_loop.trips) : Fin 4 → Nat :=
  let c0_776 : Index := 0#32
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1682 : Index := Scalar.indexCast v689
  let c0_777 : Index := 0#32
  let c0_778 : Index := 0#32
  ![0, v1682.toNat, 0, 0]
def k0_off30 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let v1689 : Index := Scalar.indexCast arg20
  let c0_780 : Index := 0#32
  let c1024_781 : Index := 1024#32
  ![v1689.toNat, 0, 1024]
def k0_off31 (k0_t1 : Fin k0_t1_loop.trips) : Fin 4 → Nat :=
  let c0_782 : Index := 0#32
  let c0_i32_287 : BitVec 32 := 0#32
  let c1_i32_288 : BitVec 32 := 1#32
  let arg20 : BitVec 32 := Scf.iv c0_i32_287 c1_i32_288 k0_t1
  let v1693 : Index := Scalar.indexCast arg20
  let c0_783 : Index := 0#32
  let c1280 : Index := 1280#32
  ![0, v1693.toNat, 0, 1280]
def k0_off32 (k0_t1 : Fin k0_t1_loop.trips) : Fin 3 → Nat :=
  let c0_784 : Index := 0#32
  let c0_i32_287 : BitVec 32 := 0#32
  let c1_i32_288 : BitVec 32 := 1#32
  let arg20 : BitVec 32 := Scf.iv c0_i32_287 c1_i32_288 k0_t1
  let v1696 : Index := Scalar.indexCast arg20
  let c1280_785 : Index := 1280#32
  ![0, v1696.toNat, 1280]
def k0_off33 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1857 : Index := Scalar.indexCast v689
  let c1280_853 : Index := 1280#32
  let c0_854 : Index := 0#32
  ![v1857.toNat, 1280, 0]
def k0_off34 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v1861 : Index := Scalar.indexCast v689
  let c1280_856 : Index := 1280#32
  let c0_857 : Index := 0#32
  ![v1861.toNat, 1280, 0]
def k0_off35 (k0_t1 : Fin k0_t1_loop.trips) : Fin 4 → Nat :=
  let c0_925 : Index := 0#32
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v2019 : Index := Scalar.indexCast v689
  let c0_926 : Index := 0#32
  let c0_927 : Index := 0#32
  ![0, v2019.toNat, 0, 0]
def k0_off36 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let v2026 : Index := Scalar.indexCast arg20
  let c0_929 : Index := 0#32
  let c1280_930 : Index := 1280#32
  ![v2026.toNat, 0, 1280]
def k0_off37 (k0_t1 : Fin k0_t1_loop.trips) : Fin 4 → Nat :=
  let c0_931 : Index := 0#32
  let c0_i32_287 : BitVec 32 := 0#32
  let c1_i32_288 : BitVec 32 := 1#32
  let arg20 : BitVec 32 := Scf.iv c0_i32_287 c1_i32_288 k0_t1
  let v2030 : Index := Scalar.indexCast arg20
  let c0_932 : Index := 0#32
  let c1536 : Index := 1536#32
  ![0, v2030.toNat, 0, 1536]
def k0_off38 (k0_t1 : Fin k0_t1_loop.trips) : Fin 3 → Nat :=
  let c0_933 : Index := 0#32
  let c0_i32_287 : BitVec 32 := 0#32
  let c1_i32_288 : BitVec 32 := 1#32
  let arg20 : BitVec 32 := Scf.iv c0_i32_287 c1_i32_288 k0_t1
  let v2033 : Index := Scalar.indexCast arg20
  let c1536_934 : Index := 1536#32
  ![0, v2033.toNat, 1536]
def k0_off39 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v2225 : Index := Scalar.indexCast v689
  let c1536_1015 : Index := 1536#32
  let c0_1016 : Index := 0#32
  ![v2225.toNat, 1536, 0]
def k0_off40 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v2229 : Index := Scalar.indexCast v689
  let c1536_1018 : Index := 1536#32
  let c0_1019 : Index := 0#32
  ![v2229.toNat, 1536, 0]
def k0_off41 (k0_t1 : Fin k0_t1_loop.trips) : Fin 4 → Nat :=
  let c0_1094 : Index := 0#32
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v2402 : Index := Scalar.indexCast v689
  let c0_1095 : Index := 0#32
  let c0_1096 : Index := 0#32
  ![0, v2402.toNat, 0, 0]
def k0_off42 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let v2409 : Index := Scalar.indexCast arg20
  let c0_1098 : Index := 0#32
  let c1536_1099 : Index := 1536#32
  ![v2409.toNat, 0, 1536]
def k0_off43 (k0_t1 : Fin k0_t1_loop.trips) : Fin 4 → Nat :=
  let c0_1100 : Index := 0#32
  let c0_i32_287 : BitVec 32 := 0#32
  let c1_i32_288 : BitVec 32 := 1#32
  let arg20 : BitVec 32 := Scf.iv c0_i32_287 c1_i32_288 k0_t1
  let v2413 : Index := Scalar.indexCast arg20
  let c0_1101 : Index := 0#32
  let c1792 : Index := 1792#32
  ![0, v2413.toNat, 0, 1792]
def k0_off44 (k0_t1 : Fin k0_t1_loop.trips) : Fin 3 → Nat :=
  let c0_1102 : Index := 0#32
  let c0_i32_287 : BitVec 32 := 0#32
  let c1_i32_288 : BitVec 32 := 1#32
  let arg20 : BitVec 32 := Scf.iv c0_i32_287 c1_i32_288 k0_t1
  let v2416 : Index := Scalar.indexCast arg20
  let c1792_1103 : Index := 1792#32
  ![0, v2416.toNat, 1792]
def k0_off45 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v2639 : Index := Scalar.indexCast v689
  let c1792_1197 : Index := 1792#32
  let c0_1198 : Index := 0#32
  ![v2639.toNat, 1792, 0]
def k0_off46 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v2643 : Index := Scalar.indexCast v689
  let c1792_1200 : Index := 1792#32
  let c0_1201 : Index := 0#32
  ![v2643.toNat, 1792, 0]
def k0_off47 (k0_t1 : Fin k0_t1_loop.trips) : Fin 4 → Nat :=
  let c0_1283 : Index := 0#32
  let c0_i32_287 : BitVec 32 := 0#32
  let c1_i32_288 : BitVec 32 := 1#32
  let arg20 : BitVec 32 := Scf.iv c0_i32_287 c1_i32_288 k0_t1
  let c0_i32_326 : BitVec 32 := 0#32
  let v674 : BitVec 1 := Scalar.cmpi .sgt arg20 c0_i32_326
  let v675 : BitVec 32 := Scalar.extui v674
  let c0_i32_327 : BitVec 32 := 0#32
  let v676 : BitVec 1 := Scalar.cmpi .slt arg20 c0_i32_327
  let v677 : BitVec 32 := Scalar.extui v676
  let v678 : BitVec 32 := Scalar.subi v675 v677
  let c4_i32 : BitVec 32 := 4#32
  let c0_i32_328 : BitVec 32 := 0#32
  let v679 : BitVec 1 := Scalar.cmpi .sgt c4_i32 c0_i32_328
  let v680 : BitVec 32 := Scalar.extui v679
  let c0_i32_329 : BitVec 32 := 0#32
  let v681 : BitVec 1 := Scalar.cmpi .slt c4_i32 c0_i32_329
  let v682 : BitVec 32 := Scalar.extui v681
  let v683 : BitVec 32 := Scalar.subi v680 v682
  let v684 : BitVec 1 := Scalar.cmpi .ne v678 v683
  let v685 : BitVec 32 := Scalar.remsi arg20 c4_i32
  let c0_i32_330 : BitVec 32 := 0#32
  let v686 : BitVec 1 := Scalar.cmpi .ne v685 c0_i32_330
  let v687 : BitVec 1 := Scalar.andi v684 v686
  let v673 : BitVec 32 := Scalar.divsi arg20 c4_i32
  let c1_i32_331 : BitVec 32 := 1#32
  let v688 : BitVec 32 := Scalar.subi v673 c1_i32_331
  let v689 : BitVec 32 := Scalar.select v687 v688 v673
  let v2831 : Index := Scalar.indexCast v689
  let c0_1284 : Index := 0#32
  let c0_1285 : Index := 0#32
  ![0, v2831.toNat, 0, 0]
def k0_off48 (k0_t1 : Fin k0_t1_loop.trips) : Fin 3 → Nat :=
  let c0_i32_287 : BitVec 32 := 0#32
  let c1_i32_288 : BitVec 32 := 1#32
  let arg20 : BitVec 32 := Scf.iv c0_i32_287 c1_i32_288 k0_t1
  let v2838 : Index := Scalar.indexCast arg20
  let c0_1287 : Index := 0#32
  let c1792_1288 : Index := 1792#32
  ![v2838.toNat, 0, 1792]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x64x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x64x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "log2_e" => some (((Real.log 2)⁻¹ : ℝ) : EReal)
  | "log2_e_over_8" => some (((Real.log 2)⁻¹ * 8⁻¹ : ℝ) : EReal)
  | _ => none
-- ==== ReferenceIdeal.lean ====
abbrev S9x2048x512 : Shape := ⟨3, ![9, 2048, 512]⟩
abbrev S9x2048x128 : Shape := ⟨3, ![9, 2048, 128]⟩
abbrev S9x2048x8x64 : Shape := ⟨4, ![9, 2048, 8, 64]⟩
abbrev S_ : Shape := ⟨0, ![]⟩
abbrev S9x2048x8 : Shape := ⟨3, ![9, 2048, 8]⟩
abbrev S9x2048x8x1 : Shape := ⟨4, ![9, 2048, 8, 1]⟩
abbrev S254 : Shape := ⟨1, ![254]⟩
abbrev S1x1x1x254 : Shape := ⟨4, ![1, 1, 1, 254]⟩
abbrev S9x2048x8x254 : Shape := ⟨4, ![9, 2048, 8, 254]⟩
abbrev S9x2048x2x64 : Shape := ⟨4, ![9, 2048, 2, 64]⟩
abbrev S9x2048x2 : Shape := ⟨3, ![9, 2048, 2]⟩
abbrev S9x2048x2x1 : Shape := ⟨4, ![9, 2048, 2, 1]⟩
abbrev S9x2048x2x254 : Shape := ⟨4, ![9, 2048, 2, 254]⟩
abbrev S8 : Shape := ⟨1, ![8]⟩
abbrev S2x4 : Shape := ⟨2, ![2, 4]⟩
abbrev S9x2048x2x4x64 : Shape := ⟨5, ![9, 2048, 2, 4, 64]⟩
abbrev S9x2x4x2048x64 : Shape := ⟨5, ![9, 2, 4, 2048, 64]⟩
abbrev S9x2048x2x4 : Shape := ⟨4, ![9, 2048, 2, 4]⟩
abbrev S9x2x4x2048 : Shape := ⟨4, ![9, 2, 4, 2048]⟩
abbrev S9x2x2048x64 : Shape := ⟨4, ![9, 2, 2048, 64]⟩
abbrev S9x2x2048 : Shape := ⟨3, ![9, 2, 2048]⟩
abbrev S9x2x1x1x2048 : Shape := ⟨5, ![9, 2, 1, 1, 2048]⟩
abbrev S9x2x4x2048x2048 : Shape := ⟨5, ![9, 2, 4, 2048, 2048]⟩
abbrev S9x2x4x2048x1 : Shape := ⟨5, ![9, 2, 4, 2048, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2x4x1x1 : Shape := ⟨5, ![1, 2, 4, 1, 1]⟩
abbrev S1x1x1x2048x2048 : Shape := ⟨5, ![1, 1, 1, 2048, 2048]⟩
abbrev S1x2x4x2048x2048 : Shape := ⟨5, ![1, 2, 4, 2048, 2048]⟩
abbrev S1x1x1x1x254 : Shape := ⟨5, ![1, 1, 1, 1, 254]⟩
abbrev S9x2x4x2048x254 : Shape := ⟨5, ![9, 2, 4, 2048, 254]⟩

abbrev nBuf : Space → Nat
  | .hbm => 265
  | .vmem => 0
  | .smem => 0
  | _ => 0

abbrev hbmTy0_0 (i : Nat) : BufTy := match i % 128 with
  | 0 => ⟨S9x2048x512, .bf16⟩
  | 1 => ⟨S9x2048x128, .bf16⟩
  | 2 => ⟨S9x2048x128, .bf16⟩
  | 3 => ⟨S9x2048x512, .f32⟩
  | 4 => ⟨S9x2048x8x64, .f32⟩
  | 5 => ⟨S9x2048x8x64, .f32⟩
  | 6 => ⟨S_, .f32⟩
  | 7 => ⟨S9x2048x8, .f32⟩
  | 8 => ⟨S9x2048x8x1, .f32⟩
  | 9 => ⟨S_, .f32⟩
  | 10 => ⟨S254, .f32⟩
  | 11 => ⟨S254, .i32⟩
  | 12 => ⟨S_, .i32⟩
  | 13 => ⟨S254, .i32⟩
  | 14 => ⟨S254, .i32⟩
  | 15 => ⟨S254, .f32⟩
  | 16 => ⟨S254, .f32⟩
  | 17 => ⟨S_, .f32⟩
  | 18 => ⟨S9x2048x8x1, .f32⟩
  | 19 => ⟨S9x2048x8x1, .f32⟩
  | 20 => ⟨S1x1x1x254, .f32⟩
  | 21 => ⟨S9x2048x8x254, .f32⟩
  | 22 => ⟨S9x2048x8x254, .f32⟩
  | 23 => ⟨S9x2048x8x254, .i1⟩
  | 24 => ⟨S_, .f32⟩
  | 25 => ⟨S_, .f32⟩
  | 26 => ⟨S9x2048x8x254, .f32⟩
  | 27 => ⟨S9x2048x8x254, .f32⟩
  | 28 => ⟨S9x2048x8x254, .f32⟩
  | 29 => ⟨S_, .f32⟩
  | 30 => ⟨S9x2048x8, .f32⟩
  | 31 => ⟨S9x2048x8x1, .f32⟩
  | 32 => ⟨S_, .f32⟩
  | 33 => ⟨S9x2048x8x1, .f32⟩
  | 34 => ⟨S9x2048x8x1, .i1⟩
  | 35 => ⟨S_, .f32⟩
  | 36 => ⟨S_, .f32⟩
  | 37 => ⟨S9x2048x8x1, .f32⟩
  | 38 => ⟨S9x2048x8x1, .f32⟩
  | 39 => ⟨S9x2048x8x64, .f32⟩
  | 40 => ⟨S9x2048x8x64, .f32⟩
  | 41 => ⟨S_, .f32⟩
  | 42 => ⟨S_, .f32⟩
  | 43 => ⟨S_, .f32⟩
  | 44 => ⟨S9x2048x8x64, .f32⟩
  | 45 => ⟨S9x2048x8x64, .f32⟩
  | 46 => ⟨S_, .f32⟩
  | 47 => ⟨S9x2048x8x64, .f32⟩
  | 48 => ⟨S9x2048x8x64, .f32⟩
  | 49 => ⟨S9x2048x8, .f32⟩
  | 50 => ⟨S9x2048x128, .f32⟩
  | 51 => ⟨S9x2048x2x64, .f32⟩
  | 52 => ⟨S9x2048x2x64, .f32⟩
  | 53 => ⟨S_, .f32⟩
  | 54 => ⟨S9x2048x2, .f32⟩
  | 55 => ⟨S9x2048x2x1, .f32⟩
  | 56 => ⟨S_, .f32⟩
  | 57 => ⟨S254, .f32⟩
  | 58 => ⟨S254, .i32⟩
  | 59 => ⟨S_, .i32⟩
  | 60 => ⟨S254, .i32⟩
  | 61 => ⟨S254, .i32⟩
  | 62 => ⟨S254, .f32⟩
  | 63 => ⟨S254, .f32⟩
  | 64 => ⟨S_, .f32⟩
  | 65 => ⟨S9x2048x2x1, .f32⟩
  | 66 => ⟨S9x2048x2x1, .f32⟩
  | 67 => ⟨S1x1x1x254, .f32⟩
  | 68 => ⟨S9x2048x2x254, .f32⟩
  | 69 => ⟨S9x2048x2x254, .f32⟩
  | 70 => ⟨S9x2048x2x254, .i1⟩
  | 71 => ⟨S_, .f32⟩
  | 72 => ⟨S_, .f32⟩
  | 73 => ⟨S9x2048x2x254, .f32⟩
  | 74 => ⟨S9x2048x2x254, .f32⟩
  | 75 => ⟨S9x2048x2x254, .f32⟩
  | 76 => ⟨S_, .f32⟩
  | 77 => ⟨S9x2048x2, .f32⟩
  | 78 => ⟨S9x2048x2x1, .f32⟩
  | 79 => ⟨S_, .f32⟩
  | 80 => ⟨S9x2048x2x1, .f32⟩
  | 81 => ⟨S9x2048x2x1, .i1⟩
  | 82 => ⟨S_, .f32⟩
  | 83 => ⟨S_, .f32⟩
  | 84 => ⟨S9x2048x2x1, .f32⟩
  | 85 => ⟨S9x2048x2x1, .f32⟩
  | 86 => ⟨S9x2048x2x64, .f32⟩
  | 87 => ⟨S9x2048x2x64, .f32⟩
  | 88 => ⟨S_, .f32⟩
  | 89 => ⟨S_, .f32⟩
  | 90 => ⟨S_, .f32⟩
  | 91 => ⟨S9x2048x2x64, .f32⟩
  | 92 => ⟨S9x2048x2x64, .f32⟩
  | 93 => ⟨S_, .f32⟩
  | 94 => ⟨S9x2048x2x64, .f32⟩
  | 95 => ⟨S9x2048x2x64, .f32⟩
  | 96 => ⟨S9x2048x2, .f32⟩
  | 97 => ⟨S9x2048x128, .f32⟩
  | 98 => ⟨S9x2048x2x64, .f32⟩
  | 99 => ⟨S9x2048x2x64, .f32⟩
  | 100 => ⟨S_, .f32⟩
  | 101 => ⟨S9x2048x2, .f32⟩
  | 102 => ⟨S9x2048x2x1, .f32⟩
  | 103 => ⟨S_, .f32⟩
  | 104 => ⟨S254, .f32⟩
  | 105 => ⟨S254, .i32⟩
  | 106 => ⟨S_, .i32⟩
  | 107 => ⟨S254, .i32⟩
  | 108 => ⟨S254, .i32⟩
  | 109 => ⟨S254, .f32⟩
  | 110 => ⟨S254, .f32⟩
  | 111 => ⟨S_, .f32⟩
  | 112 => ⟨S9x2048x2x1, .f32⟩
  | 113 => ⟨S9x2048x2x1, .f32⟩
  | 114 => ⟨S1x1x1x254, .f32⟩
  | 115 => ⟨S9x2048x2x254, .f32⟩
  | 116 => ⟨S9x2048x2x254, .f32⟩
  | 117 => ⟨S9x2048x2x254, .i1⟩
  | 118 => ⟨S_, .f32⟩
  | 119 => ⟨S_, .f32⟩
  | 120 => ⟨S9x2048x2x254, .f32⟩
  | 121 => ⟨S9x2048x2x254, .f32⟩
  | 122 => ⟨S9x2048x2x254, .f32⟩
  | 123 => ⟨S_, .f32⟩
  | 124 => ⟨S9x2048x2, .f32⟩
  | 125 => ⟨S9x2048x2x1, .f32⟩
  | 126 => ⟨S_, .f32⟩
  | 127 => ⟨S9x2048x2x1, .f32⟩
  | _ => ⟨S9x2048x512, .bf16⟩

abbrev hbmTy0_1 (i : Nat) : BufTy := match i % 128 with
  | 0 => ⟨S9x2048x2x1, .i1⟩
  | 1 => ⟨S_, .f32⟩
  | 2 => ⟨S_, .f32⟩
  | 3 => ⟨S9x2048x2x1, .f32⟩
  | 4 => ⟨S9x2048x2x1, .f32⟩
  | 5 => ⟨S9x2048x2x64, .f32⟩
  | 6 => ⟨S9x2048x2x64, .f32⟩
  | 7 => ⟨S_, .f32⟩
  | 8 => ⟨S_, .f32⟩
  | 9 => ⟨S_, .f32⟩
  | 10 => ⟨S9x2048x2x64, .f32⟩
  | 11 => ⟨S9x2048x2x64, .f32⟩
  | 12 => ⟨S_, .f32⟩
  | 13 => ⟨S9x2048x2x64, .f32⟩
  | 14 => ⟨S9x2048x2x64, .f32⟩
  | 15 => ⟨S9x2048x2, .f32⟩
  | 16 => ⟨S_, .f32⟩
  | 17 => ⟨S8, .f32⟩
  | 18 => ⟨S8, .i32⟩
  | 19 => ⟨S8, .f32⟩
  | 20 => ⟨S_, .f32⟩
  | 21 => ⟨S8, .f32⟩
  | 22 => ⟨S8, .f32⟩
  | 23 => ⟨S8, .f32⟩
  | 24 => ⟨S8, .f32⟩
  | 25 => ⟨S2x4, .f32⟩
  | 26 => ⟨S9x2048x2x4x64, .f32⟩
  | 27 => ⟨S9x2x4x2048x64, .f32⟩
  | 28 => ⟨S9x2048x2x4, .f32⟩
  | 29 => ⟨S9x2x4x2048, .f32⟩
  | 30 => ⟨S9x2x2048x64, .f32⟩
  | 31 => ⟨S9x2x2048x64, .f32⟩
  | 32 => ⟨S9x2x2048, .f32⟩
  | 33 => ⟨S9x2x1x1x2048, .f32⟩
  | 34 => ⟨S9x2x2048, .f32⟩
  | 35 => ⟨S9x2x1x1x2048, .f32⟩
  | 36 => ⟨S9x2x4x2048x2048, .f32⟩
  | 37 => ⟨S9x2x4x2048x1, .f32⟩
  | 38 => ⟨S_, .f32⟩
  | 39 => ⟨S9x2x4x2048x1, .f32⟩
  | 40 => ⟨S9x2x4x2048x1, .f32⟩
  | 41 => ⟨S9x2x4x2048x2048, .f32⟩
  | 42 => ⟨S9x2x4x2048x2048, .f32⟩
  | 43 => ⟨S9x2x4x2048x2048, .f32⟩
  | 44 => ⟨S9x2x4x2048x2048, .f32⟩
  | 45 => ⟨S2048, .i32⟩
  | 46 => ⟨S2048x1, .i32⟩
  | 47 => ⟨S1x2048, .i32⟩
  | 48 => ⟨S2048x2048, .i32⟩
  | 49 => ⟨S2048x2048, .i32⟩
  | 50 => ⟨S2048x2048, .i32⟩
  | 51 => ⟨S2048x2048, .f32⟩
  | 52 => ⟨S1x2x4x1x1, .f32⟩
  | 53 => ⟨S1x1x1x2048x2048, .f32⟩
  | 54 => ⟨S1x2x4x2048x2048, .f32⟩
  | 55 => ⟨S1x2x4x2048x2048, .f32⟩
  | 56 => ⟨S1x2x4x2048x2048, .f32⟩
  | 57 => ⟨S9x2x4x2048x2048, .f32⟩
  | 58 => ⟨S9x2x4x2048x2048, .f32⟩
  | 59 => ⟨S1x2048, .i32⟩
  | 60 => ⟨S2048x1, .i32⟩
  | 61 => ⟨S2048x2048, .i32⟩
  | 62 => ⟨S2048x2048, .i32⟩
  | 63 => ⟨S2048x2048, .i1⟩
  | 64 => ⟨S_, .f32⟩
  | 65 => ⟨S_, .f32⟩
  | 66 => ⟨S9x2x4x2048x2048, .i1⟩
  | 67 => ⟨S9x2x4x2048x2048, .f32⟩
  | 68 => ⟨S9x2x4x2048x2048, .f32⟩
  | 69 => ⟨S_, .f32⟩
  | 70 => ⟨S9x2x4x2048, .f32⟩
  | 71 => ⟨S9x2x4x2048x1, .f32⟩
  | 72 => ⟨S9x2x4x2048x2048, .f32⟩
  | 73 => ⟨S9x2x4x2048x2048, .f32⟩
  | 74 => ⟨S9x2x4x2048x2048, .f32⟩
  | 75 => ⟨S_, .f32⟩
  | 76 => ⟨S9x2x4x2048, .f32⟩
  | 77 => ⟨S9x2x4x2048x1, .f32⟩
  | 78 => ⟨S9x2x4x2048x2048, .f32⟩
  | 79 => ⟨S9x2x4x2048x2048, .f32⟩
  | 80 => ⟨S9x2x4x2048x2048, .f32⟩
  | 81 => ⟨S9x2x4x2048x2048, .f32⟩
  | 82 => ⟨S9x2x4x2048x2048, .f32⟩
  | 83 => ⟨S_, .f32⟩
  | 84 => ⟨S9x2x4x2048, .f32⟩
  | 85 => ⟨S9x2x4x2048x1, .f32⟩
  | 86 => ⟨S_, .f32⟩
  | 87 => ⟨S254, .f32⟩
  | 88 => ⟨S254, .i32⟩
  | 89 => ⟨S_, .i32⟩
  | 90 => ⟨S254, .i32⟩
  | 91 => ⟨S254, .i32⟩
  | 92 => ⟨S254, .f32⟩
  | 93 => ⟨S254, .f32⟩
  | 94 => ⟨S_, .f32⟩
  | 95 => ⟨S9x2x4x2048x1, .f32⟩
  | 96 => ⟨S9x2x4x2048x1, .f32⟩
  | 97 => ⟨S1x1x1x1x254, .f32⟩
  | 98 => ⟨S9x2x4x2048x254, .f32⟩
  | 99 => ⟨S9x2x4x2048x254, .f32⟩
  | 100 => ⟨S9x2x4x2048x254, .i1⟩
  | 101 => ⟨S_, .f32⟩
  | 102 => ⟨S_, .f32⟩
  | 103 => ⟨S9x2x4x2048x254, .f32⟩
  | 104 => ⟨S9x2x4x2048x254, .f32⟩
  | 105 => ⟨S9x2x4x2048x254, .f32⟩
  | 106 => ⟨S_, .f32⟩
  | 107 => ⟨S9x2x4x2048, .f32⟩
  | 108 => ⟨S9x2x4x2048x1, .f32⟩
  | 109 => ⟨S_, .f32⟩
  | 110 => ⟨S9x2x4x2048x1, .f32⟩
  | 111 => ⟨S9x2x4x2048x1, .i1⟩
  | 112 => ⟨S_, .f32⟩
  | 113 => ⟨S_, .f32⟩
  | 114 => ⟨S9x2x4x2048x1, .f32⟩
  | 115 => ⟨S9x2x4x2048x1, .f32⟩
  | 116 => ⟨S9x2x4x2048x2048, .f32⟩
  | 117 => ⟨S9x2x4x2048x2048, .f32⟩
  | 118 => ⟨S_, .f32⟩
  | 119 => ⟨S_, .f32⟩
  | 120 => ⟨S_, .f32⟩
  | 121 => ⟨S9x2x4x2048x2048, .f32⟩
  | 122 => ⟨S9x2x4x2048x2048, .f32⟩
  | 123 => ⟨S_, .f32⟩
  | 124 => ⟨S9x2x4x2048x2048, .f32⟩
  | 125 => ⟨S9x2x4x2048x2048, .f32⟩
  | 126 => ⟨S9x2x4x2048, .f32⟩
  | 127 => ⟨S9x2x4x2048x64, .f32⟩
  | _ => ⟨S9x2048x512, .bf16⟩

abbrev hbmTy0_2 (i : Nat) : BufTy := match i % 128 with
  | 0 => ⟨S9x2x4x2048x1, .f32⟩
  | 1 => ⟨S9x2x4x2048x64, .f32⟩
  | 2 => ⟨S9x2x4x2048x64, .f32⟩
  | 3 => ⟨S9x2x4x2048x64, .bf16⟩
  | 4 => ⟨S9x2048x2x4x64, .bf16⟩
  | 5 => ⟨S9x2048x512, .bf16⟩
  | 6 => ⟨S9x2048x8x64, .fp8e4m3⟩
  | 7 => ⟨S9x2048x2x64, .fp8e4m3⟩
  | 8 => ⟨S9x2048x2x64, .fp8e4m3⟩
  | _ => ⟨S9x2048x512, .bf16⟩

abbrev hbmTy (i : Nat) : BufTy := match i / 128 with
  | 0 => hbmTy0_0 i
  | 1 => hbmTy0_1 i
  | 2 => hbmTy0_2 i
  | _ => ⟨S9x2048x512, .bf16⟩

abbrev bufTy : (tb : Table) → Fin (tcTables nBuf tb) → BufTy
  | .hbm, ⟨i, _⟩ => hbmTy i
  | _, _ => ⟨S9x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_c_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v44 : Ref sig .tc := ⟨.hbm, 75, rfl⟩
abbrev main_cst_13 : Ref sig .tc := ⟨.hbm, 76, rfl⟩
abbrev main_v45 : Ref sig .tc := ⟨.hbm, 77, rfl⟩
abbrev main_v46 : Ref sig .tc := ⟨.hbm, 78, rfl⟩
abbrev main_cst_14 : Ref sig .tc := ⟨.hbm, 79, rfl⟩
abbrev main_v47 : Ref sig .tc := ⟨.hbm, 80, rfl⟩
abbrev main_v48 : Ref sig .tc := ⟨.hbm, 81, rfl⟩
abbrev main_cst_15 : Ref sig .tc := ⟨.hbm, 82, rfl⟩
abbrev main_call4_v0 : Ref sig .tc := ⟨.hbm, 83, rfl⟩
abbrev main_call4_v1 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_16 : Ref sig .tc := ⟨.hbm, 88, rfl⟩
abbrev main_cst_17 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_18 : Ref sig .tc := ⟨.hbm, 100, rfl⟩
abbrev main_v57 : Ref sig .tc := ⟨.hbm, 101, rfl⟩
abbrev main_v58 : Ref sig .tc := ⟨.hbm, 102, rfl⟩
abbrev main_cst_19 : Ref sig .tc := ⟨.hbm, 103, rfl⟩
abbrev main_v59 : Ref sig .tc := ⟨.hbm, 104, rfl⟩
abbrev main_v60 : Ref sig .tc := ⟨.hbm, 105, rfl⟩
abbrev main_c_20 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_21 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_22 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v71 : Ref sig .tc := ⟨.hbm, 122, rfl⟩
abbrev main_cst_23 : Ref sig .tc := ⟨.hbm, 123, rfl⟩
abbrev main_v72 : Ref sig .tc := ⟨.hbm, 124, rfl⟩
abbrev main_v73 : Ref sig .tc := ⟨.hbm, 125, rfl⟩
abbrev main_cst_24 : Ref sig .tc := ⟨.hbm, 126, rfl⟩
abbrev main_v74 : Ref sig .tc := ⟨.hbm, 127, rfl⟩
abbrev main_v75 : Ref sig .tc := ⟨.hbm, 128, rfl⟩
abbrev main_cst_25 : Ref sig .tc := ⟨.hbm, 129, rfl⟩
abbrev main_call7_v0 : Ref sig .tc := ⟨.hbm, 130, rfl⟩
abbrev main_call7_v1 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_26 : Ref sig .tc := ⟨.hbm, 135, rfl⟩
abbrev main_cst_27 : Ref sig .tc := ⟨.hbm, 136, rfl⟩
abbrev main_call8_v0 : Ref sig .tc := ⟨.hbm, 137, rfl⟩
abbrev main_call8_v1 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_v79 : Ref sig .tc := ⟨.hbm, 142, rfl⟩
abbrev main_v80 : Ref sig .tc := ⟨.hbm, 143, rfl⟩
abbrev main_cst_28 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_29 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_30 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_31 : Ref sig .tc := ⟨.hbm, 192, rfl⟩
abbrev main_call9_v0 : Ref sig .tc := ⟨.hbm, 193, rfl⟩
abbrev main_call9_v1 : Ref sig .tc := ⟨.hbm, 194, rfl⟩
abbrev main_call9_v2 : Ref sig .tc := ⟨.hbm, 195, rfl⟩
abbrev main_v126 : Ref sig .tc := ⟨.hbm, 196, rfl⟩
abbrev main_cst_32 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_cst_33 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_cst_34 : Ref sig .tc := ⟨.hbm, 211, rfl⟩
abbrev main_v139 : Ref sig .tc := ⟨.hbm, 212, rfl⟩
abbrev main_v140 : Ref sig .tc := ⟨.hbm, 213, rfl⟩
abbrev main_cst_35 : Ref sig .tc := ⟨.hbm, 214, rfl⟩
abbrev main_v141 : Ref sig .tc := ⟨.hbm, 215, rfl⟩
abbrev main_v142 : Ref sig .tc := ⟨.hbm, 216, rfl⟩
abbrev main_c_36 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_cst_37 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_cst_38 : Ref sig .tc := ⟨.hbm, 229, rfl⟩
abbrev main_call10_v0 : Ref sig .tc := ⟨.hbm, 230, rfl⟩
abbrev main_call10_v1 : Ref sig .tc := ⟨.hbm, 231, rfl⟩
abbrev main_call10_v2 : Ref sig .tc := ⟨.hbm, 232, rfl⟩
abbrev main_v153 : Ref sig .tc := ⟨.hbm, 233, rfl⟩
abbrev main_cst_39 : Ref sig .tc := ⟨.hbm, 234, rfl⟩
abbrev main_v154 : Ref sig .tc := ⟨.hbm, 235, rfl⟩
abbrev main_v155 : Ref sig .tc := ⟨.hbm, 236, rfl⟩
abbrev main_cst_40 : Ref sig .tc := ⟨.hbm, 237, rfl⟩
abbrev main_v156 : Ref sig .tc := ⟨.hbm, 238, rfl⟩
abbrev main_v157 : Ref sig .tc := ⟨.hbm, 239, rfl⟩
abbrev main_cst_41 : Ref sig .tc := ⟨.hbm, 240, rfl⟩
abbrev main_call11_v0 : Ref sig .tc := ⟨.hbm, 241, rfl⟩
abbrev main_call11_v1 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_cst_42 : Ref sig .tc := ⟨.hbm, 246, rfl⟩
abbrev main_cst_43 : Ref sig .tc := ⟨.hbm, 247, rfl⟩
abbrev main_call12_v0 : Ref sig .tc := ⟨.hbm, 248, rfl⟩
abbrev main_call12_v1 : Ref sig .tc := ⟨.hbm, 249, rfl⟩
abbrev main_call12_v2 : Ref sig .tc := ⟨.hbm, 250, rfl⟩
abbrev main_call12_v3 : Ref sig .tc := ⟨.hbm, 251, rfl⟩
abbrev main_call12_v4 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩

abbrev nD : Nat := 1
abbrev τ : Topo := Topo.v7x

variable {F : FTy → Type} [FloatOps F]
-- ==== Proof.Cmd.lean ====
/- The straight-line language the kernel's body is restated in: a command loads a rectangle of one of nineteen
   buffers, stores one, or ends with a value. `run` gives a command's effect on the buffers' contents as a function;
   `toProg` gives the program of the machine's own loads and stores through a family of memory references. -/
module

public import Idealize.ShloMosaic.Lib.Pipeline
public import Idealize.ShloMosaic.Lib.Scf
public import Idealize.ShloMosaic.Lib.Memref
public import Idealize.ShloMosaic.PureOps

@[expose] public section

noncomputable section

namespace Cert.Attn

open Idealize.ShloMosaic Idealize.SL.Sem

/-- The kernel's buffers: its three inputs, its seven results and its nine scratch arrays. -/
inductive B where
  | x | k | v | out | qc | qs | kc | ks | vc | vs | km | iv | cs | bk | ev | u | w | ot | mk
deriving DecidableEq

/-- A buffer's shape. -/
abbrev B.shape : B → Shape
  | .x => ⟨3, ![1, 2048, 512]⟩
  | .k => ⟨3, ![1, 2048, 128]⟩
  | .v => ⟨3, ![1, 2048, 128]⟩
  | .out => ⟨3, ![1, 2048, 512]⟩
  | .qc => ⟨4, ![1, 8, 64, 2048]⟩
  | .qs => ⟨3, ![1, 8, 2048]⟩
  | .kc => ⟨4, ![1, 2, 64, 2048]⟩
  | .ks => ⟨3, ![1, 2, 2048]⟩
  | .vc => ⟨4, ![1, 2, 64, 2048]⟩
  | .vs => ⟨3, ![1, 2, 2048]⟩
  | .km => ⟨3, ![2, 2048, 64]⟩
  | .iv => ⟨3, ![2, 2048, 128]⟩
  | .cs => ⟨3, ![2, 2048, 128]⟩
  | .bk => ⟨3, ![2, 2048, 128]⟩
  | .ev => ⟨3, ![2, 2048, 128]⟩
  | .u => ⟨2, ![2048, 256]⟩
  | .w => ⟨2, ![2048, 256]⟩
  | .ot => ⟨3, ![8, 64, 2048]⟩
  | .mk => ⟨2, ![256, 256]⟩

/-- A buffer's element type. -/
abbrev B.elt : B → EltTy
  | .x => .bf16
  | .k => .bf16
  | .v => .bf16
  | .out => .bf16
  | .qc => .fp8e4m3
  | .kc => .fp8e4m3
  | .vc => .fp8e4m3
  | .km => .fp8e4m3
  | _ => .f32

variable {F : FTy → Type}

/-- A store the hardware makes exactly: of 32-bit elements, or of rows that are whole words. -/
def StoreOk (b : B) (r : Rect b.shape) : Prop := b.elt.bits = 32 ∨ r.PackedRows b.elt.packing

/-- A straight-line command that ends with a value of type `α`. -/
inductive Cmd (F : FTy → Type) : Type → Type 1 where
  | ret {α : Type} (a : α) : Cmd F α
  | load {α : Type} (b : B) (r : Rect b.shape) (hn : 0 < r.shape.numel)
      (k : (r.shape.Idx → Elt F b.elt) → Cmd F α) : Cmd F α
  | store {α : Type} (b : B) (r : Rect b.shape) (w : r.shape.Idx → Elt F b.elt) (hn : 0 < r.shape.numel)
      (ho : StoreOk b r) (k : PUnit.{1} → Cmd F α) : Cmd F α

namespace Cmd

variable {α β : Type}

/-- One command after another. -/
protected def bind : Cmd F α → (α → Cmd F β) → Cmd F β
  | .ret a, f => f a
  | .load b r hn k, f => .load b r hn fun z => (k z).bind f
  | .store b r w hn ho k, f => .store b r w hn ho fun z => (k z).bind f

instance : Monad (Cmd F) where
  pure := .ret
  bind := Cmd.bind

end Cmd

/-- The contents of every buffer. -/
abbrev St (F : FTy → Type) : Type := (b : B) → b.shape.Idx → Elt F b.elt

/-- A load of the box of the given sizes at the given offsets. -/
abbrev ld (b : B) (off size : Fin b.shape.rank → Nat) (inb : ∀ a, off a + size a ≤ b.shape.size a)
    (hn : 0 < (⟨b.shape.rank, size⟩ : Shape).numel) : Cmd F (Vec F ⟨b.shape.rank, size⟩ b.elt) :=
  .load b (Rect.unit (s := b.shape) off size inb) hn .ret

/-- A store of the box of the given sizes at the given offsets. -/
abbrev st (b : B) (off size : Fin b.shape.rank → Nat) (inb : ∀ a, off a + size a ≤ b.shape.size a)
    (hn : 0 < (⟨b.shape.rank, size⟩ : Shape).numel) (ho : StoreOk b (Rect.unit (s := b.shape) off size inb))
    (w : Vec F ⟨b.shape.rank, size⟩ b.elt) : Cmd F PUnit.{1} :=
  .store b (Rect.unit (s := b.shape) off size inb) w hn ho .ret

/-- A buffer's contents with a rectangle replaced. -/
def put (σ : St F) (b : B) (r : Rect b.shape) (w : r.shape.Idx → Elt F b.elt) : St F :=
  Function.update σ b (r.overlay (σ b) w)

/-- What a command returns and leaves in the buffers. -/
def run {α : Type} : Cmd F α → St F → α × St F
  | .ret a, σ => (a, σ)
  | .load b r _ k, σ => run (k fun j => σ b (r.emb j)) σ
  | .store b r w _ _ k, σ => run (k ⟨⟩) (put σ b r w)

theorem run_bind {α β : Type} (c : Cmd F α) (f : α → Cmd F β) (σ : St F) :
    run (c >>= f) σ = run (f (run c σ).1) (run c σ).2 := by
  induction c generalizing σ with
  | ret a => rfl
  | load b r hn k ih => exact ih _ σ
  | store b r w hn ho k ih => exact ih _ _

@[simp] theorem run_pure {α : Type} (a : α) (σ : St F) : run (pure a : Cmd F α) σ = (a, σ) := rfl

section Prog

variable {nD : Nat} {τ : Topo} {sig : RefSig} {Λ : Labels}

/-- A family of whole buffers of the machine, one for each of the kernel's. -/
structure Refs (sig : RefSig) where
  ref : (b : B) → Memref sig .tc .vmem b.shape b.elt
  whole : ∀ b, (ref b).IsWhole

theorem Refs.loads (M : Refs sig) (b : B) (r : Rect b.shape) (hn : 0 < r.shape.numel) :
    (M.ref b).view.LoadsAt r.toLoadRect := View.loadsAt_vmem hn

theorem Refs.stores (M : Refs sig) (b : B) (r : Rect b.shape) (hn : 0 < r.shape.numel) (ho : StoreOk b r) :
    ((M.ref b).access r).Stores Finset.univ := by
  rcases ho with h | h
  · exact View.stores_vmem_bits_univ hn h
  · exact View.stores_vmem hn ((M.whole b).storeExact_slice rfl _ h) (fun _ => rfl)

/-- The machine's program of a command. -/
def toProg {α : Type} (M : Refs sig) : Cmd F α → Prog (TpuEff nD τ sig (Elt F) Λ .tc) α
  | .ret a => .ret a
  | .load b r hn k => .op (.load (M.ref b) r.toLoadRect (M.loads b r hn)) fun z => toProg M (k z)
  | .store b r w hn ho k => .op (.store (M.ref b) r w Finset.univ (M.stores b r hn ho) (.inl rfl)) fun z => toProg M (k z)

theorem toProg_bind {α β : Type} (M : Refs sig) (c : Cmd F α) (f : α → Cmd F β) :
    (toProg M (c >>= f) : Prog (TpuEff nD τ sig (Elt F) Λ .tc) β) = toProg M c >>= fun a => toProg M (f a) := by
  induction c with
  | ret a => rfl
  | load b r hn k ih => exact congrArg _ (funext fun z => ih z)
  | store b r w hn ho k ih => exact congrArg _ (funext fun z => ih z)

/-- Programs that begin with the same operation are equal if they go on equally. -/
theorem opc {E : Type → Type} {β α : Type} {e : E β} {k k' : β → Prog E α} (h : ∀ z, k z = k' z) : Prog.op e k = Prog.op e k' := congrArg _ (funext h)

/-- A loop and what follows it, against the same loop with what follows it regrouped. -/
theorem loopc {E : Type → Type} {α γ : Type} {w : Nat} {l : Scf.Loop w} {h : l.OK} {b b' : Fin l.trips → PUnit.{1} → Prog E PUnit.{1}} {f : PUnit.{1} → Prog E γ}
    {g : γ → Prog E α} {k : PUnit.{1} → Prog E α} (hb : ∀ j a, b j a = b' j a) (hk : ∀ z, (f z).bind g = k z) :
    (Scf.Loop.for l h PUnit.unit b >>= f).bind g = Scf.Loop.for l h PUnit.unit b' >>= k := by
  obtain rfl : b = b' := funext fun j => funext (hb j)
  obtain rfl : k = fun z => (f z).bind g := funext fun z => (hk z).symm
  exact Prog.bind_assoc _ _ _

end Prog

section
variable {sig : RefSig}
  (arg1 : Memref sig .tc .vmem B.out.shape .bf16) (harg1 : arg1.IsWhole) (arg2 : Memref sig .tc .vmem B.k.shape .bf16) (harg2 : arg2.IsWhole)
  (arg3 : Memref sig .tc .vmem B.k.shape .bf16) (harg3 : arg3.IsWhole) (arg4 : Memref sig .tc .vmem B.out.shape .bf16) (harg4 : arg4.IsWhole)
  (arg5 : Memref sig .tc .vmem B.qc.shape .fp8e4m3) (harg5 : arg5.IsWhole) (arg6 : Memref sig .tc .vmem B.qs.shape .f32) (harg6 : arg6.IsWhole)
  (arg7 : Memref sig .tc .vmem B.kc.shape .fp8e4m3) (harg7 : arg7.IsWhole) (arg8 : Memref sig .tc .vmem B.ks.shape .f32) (harg8 : arg8.IsWhole)
  (arg9 : Memref sig .tc .vmem B.kc.shape .fp8e4m3) (harg9 : arg9.IsWhole) (arg10 : Memref sig .tc .vmem B.ks.shape .f32) (harg10 : arg10.IsWhole)
  (arg11 : Memref sig .tc .vmem B.km.shape .fp8e4m3) (harg11 : arg11.IsWhole) (arg12 : Memref sig .tc .vmem B.iv.shape .f32) (harg12 : arg12.IsWhole)
  (arg13 : Memref sig .tc .vmem B.iv.shape .f32) (harg13 : arg13.IsWhole) (arg14 : Memref sig .tc .vmem B.iv.shape .f32) (harg14 : arg14.IsWhole)
  (arg15 : Memref sig .tc .vmem B.iv.shape .f32) (harg15 : arg15.IsWhole) (arg16 : Memref sig .tc .vmem B.u.shape .f32) (harg16 : arg16.IsWhole)
  (arg17 : Memref sig .tc .vmem B.u.shape .f32) (harg17 : arg17.IsWhole) (arg18 : Memref sig .tc .vmem B.ot.shape .f32) (harg18 : arg18.IsWhole)
  (arg19 : Memref sig .tc .vmem B.mk.shape .f32) (harg19 : arg19.IsWhole)

/-- The kernel's operands as the family of buffers the commands name. -/
@[reducible] def refs : Refs sig where
  ref | .x => arg1 | .k => arg2 | .v => arg3 | .out => arg4 | .qc => arg5 | .qs => arg6 | .kc => arg7 | .ks => arg8 | .vc => arg9 | .vs => arg10
      | .km => arg11 | .iv => arg12 | .cs => arg13 | .bk => arg14 | .ev => arg15 | .u => arg16 | .w => arg17 | .ot => arg18 | .mk => arg19
  whole | .x => harg1 | .k => harg2 | .v => harg3 | .out => harg4 | .qc => harg5 | .qs => harg6 | .kc => harg7 | .ks => harg8 | .vc => harg9 | .vs => harg10
        | .km => harg11 | .iv => harg12 | .cs => harg13 | .bk => harg14 | .ev => harg15 | .u => harg16 | .w => harg17 | .ot => harg18 | .mk => harg19
end

end Cert.Attn

end
-- ==== Proof.Sound.lean ====
/- What a command does to the machine: the program of a command, run by a core that owns every buffer at contents `σ`,
   ends owning them at `run`'s. -/
module

public import proofs.«01_k».proof.Proof.Cmd
public import Idealize.ShloMosaic.Lib.Tactic

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Every buffer. -/
instance : Fintype B where
  elems := {.x, .k, .v, .out, .qc, .qs, .kc, .ks, .vc, .vs, .km, .iv, .cs, .bk, .ev, .u, .w, .ot, .mk}
  complete := by intro b; cases b <;> decide

variable {F : FTy → Type} {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

section Owns

variable {defs : Defs nD τ sig (Elt F) Λ} (𝒱 : Variants) (c : Dev nD) (bd : Option 𝒱.V) (E : Set Name)
variable {sh : Shape} {e : EltTy}

/-- A load by a core that owns the memref. -/
theorem wp_load_owns {α : Type} {Q : α → sProp 𝕄} (m : Memref sig .tc .vmem sh e) (r : Rect sh) (hl : m.view.LoadsAt r.toLoadRect)
    (k : (r.shape.Idx → Elt F e) → Prog (TpuEff nD τ sig (Elt F) Λ .tc) α) (X : sh.Idx → Elt F e) :
    (owns (c : Thread nD τ) m fullShare X : sProp 𝕄)
      ⊢ iprop((owns (c : Thread nD τ) m fullShare X -∗ wp frame (wpE defs 𝒱 (c : Thread nD τ) bd) E (k fun j => X (r.emb j)) Q)
        -∗ wp frame (wpE defs 𝒱 (c : Thread nD τ) bd) E (.op (.load m r.toLoadRect hl) k) Q) := by
  unfold owns
  iintro ⟨%f, %hf, H⟩ Hk
  subst hf
  iapply (wp_load_rect 𝒱 (c : Thread nD τ) bd E (m := m) (r := r) (S := m.view.set) (m.view.set_slice_subset r)) $$ H
  iintro H
  iapply Hk
  iexists f
  isplitr
  · ipureintro; rfl
  · iexact H

/-- What a memref reads once a rectangle of it has been written. -/
theorem read_write_overlay (v : View sig .tc .vmem sh e) (r : Rect sh) (f : v.ty.Contents (Elt F)) (w : r.shape.Idx → Elt F e) :
    v.read (Elt F) ((v.slice r).write (Elt F) f w Finset.univ) = r.overlay (v.read (Elt F) f) w := by
  funext j
  by_cases hj : j ∈ r.set
  · obtain ⟨i, rfl⟩ := r.exists_idx_of_mem hj
    exact (View.read_slice_write_emb r f w (Finset.mem_univ i)).trans (Rect.overlay_emb r _ w i).symm
  · rw [Rect.overlay_of_not_mem r _ w hj]
    exact View.read_slice_write_of_not_mem r f w Finset.univ (by rwa [Rect.map_emb_univ])

/-- A store by a core that owns the memref. -/
theorem wp_store_owns {α : Type} {Q : α → sProp 𝕄} (m : Memref sig .tc .vmem sh e) (r : Rect sh) (w : r.shape.Idx → Elt F e) (hx : (m.access r).Stores Finset.univ)
    (hm : (Finset.univ : Finset r.shape.Idx) = Finset.univ ∨ ∀ a, r.stride a = 1)
    (k : PUnit → Prog (TpuEff nD τ sig (Elt F) Λ .tc) α) (X : sh.Idx → Elt F e) :
    (owns (c : Thread nD τ) m fullShare X : sProp 𝕄)
      ⊢ iprop((owns (c : Thread nD τ) m fullShare (r.overlay X w) -∗ wp frame (wpE defs 𝒱 (c : Thread nD τ) bd) E (k ⟨⟩) Q)
        -∗ wp frame (wpE defs 𝒱 (c : Thread nD τ) bd) E (.op (.store m r w Finset.univ hx hm) k) Q) := by
  unfold owns
  iintro ⟨%f, %hf, H⟩ Hk
  subst hf
  iapply (wp_store 𝒱 (c : Thread nD τ) bd E (m := m) (r := r) (S := m.view.set) (m.view.set_slice_subset r)) $$ H
  iintro H
  iapply Hk
  iexists (m.access r).write (Elt F) f w Finset.univ
  isplitr
  · ipureintro; exact read_write_overlay m.view r f w
  · iexact H

end Owns

/-- Owning every buffer, at the contents `σ`. -/
def own (c : Dev nD) (M : Refs sig) (σ : St F) : sProp 𝕄 :=
  bigSep Finset.univ fun b : B => owns (c : Thread nD τ) (M.ref b) fullShare (σ b)

theorem own_split (c : Dev nD) (M : Refs sig) (σ : St F) (b : B) :
    (own c M σ : sProp 𝕄) = iprop(owns (c : Thread nD τ) (M.ref b) fullShare (σ b)
      ∗ bigSep (Finset.univ.erase b) fun b' : B => owns (c : Thread nD τ) (M.ref b') fullShare (σ b')) :=
  bigSep_univ_split b

theorem own_put (c : Dev nD) (M : Refs sig) (σ : St F) (b : B) (r : Rect b.shape) (w : r.shape.Idx → Elt F b.elt) :
    (own c M (put σ b r w) : sProp 𝕄) = iprop(owns (c : Thread nD τ) (M.ref b) fullShare (r.overlay (σ b) w)
      ∗ bigSep (Finset.univ.erase b) fun b' : B => owns (c : Thread nD τ) (M.ref b') fullShare (σ b')) := by
  rw [own_split c M _ b, put, Function.update_self]
  congr 1
  exact bigSep_congr fun b' hb' => by rw [Function.update_of_ne (Finset.ne_of_mem_erase hb')]

/-- The program of a command, run by the owner of every buffer. -/
theorem wp_toProg {defs : Defs nD τ sig (Elt F) Λ} (𝒱 : Variants) (c : Dev nD) (bd : Option 𝒱.V) (E : Set Name) (M : Refs sig) {α : Type}
    {Q : α → sProp 𝕄} (cmd : Cmd F α) (σ : St F) :
    (own c M σ : sProp 𝕄) ⊢ iprop((own c M (run cmd σ).2 -∗ Q (run cmd σ).1)
      -∗ wp frame (wpE defs 𝒱 (c : Thread nD τ) bd) E (toProg M cmd) Q) := by
  induction cmd generalizing σ with
  | ret a =>
    rw [show (toProg M (Cmd.ret a) : Prog (TpuEff nD τ sig (Elt F) Λ .tc) _) = .ret a from rfl, wp_ret]
    simp only [run]
    iintro H Hk
    imodintro
    iapply Hk; iexact H
  | load b r hn k ih =>
    rw [own_split c M σ b]
    iintro ⟨H, Hr⟩ Hk
    iapply (wp_load_owns 𝒱 c bd E (M.ref b) r (M.loads b r hn) _ (σ b)) $$ H
    iintro H
    iapply (ih _ σ) $$ [H Hr]
    · rw [own_split c M σ b]; isplitl [H]; · iexact H
      iexact Hr
    · iexact Hk
  | store b r w hn ho k ih =>
    rw [own_split c M σ b]
    iintro ⟨H, Hr⟩ Hk
    iapply (wp_store_owns 𝒱 c bd E (M.ref b) r w (M.stores b r hn ho) (.inl rfl) _ (σ b)) $$ H
    iintro H
    iapply (ih _ (put σ b r w)) $$ [H Hr]
    · rw [own_put c M σ b r w]; isplitl [H]; · iexact H
      iexact Hr
    · iexact Hk

/-! ## Which buffers a command stores into -/

/-- Every store of the command is into one of the buffers `S`. -/
def Cmd.Only (S : B → Prop) {α : Type} : Cmd F α → Prop
  | .ret _ => True
  | .load _ _ _ k => ∀ z, (k z).Only S
  | .store b _ _ _ _ k => S b ∧ ∀ z, (k z).Only S

theorem only_bind {S : B → Prop} {α β : Type} {c : Cmd F α} {f : α → Cmd F β} (h : c.Only S) (hf : ∀ a, (f a).Only S) : (c >>= f).Only S := by
  induction c with
  | ret a => exact hf a
  | load b r hn k ih => exact fun z => ih z (h z)
  | store b r w hn ho k ih => exact ⟨h.1, fun z => ih z (h.2 z)⟩

theorem only_mono {S T : B → Prop} {α : Type} {c : Cmd F α} (h : c.Only S) (hST : ∀ b, S b → T b) : c.Only T := by
  induction c with
  | ret a => trivial
  | load b r hn k ih => exact fun z => ih z (h z)
  | store b r w hn ho k ih => exact ⟨hST _ h.1, fun z => ih z (h.2 z)⟩

/-- A buffer the command does not store into keeps its contents. -/
theorem run_only {S : B → Prop} {α : Type} {c : Cmd F α} (h : c.Only S) (σ : St F) {b : B} (hb : ¬ S b) : (run c σ).2 b = σ b := by
  induction c generalizing σ with
  | ret a => rfl
  | load b' r hn k ih => exact ih _ (h _) σ
  | store b' r w hn ho k ih =>
    refine (ih _ (h.2 _) _).trans ?_
    exact Function.update_of_ne (fun e => hb (by subst e; exact h.1)) _ _

end Cert.Attn

end
-- ==== Proof.Prog.lean ====
/- The kernel's body as commands, written once for every head, tile and block: the quantiser, the blocks' scores, the
   weights, the weighted sum. The two constants the programs spell differently are parameters: `cL` multiplies the
   heads' slopes, `cR` the queries' scales. -/
module

public import proofs.«01_k».proof.Proof.Cmd
public import Idealize.ShloMosaic.Instance

@[expose] public section

noncomputable section

namespace Cert.Attn

open Idealize.ShloMosaic Idealize.SL.Sem

variable {F : FTy → Type} [FloatOps F]

abbrev V1 (a : Nat) : Shape := ⟨1, ![a]⟩
abbrev V2 (a b : Nat) : Shape := ⟨2, ![a, b]⟩
abbrev V3 (a b c : Nat) : Shape := ⟨3, ![a, b, c]⟩
abbrev V4 (a b c d : Nat) : Shape := ⟨4, ![a, b, c, d]⟩

theorem lt_f8_f32 : FTy.bits .fp8e4m3 < FTy.bits .f32 := by decide
theorem lt_bf16_f32 : FTy.bits .bf16 < FTy.bits .f32 := by decide

/-! ## Scales -/

/-- The exponent field of each element, the greatest `n` whose power of two does not exceed it, and 126 for none. -/
def field (a b : Nat) (h1 : (V2 a b).ShapeCasts (V3 1 a b)) (h2 : (V3 1 a b).Broadcasts (V3 256 a b))
    (h3 : (V3 256 a b).Iotas .tc 32 [0]) (h4 : (V3 256 a b).Reduces [0] (V2 a b)) (x : FVec F (V2 a b) .f32) : IVec (V2 a b) 32 :=
  let n : IVec (V3 256 a b) 32 := iota .tc (V3 256 a b) 32 [0] h3
  let le : IVec (V3 256 a b) 1 := cmpf .ole (bitcastToFloat .f32 (shli n (broadcast (V3 256 a b) 23#32)) : FVec F (V3 256 a b) .f32)
    (broadcastTo (V3 256 a b) (shapeCast (V3 1 a b) x h1) h2)
  let f : IVec (V2 a b) 32 := multiReductionI .maxsi [0] (V2 a b) (select le n (broadcast (V3 256 a b) 0#32)) 2147483648#32 h4 rfl
  select (cmpi .eq f (broadcast (V2 a b) 0#32)) (broadcast (V2 a b) 126#32) f

/-- The scale of an exponent field: two to the field plus one, less the bias. -/
def up {s : Shape} (e : IVec s 32) : FVec F s .f32 := bitcastToFloat .f32 (shli (addi e (broadcast s 1#32)) (broadcast s 23#32))

/-- The scale's reciprocal. -/
def down {s : Shape} (e : IVec s 32) : FVec F s .f32 := bitcastToFloat .f32 (shli (subi (broadcast s 253#32) e) (broadcast s 23#32))

/-- The scale's exponent. -/
def expo {s : Shape} (e : IVec s 32) : FVec F s .f32 := sitofp .f32 (subi e (broadcast s 126#32))

/-- The fields of the columns of a 64-row block: of the greatest magnitude over 448. -/
def colField (x : FVec F (V2 64 2048) .f32) : IVec (V2 1 2048) 32 :=
  field 1 2048 (by decide) (by decide) (by decide) (by decide)
    (mulf (shapeCast (V2 1 2048) (multiReduction .maximumf [0] (V1 2048) (absf x) 0xFF800000#32 (by decide) (.inl rfl) rfl) (by decide))
      (broadcast (V2 1 2048) (Scalar.ofBits .f32 0x3B124925#32)))

/-- The codes of a 64-row block at its columns' fields. -/
def codes (x : FVec F (V2 64 2048) .f32) (e : IVec (V2 1 2048) 32) : FVec F (V2 64 2048) .fp8e4m3 :=
  truncf .fp8e4m3 (minimumf (broadcast (V2 64 2048) (Scalar.ofBits .f32 0x43E00000#32))
    (maximumf (broadcast (V2 64 2048) (Scalar.ofBits .f32 0xC3E00000#32))
      (mulf x (broadcastTo (V2 64 2048) (down e : FVec F (V2 1 2048) .f32) (by decide))))) lt_f8_f32

/-- A row spread along 128 lanes of a column. -/
def spread (x : FVec F (V2 1 2048) .f32) : FVec F (V3 1 2048 128) .f32 :=
  shapeCast (V3 1 2048 128) (transpose (V2 2048 128) [1, 0]
    (broadcastTo (V2 128 2048) (shapeCast (V2 1 2048) x (by decide)) (by decide)) (by decide)) (by decide)

/-! ## The prologue -/

/-- The causal mask of a diagonal block: zero where the key is not after the query, `-∞` elsewhere. -/
def maskBlk : FVec F (V2 256 256) .f32 :=
  select (cmpi .sle (iota .tc (V2 256 256) 32 [0] (by decide)) (iota .tc (V2 256 256) 32 [1] (by decide)))
    (broadcast (V2 256 256) (Scalar.ofBits .f32 0x00000000#32)) (broadcast (V2 256 256) (Scalar.ofBits .f32 0xFF800000#32))

theorem packed_qc : ∀ h : Fin 8, (Rect.unit (s := V4 1 8 64 2048) ![0, h.val, 0, 0] ![1, 1, 64, 2048]
    (by have := h.isLt; intro a; fin_cases a <;> simp <;> omega)).PackedRows (EltTy.packing .fp8e4m3) := by decide

theorem packed_kc : ∀ h : Fin 2, (Rect.unit (s := V4 1 2 64 2048) ![0, h.val, 0, 0] ![1, 1, 64, 2048]
    (by have := h.isLt; intro a; fin_cases a <;> simp <;> omega)).PackedRows (EltTy.packing .fp8e4m3) := by decide

theorem packed_km : ∀ h : Fin 2, (Rect.unit (s := V3 2 2048 64) ![h.val, 0, 0] ![1, 2048, 64]
    (by have := h.isLt; intro a; fin_cases a <;> simp <;> omega)).PackedRows (EltTy.packing .fp8e4m3) := by decide

theorem packed_out : ∀ p : Fin 4, (Rect.unit (s := V3 1 2048 512) ![0, 0, 128 * p.val] ![1, 2048, 128]
    (by have := p.isLt; intro a; fin_cases a <;> simp <;> omega)).PackedRows (EltTy.packing .bf16) := by decide

/-- A fetch of a block the kernel makes before it stores the block, and whose value it drops. -/
abbrev peek (b : B) (off size : Fin b.shape.rank → Nat) (inb : ∀ a, off a + size a ≤ b.shape.size a)
    (hn : 0 < (⟨b.shape.rank, size⟩ : Shape).numel) : Cmd F PUnit.{1} :=
  .load b (Rect.unit (s := b.shape) off size inb) hn fun _ => .ret ⟨⟩

/-- A store with the fetch before it. -/
abbrev pst (b : B) (off size : Fin b.shape.rank → Nat) (inb : ∀ a, off a + size a ≤ b.shape.size a)
    (hn : 0 < (⟨b.shape.rank, size⟩ : Shape).numel) (ho : StoreOk b (Rect.unit (s := b.shape) off size inb))
    (w : Vec F ⟨b.shape.rank, size⟩ b.elt) : Cmd F PUnit.{1} := do
  peek b off size inb hn
  st b off size inb hn ho w

/-- A whole array of 128 columns, transposed. -/
def slab (z : Vec F (V3 1 2048 128) .bf16) : FVec F (V2 128 2048) .f32 :=
  transpose (V2 128 2048) [1, 0] (extf .f32 (shapeCast (V2 2048 128) z (by decide)) lt_bf16_f32) (by decide)

/-- Head `h`'s queries, transposed. -/
def headT (z : Vec F (V3 1 2048 64) .bf16) : FVec F (V2 64 2048) .f32 :=
  transpose (V2 64 2048) [1, 0] (extf .f32 (shapeCast (V2 2048 64) z (by decide)) lt_bf16_f32) (by decide)

/-- Head `h`'s codes and scales. -/
def headCmd (h : Nat) (hh : h < 8) : Cmd F PUnit.{1} := do
  let z ← ld .x ![0, 0, 64 * h] ![1, 2048, 64] (by intro a; fin_cases a <;> simp <;> omega) (by decide)
  pst .qc ![0, h, 0, 0] ![1, 1, 64, 2048] (by intro a; fin_cases a <;> simp <;> omega) (by decide) (.inr (packed_qc ⟨h, hh⟩))
    (shapeCast (V4 1 1 64 2048) (codes (headT z) (colField (headT z))) (by decide))
  pst .qs ![0, h, 0] ![1, 1, 2048] (by intro a; fin_cases a <;> simp <;> omega) (by decide) (.inl rfl)
    (shapeCast (V3 1 1 2048) (up (colField (headT z)) : FVec F (V2 1 2048) .f32) (by decide))

theorem half_slices : ∀ g : Fin 2, (V2 128 2048).Slices ![64 * g.val, 0] (V2 64 2048) := by decide

/-- Key head `g`'s rows of a transposed array of 128 columns. -/
def half (g : Nat) (hg : g < 2) (z : FVec F (V2 128 2048) .f32) : FVec F (V2 64 2048) .f32 :=
  extractStridedSlice (V2 64 2048) ![64 * g, 0] z
    (half_slices ⟨g, hg⟩)

/-- The positions, as a row. -/
def posRow : FVec F (V2 1 2048) .f32 :=
  sitofp .f32 (extractStridedSlice (V2 1 2048) ![0, 0] (iota .tc (V2 8 2048) 32 [1] (by decide)) (by decide))

/-- Key head `g`'s codes and scales, its values', and what the scores read of them. -/
def kvCmd (g : Nat) (hg : g < 2) (k v : FVec F (V2 64 2048) .f32) : Cmd F PUnit.{1} := do
  pst .kc ![0, g, 0, 0] ![1, 1, 64, 2048] (by intro a; fin_cases a <;> simp <;> omega) (by decide) (.inr (packed_kc ⟨g, hg⟩))
    (shapeCast (V4 1 1 64 2048) (codes k (colField k)) (by decide))
  pst .ks ![0, g, 0] ![1, 1, 2048] (by intro a; fin_cases a <;> simp <;> omega) (by decide) (.inl rfl)
    (shapeCast (V3 1 1 2048) (up (colField k) : FVec F (V2 1 2048) .f32) (by decide))
  pst .vc ![0, g, 0, 0] ![1, 1, 64, 2048] (by intro a; fin_cases a <;> simp <;> omega) (by decide) (.inr (packed_kc ⟨g, hg⟩))
    (shapeCast (V4 1 1 64 2048) (codes v (colField v)) (by decide))
  pst .vs ![0, g, 0] ![1, 1, 2048] (by intro a; fin_cases a <;> simp <;> omega) (by decide) (.inl rfl)
    (shapeCast (V3 1 1 2048) (up (colField v) : FVec F (V2 1 2048) .f32) (by decide))
  pst .km ![g, 0, 0] ![1, 2048, 64] (by intro a; fin_cases a <;> simp <;> omega) (by decide) (.inr (packed_km ⟨g, hg⟩))
    (shapeCast (V3 1 2048 64) (truncf .fp8e4m3 (transpose (V2 2048 64) [1, 0]
      (extf .f32 (codes k (colField k)) lt_f8_f32 : FVec F (V2 64 2048) .f32) (by decide)) lt_f8_f32 : FVec F (V2 2048 64) .fp8e4m3) (by decide))
  pst .cs ![g, 0, 0] ![1, 2048, 128] (by intro a; fin_cases a <;> simp <;> omega) (by decide) (.inl rfl)
    (spread (up (colField k)))
  pst .bk ![g, 0, 0] ![1, 2048, 128] (by intro a; fin_cases a <;> simp <;> omega) (by decide) (.inl rfl)
    (spread posRow)
  pst .ev ![g, 0, 0] ![1, 2048, 128] (by intro a; fin_cases a <;> simp <;> omega) (by decide) (.inl rfl)
    (spread (expo (colField v)))
  pst .iv ![g, 0, 0] ![1, 2048, 128] (by intro a; fin_cases a <;> simp <;> omega) (by decide) (.inl rfl)
    (spread (divf (broadcast (V2 1 2048) (Scalar.ofBits .f32 0x3F800000#32)) (up (colField v))))

/-- The first `n` heads. -/
def heads : (n : Nat) → n ≤ 8 → Cmd F PUnit.{1}
  | 0, _ => pure ⟨⟩
  | n + 1, h => do heads n (by omega); headCmd n (by omega)

/-- What comes before the loop over heads. -/
def prologue : Cmd F PUnit.{1} := do
  let zk ← ld .k ![0, 0, 0] ![1, 2048, 128] (by decide) (by decide)
  let zv ← ld .v ![0, 0, 0] ![1, 2048, 128] (by decide) (by decide)
  pst .mk ![0, 0] ![256, 256] (by decide) (by decide) (.inl rfl) (shapeCast (V2 256 256) maskBlk (by decide))
  heads 8 (by omega)
  let kt : FVec F (V2 128 2048) .f32 := slab zk
  let vt : FVec F (V2 128 2048) .f32 := slab zv
  kvCmd 0 (by omega) (half 0 (by omega) kt) (half 0 (by omega) vt)
  kvCmd 1 (by omega) (half 1 (by omega) kt) (half 1 (by omega) vt)

/-! ## One head -/

theorem cat_twice : Shape.Concatenates [V2 256 128, V2 256 128] (V2 256 256) 1 := by decide
theorem cat_pair : Shape.Concatenates [V2 64 2048, V2 64 2048] (V2 128 2048) 0 := by decide

/-- Two copies of 128 lanes side by side. -/
def twice (x : FVec F (V2 256 128) .f32) : FVec F (V2 256 256) .f32 :=
  concatenate (V2 256 256) 1 [⟨V2 256 128, x⟩, ⟨V2 256 128, x⟩] cat_twice

/-- A row spread over 256 rows. -/
def rows256 (x : FVec F (V2 1 256) .f32) : FVec F (V2 256 256) .f32 := broadcastTo (V2 256 256) x (by decide)

/-- The head's slope times the base-two logarithm of `e`, in every lane. -/
def slope (cL : F .f32) (w : BitVec 32) : FVec F (V2 8 128) .f32 :=
  mulf (exp2 (mulf (broadcast (V2 8 128) (Scalar.ofBits .f32 0xBF800000#32)) (broadcast (V2 8 128) (Scalar.sitofp .f32 (Scalar.addi w 1#32)))))
    (broadcast (V2 8 128) cL)

def dotQK : DotDims (V2 256 64) (V2 64 256) (V2 256 256) where
  lhsContracting := [1]
  rhsContracting := [0]
  lhsNonContracting := [0]
  rhsNonContracting := [1]
  lhsBatch := []
  rhsBatch := []
  wf := by decide

/-- A block's scores before the mask, from what it fetched. -/
def scoreOf (q : FVec F (V2 64 256) .fp8e4m3) (r : FVec F (V2 1 256) .f32) (sl : FVec F (V2 8 128) .f32) (qb : BitVec 32)
    (km : Vec F (V3 1 256 64) .fp8e4m3) (cs bk ev : Vec F (V3 1 256 128) .f32) : FVec F (V2 256 256) .f32 :=
  addf (mulf (mulf (matmul dotQK none (shapeCast (V2 256 64) km (by decide) : FVec F (V2 256 64) .fp8e4m3) q (constant (V2 256 256) .f32 0x00000000#32)) (rows256 r))
      (twice (shapeCast (V2 256 128) cs (by decide))))
    (twice (addf (mulf (subf (shapeCast (V2 256 128) bk (by decide)) (broadcast (V2 256 128) (Scalar.ofBits .f32 qb)))
        (broadcastTo (V2 256 128) (extractStridedSlice (V2 1 128) ![0, 0] sl (by decide)) (by decide)))
      (shapeCast (V2 256 128) ev (by decide))))

/-- A block's greatest score per query. -/
def colMax (u : FVec F (V2 256 256) .f32) : FVec F (V2 1 256) .f32 :=
  shapeCast (V2 1 256) (multiReduction .maximumf [0] (V1 256) u 0xFF800000#32 (by decide) (.inl rfl) rfl) (by decide)

/-- A block's sum per query. -/
def colSum (u : FVec F (V2 256 256) .f32) : FVec F (V2 1 256) .f32 :=
  shapeCast (V2 1 256) (multiReduction .add [0] (V1 256) u 0x00000000#32 (by decide) (.inl rfl) rfl) (by decide)

/-- Block `c`'s scores, fetched and computed. -/
def scoreCmd (g : Nat) (hg : g < 2) (c : Nat) (hc : c < 8) (q : FVec F (V2 64 256) .fp8e4m3) (r : FVec F (V2 1 256) .f32)
    (sl : FVec F (V2 8 128) .f32) (qb : BitVec 32) : Cmd F (FVec F (V2 256 256) .f32) := do
  let km ← ld .km ![g, 256 * c, 0] ![1, 256, 64] (by intro a; fin_cases a <;> simp <;> omega) (by decide)
  let cs ← ld .cs ![g, 256 * c, 0] ![1, 256, 128] (by intro a; fin_cases a <;> simp <;> omega) (by decide)
  let bk ← ld .bk ![g, 256 * c, 0] ![1, 256, 128] (by intro a; fin_cases a <;> simp <;> omega) (by decide)
  let ev ← ld .ev ![g, 256 * c, 0] ![1, 256, 128] (by intro a; fin_cases a <;> simp <;> omega) (by decide)
  pure (scoreOf q r sl qb km cs bk ev)

/-- Block `c`'s scores kept, and the maximum so far taken with them. -/
def keepCmd (c : Nat) (hc : c < 8) (mu : FVec F (V2 1 256) .f32) (u : FVec F (V2 256 256) .f32) : Cmd F (FVec F (V2 1 256) .f32) := do
  pst .u ![256 * c, 0] ![256, 256] (by intro a; fin_cases a <;> simp <;> omega) (by decide) (.inl rfl) (shapeCast (V2 256 256) u (by decide))
  pure (maximumf mu (colMax u))

/-- The scores of the first `n` blocks, none of them masked. -/
def scoreLoop (g : Nat) (hg : g < 2) (q : FVec F (V2 64 256) .fp8e4m3) (r : FVec F (V2 1 256) .f32) (sl : FVec F (V2 8 128) .f32) (qb : BitVec 32) :
    (n : Nat) → n ≤ 8 → Cmd F (FVec F (V2 1 256) .f32)
  | 0, _ => pure (broadcast (V2 1 256) (Scalar.ofBits .f32 0xFF800000#32))
  | n + 1, h => do
    let mu ← scoreLoop g hg q r sl qb n (by omega)
    let u ← scoreCmd g hg n (by omega) q r sl qb
    keepCmd n (by omega) mu u

/-- Block `c`'s weights, and the sum so far with theirs. -/
def weightCmd (g : Nat) (hg : g < 2) (c : Nat) (hc : c < 8) (mu l : FVec F (V2 1 256) .f32) : Cmd F (FVec F (V2 1 256) .f32) := do
  let u ← ld .u ![256 * c, 0] ![256, 256] (by intro a; fin_cases a <;> simp <;> omega) (by decide)
  let w : FVec F (V2 256 256) .f32 := exp2 (subf u (rows256 mu))
  pst .w ![256 * c, 0] ![256, 256] (by intro a; fin_cases a <;> simp <;> omega) (by decide) (.inl rfl) (shapeCast (V2 256 256) w (by decide))
  let iv ← ld .iv ![g, 256 * c, 0] ![1, 256, 128] (by intro a; fin_cases a <;> simp <;> omega) (by decide)
  pure (addf l (colSum (mulf w (twice (shapeCast (V2 256 128) iv (by decide))))))

/-- The weights of the first `n` blocks. -/
def weightLoop (g : Nat) (hg : g < 2) (mu : FVec F (V2 1 256) .f32) : (n : Nat) → n ≤ 8 → Cmd F (FVec F (V2 1 256) .f32)
  | 0, _ => pure (broadcast (V2 1 256) (Scalar.ofBits .f32 0x00000000#32))
  | n + 1, h => do
    let l ← weightLoop g hg mu n (by omega)
    weightCmd g hg n (by omega) mu l

/-- The reciprocal of the sum of weights. -/
def recip (l : FVec F (V2 1 256) .f32) : FVec F (V2 1 256) .f32 := divf (broadcast (V2 1 256) (Scalar.ofBits .f32 0x3F800000#32)) l

/-- The field of the probabilities' greatest element. -/
def probField (a : FVec F (V2 1 256) .f32) : IVec (V2 8 256) 32 :=
  field 8 256 (by decide) (by decide) (by decide) (by decide)
    (mulf (broadcastTo (V2 8 256) (shapeCast (V2 1 256) a (by decide)) (by decide)) (broadcast (V2 8 256) (Scalar.ofBits .f32 0x3B124925#32)))

/-- The factor a weight becomes a code by. -/
def codeFactor (a : FVec F (V2 1 256) .f32) : FVec F (V2 1 256) .f32 :=
  minimumf (mulf a (extractStridedSlice (V2 1 256) ![0, 0] (down (probField a) : FVec F (V2 8 256) .f32) (by decide)))
    (broadcast (V2 1 256) (Scalar.ofBits .f32 0x43E00000#32))

def dotVP (n : Nat) (h : DotDims.WF (V2 64 n) (V2 n 256) (V2 64 256) [1] [0] [0] [1] [] []) : DotDims (V2 64 n) (V2 n 256) (V2 64 256) where
  lhsContracting := [1]
  rhsContracting := [0]
  lhsNonContracting := [0]
  rhsNonContracting := [1]
  lhsBatch := []
  rhsBatch := []
  wf := h

theorem dotVP_wf : ∀ t : Fin 8, DotDims.WF (V2 64 (256 * (t.val + 1))) (V2 (256 * (t.val + 1)) 256) (V2 64 256) [1] [0] [0] [1] [] [] := by decide

theorem bcast_tile : ∀ t : Fin 8, (V2 1 256).Broadcasts (V2 (256 * (t.val + 1)) 256) := by decide

theorem cast_tile : ∀ t : Fin 8, (V4 1 1 64 (256 * (t.val + 1))).ShapeCasts (V2 64 (256 * (t.val + 1))) := by decide

theorem pos_tile : ∀ t : Fin 8, 0 < (V2 (256 * (t.val + 1)) 256).numel := by decide

theorem pos_tile' : ∀ t : Fin 8, 0 < (V4 1 1 64 (256 * (t.val + 1))).numel := by decide

/-- The weighted sum of a tile, from the weights and values it fetched. -/
def tileOut (t : Nat) (ht : t < 8) (a : FVec F (V2 1 256) .f32) (w : Vec F (V2 (256 * (t + 1)) 256) .f32)
    (vc : Vec F (V4 1 1 64 (256 * (t + 1))) .fp8e4m3) : FVec F (V2 64 256) .f32 :=
  mulf (matmul (dotVP (256 * (t + 1)) (dotVP_wf ⟨t, ht⟩)) none (shapeCast (V2 64 (256 * (t + 1))) vc (cast_tile ⟨t, ht⟩) : FVec F (V2 64 (256 * (t + 1))) .fp8e4m3)
      (truncf .fp8e4m3 (mulf w (broadcastTo (V2 (256 * (t + 1)) 256) (codeFactor a) (bcast_tile ⟨t, ht⟩))) lt_f8_f32 : FVec F (V2 (256 * (t + 1)) 256) .fp8e4m3)
      (constant (V2 64 256) .f32 0x00000000#32))
    (broadcastTo (V2 64 256) (extractStridedSlice (V2 1 256) ![0, 0] (up (probField a) : FVec F (V2 8 256) .f32) (by decide)) (by decide))

/-- Head `h`'s tile `t`: its queries against the blocks of keys up to its own. -/
def tileCmd (cR : F .f32) (sl : FVec F (V2 8 128) .f32) (h : Nat) (hh : h < 8) (g : Nat) (hg : g < 2) (t : Nat) (ht : t < 8) (qb : BitVec 32) : Cmd F PUnit.{1} := do
  let zq ← ld .qc ![0, h, 0, 256 * t] ![1, 1, 64, 256] (by intro a; fin_cases a <;> simp <;> omega) (by decide)
  let q : FVec F (V2 64 256) .fp8e4m3 := shapeCast (V2 64 256) zq (by decide)
  let zs ← ld .qs ![0, h, 256 * t] ![1, 1, 256] (by intro a; fin_cases a <;> simp <;> omega) (by decide)
  let r : FVec F (V2 1 256) .f32 := mulf (shapeCast (V2 1 256) zs (by decide)) (broadcast (V2 1 256) cR)
  let mu ← scoreLoop g hg q r sl qb t (by omega)
  let u ← scoreCmd g hg t ht q r sl qb
  let mk ← ld .mk ![0, 0] ![256, 256] (by decide) (by decide)
  let mu ← keepCmd t ht mu (addf u mk)
  let l ← weightLoop g hg mu (t + 1) (by omega)
  let w ← ld .w ![0, 0] ![256 * (t + 1), 256] (by intro a; fin_cases a <;> simp <;> omega) (pos_tile ⟨t, ht⟩)
  let vc ← ld .vc ![0, g, 0, 0] ![1, 1, 64, 256 * (t + 1)] (by intro a; fin_cases a <;> simp <;> omega) (pos_tile' ⟨t, ht⟩)
  pst .ot ![h, 0, 256 * t] ![1, 64, 256] (by intro a; fin_cases a <;> simp <;> omega) (by decide) (.inl rfl)
    (shapeCast (V3 1 64 256) (tileOut t ht (recip l) w vc) (by decide))

/-- Head `h`, of key head `g`: its eight tiles. -/
def headTrip (cL cR : F .f32) (w : BitVec 32) (h : Nat) (hh : h < 8) (g : Nat) (hg : g < 2) : Cmd F PUnit.{1} := do
  tileCmd cR (slope cL w) h hh g hg 0 (by omega) 0x43800000#32
  tileCmd cR (slope cL w) h hh g hg 1 (by omega) 0x44000000#32
  tileCmd cR (slope cL w) h hh g hg 2 (by omega) 0x44400000#32
  tileCmd cR (slope cL w) h hh g hg 3 (by omega) 0x44800000#32
  tileCmd cR (slope cL w) h hh g hg 4 (by omega) 0x44A00000#32
  tileCmd cR (slope cL w) h hh g hg 5 (by omega) 0x44C00000#32
  tileCmd cR (slope cL w) h hh g hg 6 (by omega) 0x44E00000#32
  tileCmd cR (slope cL w) h hh g hg 7 (by omega) 0x45000000#32

/-! ## The epilogue -/

/-- The pair of heads `2 p` and `2 p + 1`, transposed and put side by side in the result. -/
def pairCmd (p : Nat) (hp : p < 4) : Cmd F PUnit.{1} := do
  let a ← ld .ot ![2 * p, 0, 0] ![1, 64, 2048] (by intro a; fin_cases a <;> simp <;> omega) (by decide)
  let b ← ld .ot ![2 * p + 1, 0, 0] ![1, 64, 2048] (by intro a; fin_cases a <;> simp <;> omega) (by decide)
  pst .out ![0, 0, 128 * p] ![1, 2048, 128] (by intro a; fin_cases a <;> simp <;> omega) (by decide) (.inr (packed_out ⟨p, hp⟩))
    (shapeCast (V3 1 2048 128) (truncf .bf16 (transpose (V2 2048 128) [1, 0]
      (concatenate (V2 128 2048) 0 [⟨V2 64 2048, (shapeCast (V2 64 2048) a (by decide) : FVec F (V2 64 2048) .f32)⟩,
        ⟨V2 64 2048, (shapeCast (V2 64 2048) b (by decide) : FVec F (V2 64 2048) .f32)⟩] cat_pair) (by decide)) lt_bf16_f32 : FVec F (V2 2048 128) .bf16) (by decide))

/-- What comes after the loop over heads. -/
def epilogue : Cmd F PUnit.{1} := do
  pairCmd 0 (by omega)
  pairCmd 1 (by omega)
  pairCmd 2 (by omega)
  pairCmd 3 (by omega)

end Cert.Attn

end
-- ==== Proof.Only.lean ====
/- The kernel's commands store into its results and scratch arrays, never into its three inputs; and the loop over heads
   as a function of the buffers' contents. -/
module

public import proofs.«01_k».proof.Proof.Sound
public import proofs.«01_k».proof.Proof.Prog

@[expose] public section

noncomputable section

namespace Cert.Attn

open Idealize.ShloMosaic Idealize.SL.Sem

variable {F : FTy → Type} [FloatOps F]

/-- A buffer the kernel may store into. -/
def NotInput (b : B) : Prop := b ≠ .x ∧ b ≠ .k ∧ b ≠ .v

instance (b : B) : Decidable (NotInput b) := by unfold NotInput; infer_instance

section
variable {S : B → Prop}

theorem only_pure {α : Type} (a : α) : (pure a : Cmd F α).Only S := trivial

theorem only_ld {b : B} {off size : Fin b.shape.rank → Nat} (inb : ∀ a, off a + size a ≤ b.shape.size a)
    (hn : 0 < (⟨b.shape.rank, size⟩ : Shape).numel) : (ld b off size inb hn : Cmd F _).Only S := fun _ => trivial

theorem only_pst {b : B} {off size : Fin b.shape.rank → Nat} {inb : ∀ a, off a + size a ≤ b.shape.size a}
    {hn : 0 < (⟨b.shape.rank, size⟩ : Shape).numel} {ho : StoreOk b (Rect.unit (s := b.shape) off size inb)}
    {w : Vec F ⟨b.shape.rank, size⟩ b.elt} (h : S b) : (pst b off size inb hn ho w).Only S := fun _ => ⟨h, fun _ => trivial⟩

end

theorem headCmd_only (h : Nat) (hh : h < 8) : (headCmd h hh : Cmd F _).Only NotInput :=
  only_bind (only_ld _ _) fun _ => only_bind (only_pst (by decide)) fun _ => only_pst (by decide)

theorem heads_only : ∀ (n : Nat) (h : n ≤ 8), (heads n h : Cmd F _).Only NotInput
  | 0, _ => trivial
  | n + 1, h => only_bind (heads_only n (by omega)) fun _ => headCmd_only n (by omega)

theorem kvCmd_only (g : Nat) (hg : g < 2) (k v : FVec F (V2 64 2048) .f32) : (kvCmd g hg k v).Only NotInput := by
  unfold kvCmd
  repeat refine only_bind (only_pst (by decide)) fun _ => ?_
  exact only_pst (by decide)

theorem prologue_only : (prologue : Cmd F _).Only NotInput :=
  only_bind (only_ld _ _) fun _ => only_bind (only_ld _ _) fun _ => only_bind (only_pst (by decide)) fun _ =>
    only_bind (heads_only 8 (by omega)) fun _ => only_bind (kvCmd_only 0 _ _ _) fun _ => kvCmd_only 1 _ _ _

theorem scoreCmd_only (g : Nat) (hg : g < 2) (c : Nat) (hc : c < 8) (q : FVec F (V2 64 256) .fp8e4m3) (r : FVec F (V2 1 256) .f32)
    (sl : FVec F (V2 8 128) .f32) (qb : BitVec 32) {S : B → Prop} : (scoreCmd g hg c hc q r sl qb).Only S :=
  only_bind (only_ld _ _) fun _ => only_bind (only_ld _ _) fun _ => only_bind (only_ld _ _) fun _ => only_bind (only_ld _ _) fun _ => only_pure _

theorem keepCmd_only (c : Nat) (hc : c < 8) (mu : FVec F (V2 1 256) .f32) (u : FVec F (V2 256 256) .f32) : (keepCmd c hc mu u).Only (· = .u) :=
  only_bind (only_pst rfl) fun _ => only_pure _

theorem scoreLoop_only (g : Nat) (hg : g < 2) (q : FVec F (V2 64 256) .fp8e4m3) (r : FVec F (V2 1 256) .f32) (sl : FVec F (V2 8 128) .f32) (qb : BitVec 32) :
    ∀ (n : Nat) (h : n ≤ 8), (scoreLoop g hg q r sl qb n h).Only (· = .u)
  | 0, _ => trivial
  | n + 1, h => only_bind (scoreLoop_only g hg q r sl qb n (by omega)) fun _ => only_bind (scoreCmd_only _ _ _ _ _ _ _ _) fun _ => keepCmd_only _ _ _ _

theorem weightCmd_only (g : Nat) (hg : g < 2) (c : Nat) (hc : c < 8) (mu l : FVec F (V2 1 256) .f32) : (weightCmd g hg c hc mu l).Only (· = .w) :=
  only_bind (only_ld _ _) fun _ => only_bind (only_pst rfl) fun _ => only_bind (only_ld _ _) fun _ => only_pure _

theorem weightLoop_only (g : Nat) (hg : g < 2) (mu : FVec F (V2 1 256) .f32) : ∀ (n : Nat) (h : n ≤ 8), (weightLoop g hg mu n h).Only (· = .w)
  | 0, _ => trivial
  | n + 1, h => only_bind (weightLoop_only g hg mu n (by omega)) fun _ => weightCmd_only _ _ _ _ _ _

/-- A buffer a tile may store into. -/
def IsWork (b : B) : Prop := b = .u ∨ b = .w ∨ b = .ot

theorem tileCmd_only (cR : F .f32) (sl : FVec F (V2 8 128) .f32) (h : Nat) (hh : h < 8) (g : Nat) (hg : g < 2) (t : Nat) (ht : t < 8) (qb : BitVec 32) :
    (tileCmd cR sl h hh g hg t ht qb).Only IsWork :=
  only_bind (only_ld _ _) fun _ => only_bind (only_ld _ _) fun _ =>
    only_bind (only_mono (scoreLoop_only _ _ _ _ _ _ _ _) fun _ h => .inl h) fun _ => only_bind (scoreCmd_only _ _ _ _ _ _ _ _) fun _ => only_bind (only_ld _ _) fun _ =>
    only_bind (only_mono (keepCmd_only _ _ _ _) fun _ h => .inl h) fun _ => only_bind (only_mono (weightLoop_only _ _ _ _ _) fun _ h => .inr (.inl h)) fun _ =>
    only_bind (only_ld _ _) fun _ => only_bind (only_ld _ _) fun _ => only_pst (.inr (.inr rfl))

theorem headTrip_only (cL cR : F .f32) (w : BitVec 32) (h : Nat) (hh : h < 8) (g : Nat) (hg : g < 2) : (headTrip cL cR w h hh g hg).Only IsWork :=
  only_bind (tileCmd_only _ _ _ _ _ _ _ _ _) fun _ => only_bind (tileCmd_only _ _ _ _ _ _ _ _ _) fun _ => only_bind (tileCmd_only _ _ _ _ _ _ _ _ _) fun _ => only_bind (tileCmd_only _ _ _ _ _ _ _ _ _) fun _ =>
    only_bind (tileCmd_only _ _ _ _ _ _ _ _ _) fun _ => only_bind (tileCmd_only _ _ _ _ _ _ _ _ _) fun _ => only_bind (tileCmd_only _ _ _ _ _ _ _ _ _) fun _ => tileCmd_only _ _ _ _ _ _ _ _ _

theorem pairCmd_only (p : Nat) (hp : p < 4) : (pairCmd p hp : Cmd F _).Only (· = .out) :=
  only_bind (only_ld _ _) fun _ => only_bind (only_ld _ _) fun _ => only_pst rfl

theorem epilogue_only : (epilogue : Cmd F _).Only (· = .out) :=
  only_bind (pairCmd_only _ _) fun _ => only_bind (pairCmd_only _ _) fun _ => only_bind (pairCmd_only _ _) fun _ => pairCmd_only _ _

/-! ## The loop over heads -/

/-- The contents after the first `n` of a loop's trips. -/
def afterTrips {N : Nat} (f : Fin N → Cmd F PUnit.{1}) (σ : St F) : Nat → St F
  | 0 => σ
  | n + 1 => if h : n < N then (run (f ⟨n, h⟩) (afterTrips f σ n)).2 else afterTrips f σ n

theorem afterTrips_succ {N : Nat} (f : Fin N → Cmd F PUnit.{1}) (σ : St F) (k : Fin N) :
    afterTrips f σ (k.val + 1) = (run (f k) (afterTrips f σ k.val)).2 := by
  rw [afterTrips, dif_pos k.isLt]

theorem afterTrips_only {N : Nat} {S : B → Prop} (f : Fin N → Cmd F PUnit.{1}) (hf : ∀ k, (f k).Only S) (σ : St F) {b : B} (hb : ¬ S b) :
    ∀ n, afterTrips f σ n b = σ b
  | 0 => rfl
  | n + 1 => by
    rw [afterTrips]
    split
    · exact (run_only (hf _) _ hb).trans (afterTrips_only f hf σ hb n)
    · exact afterTrips_only f hf σ hb n

/-- What the whole body leaves, its loop's trips given. -/
def bodyRun {N : Nat} (f : Fin N → Cmd F PUnit.{1}) (σ : St F) : St F := (run epilogue (afterTrips f (run prologue σ).2 N)).2

theorem bodyRun_input {N : Nat} (f : Fin N → Cmd F PUnit.{1}) (hf : ∀ k, (f k).Only IsWork) (σ : St F) {b : B} (hb : ¬ NotInput b) :
    bodyRun f σ b = σ b :=
  (run_only epilogue_only _ (by rintro rfl; exact hb (by decide))).trans
    ((afterTrips_only f hf _ (by rintro (rfl | rfl | rfl) <;> exact hb (by decide)) N).trans (run_only prologue_only σ hb))

end Cert.Attn

end
-- ==== Proof.BodyIdeal.lean ====
/- The printed body is the commands of `Prog.lean` at the kernel's operands: the prologue, the loop over heads with each
   trip's command, the epilogue. -/
module

public import proofs.«01_k».proof.Proof.Prog
public import proofs.«01_k».proof.Proof.Gen.KernelIdeal

@[expose] public section

noncomputable section

namespace Cert.KernelIdeal.Body

open Cert.KernelIdeal Cert.KernelIdeal.Gen Cert.Attn
open Idealize.ShloMosaic Idealize.SL.Sem

variable {F : FTy → Type} [FloatOps F] [Named F]

/-- The word the loop counts by, at trip `k`. -/
abbrev word (k : Fin k0_t1_loop.trips) : BitVec 32 := Scf.iv 0#32 1#32 k

/-- The key head's word, as the kernel divides. -/
def kvWord (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 4#32 0#32)) (Scalar.extui (Scalar.cmpi .slt 4#32 0#32)))) (Scalar.cmpi .ne (Scalar.remsi w 4#32) 0#32))
    (Scalar.subi (Scalar.divsi w 4#32) 1#32) (Scalar.divsi w 4#32)

theorem word_toNat : ∀ k : Fin k0_t1_loop.trips, (Scalar.indexCast (word k)).toNat = k.val := by decide +kernel
theorem kv_toNat : ∀ k : Fin k0_t1_loop.trips, (Scalar.indexCast (kvWord (word k))).toNat = k.val / 4 := by decide +kernel
theorem word_lt : ∀ k : Fin k0_t1_loop.trips, (Scalar.indexCast (word k)).toNat < 8 := by decide +kernel
theorem kv_lt : ∀ k : Fin k0_t1_loop.trips, (Scalar.indexCast (kvWord (word k))).toNat < 2 := by decide +kernel

/-- Trip `k` as a command, at the offsets the kernel computes. -/
def trip (k : Fin k0_t1_loop.trips) : Cmd F PUnit.{1} :=
  headTrip (Named.named κ "log2_e" 0x3FB8AA3B#32) (Named.named κ "log2_e_over_8" 0x3E38AA3B#32) (word k)
    (Scalar.indexCast (word k)).toNat (word_lt k) (Scalar.indexCast (kvWord (word k))).toNat (kv_lt k)

set_option maxRecDepth 100000 in
set_option maxHeartbeats 40000000 in
theorem body_eq (i : grid0.Coords) (arg1 : Memref sig .tc .vmem S1x2048x512 .bf16) (harg1 : arg1.IsWhole) (arg2 : Memref sig .tc .vmem S1x2048x128 .bf16) (harg2 : arg2.IsWhole)
  (arg3 : Memref sig .tc .vmem S1x2048x128 .bf16) (harg3 : arg3.IsWhole) (arg4 : Memref sig .tc .vmem S1x2048x512 .bf16) (harg4 : arg4.IsWhole)
  (arg5 : Memref sig .tc .vmem S1x8x64x2048 .fp8e4m3) (harg5 : arg5.IsWhole) (arg6 : Memref sig .tc .vmem S1x8x2048 .f32) (harg6 : arg6.IsWhole)
  (arg7 : Memref sig .tc .vmem S1x2x64x2048 .fp8e4m3) (harg7 : arg7.IsWhole) (arg8 : Memref sig .tc .vmem S1x2x2048 .f32) (harg8 : arg8.IsWhole)
  (arg9 : Memref sig .tc .vmem S1x2x64x2048 .fp8e4m3) (harg9 : arg9.IsWhole) (arg10 : Memref sig .tc .vmem S1x2x2048 .f32) (harg10 : arg10.IsWhole)
  (arg11 : Memref sig .tc .vmem S2x2048x64 .fp8e4m3) (harg11 : arg11.IsWhole) (arg12 : Memref sig .tc .vmem S2x2048x128 .f32) (harg12 : arg12.IsWhole)
  (arg13 : Memref sig .tc .vmem S2x2048x128 .f32) (harg13 : arg13.IsWhole) (arg14 : Memref sig .tc .vmem S2x2048x128 .f32) (harg14 : arg14.IsWhole)
  (arg15 : Memref sig .tc .vmem S2x2048x128 .f32) (harg15 : arg15.IsWhole) (arg16 : Memref sig .tc .vmem S2048x256 .f32) (harg16 : arg16.IsWhole)
  (arg17 : Memref sig .tc .vmem S2048x256 .f32) (harg17 : arg17.IsWhole) (arg18 : Memref sig .tc .vmem S8x64x2048 .f32) (harg18 : arg18.IsWhole)
  (arg19 : Memref sig .tc .vmem S256x256 .f32) (harg19 : arg19.IsWhole) :
    cc0_alibi_gqa (F := F) i arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19
    = (do
        toProg (refs arg1 harg1 arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19) prologue
        Scf.Loop.for k0_t1_loop k0_t1_ok PUnit.unit fun k _ =>
          toProg (refs arg1 harg1 arg2 harg2 arg3 harg3 arg4 harg4 arg5 harg5 arg6 harg6 arg7 harg7 arg8 harg8 arg9 harg9 arg10 harg10 arg11 harg11 arg12 harg12
            arg13 harg13 arg14 harg14 arg15 harg15 arg16 harg16 arg17 harg17 arg18 harg18 arg19 harg19) (trip k)
        toProg (refs arg1 harg1 arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19) epilogue) := by
  repeat (refine opc fun z => ?_)

  refine loopc (fun k a => ?_) fun _ => ?_
  · repeat (refine opc fun z => ?_)
    rfl
  · repeat (refine opc fun z => ?_)
    rfl

end Cert.KernelIdeal.Body

end
-- ==== Proof.RunIdeal.lean ====
/- The body of the kernel, run by the owner of its operands: what it leaves is `bodyRun`'s contents. The frame of the
   launch: the results' contents forgotten. -/
module

public import proofs.«01_k».proof.Proof.Only
public import proofs.«01_k».proof.Proof.BodyIdeal
public import proofs.«01_k».proof.Proof.Gen.KernelIdeal.Frame

@[expose] public section

noncomputable section

namespace Cert.KernelIdeal.Body

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- The family of the kernel's operands at grid point `t`. -/
abbrev operands (t : Fin cfg0.N) : Refs sig :=
  refs (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

/-- What the body leaves of the contents `σ`. -/
abbrev final (σ : St F) : St F := bodyRun (N := k0_t1_loop.trips) trip σ

theorem trip_only (k : Fin k0_t1_loop.trips) : (trip k : Cmd F _).Only IsWork := headTrip_only _ _ _ _ _ _ _

theorem final_input (σ : St F) {b : B} (hb : ¬ NotInput b) : final σ b = σ b := bodyRun_input _ trip_only σ hb

theorem wp_body (𝒱 : Variants) (c : Dev nD) (E : Set ℕ) (t : Fin cfg0.N) (σ : St F) {Q : PUnit.{1} → sProp 𝕄} :
    (own c (operands t) σ : sProp 𝕄) ⊢ iprop((own c (operands t) (final σ) -∗ Q ⟨⟩)
      -∗ wp frame (wpE (defs₀ (F := F)) 𝒱 (c : Thread nD τ) none) E (bodyAt0 t) Q) := by
  unfold bodyAt0
  rw [body_eq]
  rw [wp_bind]
  iintro H Hk
  iapply (wp_toProg 𝒱 c none E (operands t) prologue σ) $$ H
  iintro H
  iapply (Scf.wp_for_bind frame (wpE (defs₀ (F := F)) 𝒱 (c : Thread nD τ) none) E _ _ _ k0_t1_ok PUnit.unit _
    (fun n _ => own c (operands t) (afterTrips trip (run prologue σ).2 n)) (fun k a => by
      iintro H
      iapply (wp_toProg 𝒱 c none E (operands t) (trip k) _) $$ H
      rw [afterTrips_succ]
      iintro H
      iexact H)) $$ [H]
  · simp only [afterTrips]
    iexact H
  iintro %a H
  iapply (wp_toProg 𝒱 c none E (operands t) epilogue _) $$ H
  iexact Hk

/-- Owning the operands, one by one. -/
theorem own_eq (c : Dev nD) (t : Fin cfg0.N) (σ : St F) :
    (own c (operands t) σ : sProp 𝕄) = iprop(owns (c : Thread nD τ) (st0_0 t) fullShare (σ .x) ∗ owns (c : Thread nD τ) (st0_1 t) fullShare (σ .k) ∗ owns (c : Thread nD τ) (st0_2 t) fullShare (σ .v) ∗ owns (c : Thread nD τ) (st0_3 t) fullShare (σ .out) ∗ owns (c : Thread nD τ) (st0_4 t) fullShare (σ .qc) ∗ owns (c : Thread nD τ) (st0_5 t) fullShare (σ .qs) ∗ owns (c : Thread nD τ) (st0_6 t) fullShare (σ .kc) ∗ owns (c : Thread nD τ) (st0_7 t) fullShare (σ .ks) ∗ owns (c : Thread nD τ) (st0_8 t) fullShare (σ .vc) ∗ owns (c : Thread nD τ) (st0_9 t) fullShare (σ .vs) ∗ owns (c : Thread nD τ) (Memref.whole cc0_scratch0) fullShare (σ .km) ∗ owns (c : Thread nD τ) (Memref.whole cc0_scratch1) fullShare (σ .iv) ∗ owns (c : Thread nD τ) (Memref.whole cc0_scratch2) fullShare (σ .cs) ∗ owns (c : Thread nD τ) (Memref.whole cc0_scratch3) fullShare (σ .bk) ∗ owns (c : Thread nD τ) (Memref.whole cc0_scratch4) fullShare (σ .ev) ∗ owns (c : Thread nD τ) (Memref.whole cc0_scratch5) fullShare (σ .u) ∗ owns (c : Thread nD τ) (Memref.whole cc0_scratch6) fullShare (σ .w) ∗ owns (c : Thread nD τ) (Memref.whole cc0_scratch7) fullShare (σ .ot) ∗ owns (c : Thread nD τ) (Memref.whole cc0_scratch8) fullShare (σ .mk)) :=
  bigSep_univ_eq_bigSepL [B.x, .k, .v, .out, .qc, .qs, .kc, .ks, .vc, .vs, .km, .iv, .cs, .bk, .ev, .u, .w, .ot, .mk] (by decide) (by decide) _

/-- The state with the given contents. -/
def mkSt (f0 : B.x.shape.Idx → Elt F B.x.elt) (f1 : B.k.shape.Idx → Elt F B.k.elt) (f2 : B.v.shape.Idx → Elt F B.v.elt) (f3 : B.out.shape.Idx → Elt F B.out.elt) (f4 : B.qc.shape.Idx → Elt F B.qc.elt) (f5 : B.qs.shape.Idx → Elt F B.qs.elt) (f6 : B.kc.shape.Idx → Elt F B.kc.elt) (f7 : B.ks.shape.Idx → Elt F B.ks.elt) (f8 : B.vc.shape.Idx → Elt F B.vc.elt) (f9 : B.vs.shape.Idx → Elt F B.vs.elt) (f10 : B.km.shape.Idx → Elt F B.km.elt) (f11 : B.iv.shape.Idx → Elt F B.iv.elt) (f12 : B.cs.shape.Idx → Elt F B.cs.elt) (f13 : B.bk.shape.Idx → Elt F B.bk.elt) (f14 : B.ev.shape.Idx → Elt F B.ev.elt) (f15 : B.u.shape.Idx → Elt F B.u.elt) (f16 : B.w.shape.Idx → Elt F B.w.elt) (f17 : B.ot.shape.Idx → Elt F B.ot.elt) (f18 : B.mk.shape.Idx → Elt F B.mk.elt) : St F
  | .x => f0
  | .k => f1
  | .v => f2
  | .out => f3
  | .qc => f4
  | .qs => f5
  | .kc => f6
  | .ks => f7
  | .vc => f8
  | .vs => f9
  | .km => f10
  | .iv => f11
  | .cs => f12
  | .bk => f13
  | .ev => f14
  | .u => f15
  | .w => f16
  | .ot => f17
  | .mk => f18

set_option maxHeartbeats 1000000 in
/-- The body at a grid point: from the windows' staging buffers, at any contents, and the scratch arrays; whatever the
    scratch arrays held, the staging buffers end at what `final` says. -/
theorem sound (𝒱 : Variants) (c : Dev nD) (t : Fin cfg0.N) (X0 : B.x.shape.Idx → Elt F .bf16) (X1 X2 : B.k.shape.Idx → Elt F .bf16) {Q : PUnit.{1} → sProp 𝕄} :
    (iprop(Pipeline.ΦA spec0 c ∗ owns (c : Thread nD τ) (st0_0 t) fullShare (X0) ∗ owns (c : Thread nD τ) (st0_1 t) fullShare (X1) ∗ owns (c : Thread nD τ) (st0_2 t) fullShare (X2) ∗ (∃ X, owns (c : Thread nD τ) (st0_3 t) fullShare (X)) ∗ (∃ X, owns (c : Thread nD τ) (st0_4 t) fullShare (X)) ∗ (∃ X, owns (c : Thread nD τ) (st0_5 t) fullShare (X)) ∗ (∃ X, owns (c : Thread nD τ) (st0_6 t) fullShare (X)) ∗ (∃ X, owns (c : Thread nD τ) (st0_7 t) fullShare (X)) ∗ (∃ X, owns (c : Thread nD τ) (st0_8 t) fullShare (X)) ∗ (∃ X, owns (c : Thread nD τ) (st0_9 t) fullShare (X))) : sProp 𝕄)
      ⊢ iprop((∀ σ : St F, ⌜σ .x = X0 ∧ σ .k = X1 ∧ σ .v = X2⌝ -∗ iprop(Pipeline.ΦA spec0 c ∗ owns (c : Thread nD τ) (st0_0 t) fullShare (σ .x) ∗ owns (c : Thread nD τ) (st0_1 t) fullShare (σ .k) ∗ owns (c : Thread nD τ) (st0_2 t) fullShare (σ .v) ∗ owns (c : Thread nD τ) (st0_3 t) fullShare (final σ .out) ∗ owns (c : Thread nD τ) (st0_4 t) fullShare (final σ .qc) ∗ owns (c : Thread nD τ) (st0_5 t) fullShare (final σ .qs) ∗ owns (c : Thread nD τ) (st0_6 t) fullShare (final σ .kc) ∗ owns (c : Thread nD τ) (st0_7 t) fullShare (final σ .ks) ∗ owns (c : Thread nD τ) (st0_8 t) fullShare (final σ .vc) ∗ owns (c : Thread nD τ) (st0_9 t) fullShare (final σ .vs)) -∗ Q ⟨⟩)
        -∗ wp frame (wpE (defs₀ (F := F)) 𝒱 (c : Thread nD τ) none) Set.univ (bodyAt0 t) Q) := by
  unfold Pipeline.ΦA
  rw [scopedRest0_eq]
  simp only [← owns_whole]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩, Hg⟩, H0, H1, H2, ⟨%f3, H3⟩, ⟨%f4, H4⟩, ⟨%f5, H5⟩, ⟨%f6, H6⟩, ⟨%f7, H7⟩, ⟨%f8, H8⟩, ⟨%f9, H9⟩⟩ Hk
  iapply (wp_body 𝒱 c Set.univ t (mkSt X0 X1 X2 f3 f4 f5 f6 f7 f8 f9 f10 f11 f12 f13 f14 f15 f16 f17 f18)) $$ [H0 H1 H2 H3 H4 H5 H6 H7 H8 H9 H10 H11 H12 H13 H14 H15 H16 H17 H18]
  · rw [own_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  rw [own_eq, final_input _ (b := .x) (by decide), final_input _ (b := .k) (by decide), final_input _ (b := .v) (by decide)]
  iintro ⟨H0, H1, H2, H3, H4, H5, H6, H7, H8, H9, H10, H11, H12, H13, H14, H15, H16, H17, H18⟩
  iapply Hk $$ %(mkSt X0 X1 X2 f3 f4 f5 f6 f7 f8 f9 f10 f11 f12 f13 f14 f15 f16 f17 f18) [] [H0 H1 H2 H3 H4 H5 H6 H7 H8 H9 H10 H11 H12 H13 H14 H15 H16 H17 H18 Hg]
  · ipureintro; exact ⟨rfl, rfl, rfl⟩
  isplitl [H10 H11 H12 H13 H14 H15 H16 H17 H18 Hg]
  · isplitr [Hg]
    · isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18
    · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The frame -/

/-- The results' windows, whose contents the frame does not read. -/
def forgets : Fin 10 → Bool := fun w => decide (3 ≤ w.val)

variable (m : (ℓ : Loc nD τ sig) → Buf (Elt F) ℓ) (ρ : Dev nD → PrngReg)

/-- The proof data: the arrays as the region finds them, the inputs' blocks left in place. -/
def datsF (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
    | 4 => Pipeline.Dat.unnamed (cfg := cfg0) 4 t
    | 5 => Pipeline.Dat.unnamed (cfg := cfg0) 5 t
    | 6 => Pipeline.Dat.unnamed (cfg := cfg0) 6 t
    | 7 => Pipeline.Dat.unnamed (cfg := cfg0) 7 t
    | 8 => Pipeline.Dat.unnamed (cfg := cfg0) 8 t
    | 9 => Pipeline.Dat.unnamed (cfg := cfg0) 9 t
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem soundF (c : Dev nD) (t : Fin cfg0.N) :
    iprop((datsF m 0 c).Φ t.castSucc ∗ (datsF m 0 c).owesAt () t.castSucc ∗ (∃ d, owns (c : Thread nD τ) (st0_0 t) fullShare ((datsF m 0 c).before 0 t d)) ∗ (∃ d, owns (c : Thread nD τ) (st0_1 t) fullShare ((datsF m 0 c).before 1 t d)) ∗ (∃ d, owns (c : Thread nD τ) (st0_2 t) fullShare ((datsF m 0 c).before 2 t d)) ∗ (∃ X, owns (c : Thread nD τ) (st0_3 t) fullShare (X)) ∗ (∃ X, owns (c : Thread nD τ) (st0_4 t) fullShare (X)) ∗ (∃ X, owns (c : Thread nD τ) (st0_5 t) fullShare (X)) ∗ (∃ X, owns (c : Thread nD τ) (st0_6 t) fullShare (X)) ∗ (∃ X, owns (c : Thread nD τ) (st0_7 t) fullShare (X)) ∗ (∃ X, owns (c : Thread nD τ) (st0_8 t) fullShare (X)) ∗ (∃ X, owns (c : Thread nD τ) (st0_9 t) fullShare (X)))
      ⊢ wp frame (wpE (defs₀ (F := F)) Variants.none (c : Thread nD τ) none) Set.univ (bodyAt0 t) fun _ =>
        iprop((datsF m 0 c).Φ t.succ ∗ (datsF m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ X, owns (c : Thread nD τ) (st0_3 t) fullShare (X)) ∗ (∃ X, owns (c : Thread nD τ) (st0_4 t) fullShare (X)) ∗ (∃ X, owns (c : Thread nD τ) (st0_5 t) fullShare (X)) ∗ (∃ X, owns (c : Thread nD τ) (st0_6 t) fullShare (X)) ∗ (∃ X, owns (c : Thread nD τ) (st0_7 t) fullShare (X)) ∗ (∃ X, owns (c : Thread nD τ) (st0_8 t) fullShare (X)) ∗ (∃ X, owns (c : Thread nD τ) (st0_9 t) fullShare (X))) := by
  rw [show (datsF m 0 c).Φ t.succ = Pipeline.ΦA spec0 c from rfl, show (datsF m 0 c).Φ t.castSucc = Pipeline.ΦA spec0 c from rfl,
    show (datsF m 0 c).owesAt () t.succ = (datsF m 0 c).owesAt () t.castSucc from rfl]
  simp only [before0_0_of m (datsF m 0 c) rfl (fun _ => rfl), before0_1_of m (datsF m 0 c) rfl (fun _ => rfl), before0_2_of m (datsF m 0 c) rfl (fun _ => rfl)]
  iintro ⟨HP, HO, ⟨%d0, H0⟩, ⟨%d1, H1⟩, ⟨%d2, H2⟩, Hr⟩
  iapply (sound Variants.none c t (iblk m c 0 t) (iblk m c 1 t) (iblk m c 2 t)) $$ [HP H0 H1 H2 Hr]
  · isplitl [HP]; · iexact HP
    isplitl [H0]; · iexact H0
    isplitl [H1]; · iexact H1
    isplitl [H2]; · iexact H2
    iexact Hr
  iintro %σ %hσ ⟨HP, H0, H1, H2, H3, H4, H5, H6, H7, H8, H9⟩
  obtain ⟨h0, h1, h2⟩ := hσ
  rw [h0, h1, h2]
  isplitl [HP]; · iexact HP
  isplitl [HO]; · iexact HO
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

theorem bodyF (c : Dev nD) : BodyObligation (datsF m 0 c) (defs₀ (F := F)) Variants.none () Set.univ forgets := fun t => by
  rw [bigSep_W0, bigSep_W0, defs₀_row]
  exact triple_restated (soundF m c t) rfl .rfl fun _ => .rfl

/-- The buffers the host writes after the region. -/
def written : Finset (Ref sig .tc) := {main_v1, main_v2, main_v3, main_v4, main_v5, main_v6}

theorem writes_sub : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl | rfl | rfl | rfl | rfl <;>
  · simp only [StableHlo.unary_writes, Finset.mem_singleton] at hb
    obtain rfl : b = _ := by_contra fun h => StableHlo.devRef_ne_of_ne h hb
    decide

-- the implicit arguments are found by unifying the conclusion with this statement
set_option backward.isDefEq.respectTransparency.types false in
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_around_T_forget (Q' := _) cfgs (datsF m) (0 : Fin 1) launch0 defs₀ Variants.none forgets written m ρ main
    (hbody := fun c => (bodyF m c).loose) (hshare := fun c => (datsF m 0 c).share_full fun _ => rfl)
    (howed := fun _ _ => rfl) (V₀ := V0 m) (opss := [hostOps1]) (hsub := sfx_sub) (hfresh := sfx_fresh) (hkeep := sfx_keeps)
    (hT := writes_sub) (hmain := hmain m Variants.none) (hA := fun _ _ => rfl) (hΦ := fun _ _ => rfl)
    (hQ' := fun r h => ⟨fun c => ⟨Pipeline.RDat.FramePostR.arr_in h.1 c 0 rfl, Pipeline.RDat.FramePostR.arr_in h.1 c 1 rfl, Pipeline.RDat.FramePostR.arr_in h.1 c 2 rfl⟩, h.2⟩)

end Cert.KernelIdeal.Body

end
-- ==== Proof.BodyKernel.lean ====
/- The printed body is the commands of `Prog.lean` at the kernel's operands: the prologue, the loop over heads with each
   trip's command, the epilogue. -/
module

public import proofs.«01_k».proof.Proof.Prog
public import proofs.«01_k».proof.Proof.Gen.Kernel

@[expose] public section

noncomputable section

namespace Cert.Kernel.Body

open Cert.Kernel Cert.Kernel.Gen Cert.Attn
open Idealize.ShloMosaic Idealize.SL.Sem

variable {F : FTy → Type} [FloatOps F]

/-- The word the loop counts by, at trip `k`. -/
abbrev word (k : Fin k0_t1_loop.trips) : BitVec 32 := Scf.iv 0#32 1#32 k

/-- The key head's word, as the kernel divides. -/
def kvWord (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 4#32 0#32)) (Scalar.extui (Scalar.cmpi .slt 4#32 0#32)))) (Scalar.cmpi .ne (Scalar.remsi w 4#32) 0#32))
    (Scalar.subi (Scalar.divsi w 4#32) 1#32) (Scalar.divsi w 4#32)

theorem word_toNat : ∀ k : Fin k0_t1_loop.trips, (Scalar.indexCast (word k)).toNat = k.val := by decide +kernel
theorem kv_toNat : ∀ k : Fin k0_t1_loop.trips, (Scalar.indexCast (kvWord (word k))).toNat = k.val / 4 := by decide +kernel
theorem word_lt : ∀ k : Fin k0_t1_loop.trips, (Scalar.indexCast (word k)).toNat < 8 := by decide +kernel
theorem kv_lt : ∀ k : Fin k0_t1_loop.trips, (Scalar.indexCast (kvWord (word k))).toNat < 2 := by decide +kernel

/-- Trip `k` as a command, at the offsets the kernel computes. -/
def trip (k : Fin k0_t1_loop.trips) : Cmd F PUnit.{1} :=
  headTrip (Scalar.ofBits .f32 0x3FB8AA3B#32) (Scalar.ofBits .f32 0x3E38AA3B#32) (word k)
    (Scalar.indexCast (word k)).toNat (word_lt k) (Scalar.indexCast (kvWord (word k))).toNat (kv_lt k)

set_option maxRecDepth 100000 in
set_option maxHeartbeats 40000000 in
theorem body_eq (i : grid0.Coords) (arg1 : Memref sig .tc .vmem S1x2048x512 .bf16) (harg1 : arg1.IsWhole) (arg2 : Memref sig .tc .vmem S1x2048x128 .bf16) (harg2 : arg2.IsWhole)
  (arg3 : Memref sig .tc .vmem S1x2048x128 .bf16) (harg3 : arg3.IsWhole) (arg4 : Memref sig .tc .vmem S1x2048x512 .bf16) (harg4 : arg4.IsWhole)
  (arg5 : Memref sig .tc .vmem S1x8x64x2048 .fp8e4m3) (harg5 : arg5.IsWhole) (arg6 : Memref sig .tc .vmem S1x8x2048 .f32) (harg6 : arg6.IsWhole)
  (arg7 : Memref sig .tc .vmem S1x2x64x2048 .fp8e4m3) (harg7 : arg7.IsWhole) (arg8 : Memref sig .tc .vmem S1x2x2048 .f32) (harg8 : arg8.IsWhole)
  (arg9 : Memref sig .tc .vmem S1x2x64x2048 .fp8e4m3) (harg9 : arg9.IsWhole) (arg10 : Memref sig .tc .vmem S1x2x2048 .f32) (harg10 : arg10.IsWhole)
  (arg11 : Memref sig .tc .vmem S2x2048x64 .fp8e4m3) (harg11 : arg11.IsWhole) (arg12 : Memref sig .tc .vmem S2x2048x128 .f32) (harg12 : arg12.IsWhole)
  (arg13 : Memref sig .tc .vmem S2x2048x128 .f32) (harg13 : arg13.IsWhole) (arg14 : Memref sig .tc .vmem S2x2048x128 .f32) (harg14 : arg14.IsWhole)
  (arg15 : Memref sig .tc .vmem S2x2048x128 .f32) (harg15 : arg15.IsWhole) (arg16 : Memref sig .tc .vmem S2048x256 .f32) (harg16 : arg16.IsWhole)
  (arg17 : Memref sig .tc .vmem S2048x256 .f32) (harg17 : arg17.IsWhole) (arg18 : Memref sig .tc .vmem S8x64x2048 .f32) (harg18 : arg18.IsWhole)
  (arg19 : Memref sig .tc .vmem S256x256 .f32) (harg19 : arg19.IsWhole) :
    cc0_alibi_gqa (F := F) i arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19
    = (do
        toProg (refs arg1 harg1 arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19) prologue
        Scf.Loop.for k0_t1_loop k0_t1_ok PUnit.unit fun k _ =>
          toProg (refs arg1 harg1 arg2 harg2 arg3 harg3 arg4 harg4 arg5 harg5 arg6 harg6 arg7 harg7 arg8 harg8 arg9 harg9 arg10 harg10 arg11 harg11 arg12 harg12
            arg13 harg13 arg14 harg14 arg15 harg15 arg16 harg16 arg17 harg17 arg18 harg18 arg19 harg19) (trip k)
        toProg (refs arg1 harg1 arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19) epilogue) := by
  repeat (refine opc fun z => ?_)

  refine loopc (fun k a => ?_) fun _ => ?_
  · repeat (refine opc fun z => ?_)
    rfl
  · repeat (refine opc fun z => ?_)
    rfl

end Cert.Kernel.Body

end
-- ==== Proof.RunKernel.lean ====
/- The body of the kernel, run by the owner of its operands: what it leaves is `bodyRun`'s contents. The frame of the
   launch: the results' contents forgotten. -/
module

public import proofs.«01_k».proof.Proof.Only
public import proofs.«01_k».proof.Proof.BodyKernel
public import proofs.«01_k».proof.Proof.Gen.Kernel.Frame

@[expose] public section

noncomputable section

namespace Cert.Kernel.Body

open Cert.Kernel Cert.Kernel.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The family of the kernel's operands at grid point `t`. -/
abbrev operands (t : Fin cfg0.N) : Refs sig :=
  refs (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

/-- What the body leaves of the contents `σ`. -/
abbrev final (σ : St F) : St F := bodyRun (N := k0_t1_loop.trips) trip σ

theorem trip_only (k : Fin k0_t1_loop.trips) : (trip k : Cmd F _).Only IsWork := headTrip_only _ _ _ _ _ _ _

theorem final_input (σ : St F) {b : B} (hb : ¬ NotInput b) : final σ b = σ b := bodyRun_input _ trip_only σ hb

theorem wp_body (𝒱 : Variants) (c : Dev nD) (E : Set ℕ) (t : Fin cfg0.N) (σ : St F) {Q : PUnit.{1} → sProp 𝕄} :
    (own c (operands t) σ : sProp 𝕄) ⊢ iprop((own c (operands t) (final σ) -∗ Q ⟨⟩)
      -∗ wp frame (wpE (defs₀ (F := F)) 𝒱 (c : Thread nD τ) none) E (bodyAt0 t) Q) := by
  unfold bodyAt0
  rw [body_eq]
  rw [wp_bind]
  iintro H Hk
  iapply (wp_toProg 𝒱 c none E (operands t) prologue σ) $$ H
  iintro H
  iapply (Scf.wp_for_bind frame (wpE (defs₀ (F := F)) 𝒱 (c : Thread nD τ) none) E _ _ _ k0_t1_ok PUnit.unit _
    (fun n _ => own c (operands t) (afterTrips trip (run prologue σ).2 n)) (fun k a => by
      iintro H
      iapply (wp_toProg 𝒱 c none E (operands t) (trip k) _) $$ H
      rw [afterTrips_succ]
      iintro H
      iexact H)) $$ [H]
  · simp only [afterTrips]
    iexact H
  iintro %a H
  iapply (wp_toProg 𝒱 c none E (operands t) epilogue _) $$ H
  iexact Hk

/-- Owning the operands, one by one. -/
theorem own_eq (c : Dev nD) (t : Fin cfg0.N) (σ : St F) :
    (own c (operands t) σ : sProp 𝕄) = iprop(owns (c : Thread nD τ) (st0_0 t) fullShare (σ .x) ∗ owns (c : Thread nD τ) (st0_1 t) fullShare (σ .k) ∗ owns (c : Thread nD τ) (st0_2 t) fullShare (σ .v) ∗ owns (c : Thread nD τ) (st0_3 t) fullShare (σ .out) ∗ owns (c : Thread nD τ) (st0_4 t) fullShare (σ .qc) ∗ owns (c : Thread nD τ) (st0_5 t) fullShare (σ .qs) ∗ owns (c : Thread nD τ) (st0_6 t) fullShare (σ .kc) ∗ owns (c : Thread nD τ) (st0_7 t) fullShare (σ .ks) ∗ owns (c : Thread nD τ) (st0_8 t) fullShare (σ .vc) ∗ owns (c : Thread nD τ) (st0_9 t) fullShare (σ .vs) ∗ owns (c : Thread nD τ) (Memref.whole cc0_scratch0) fullShare (σ .km) ∗ owns (c : Thread nD τ) (Memref.whole cc0_scratch1) fullShare (σ .iv) ∗ owns (c : Thread nD τ) (Memref.whole cc0_scratch2) fullShare (σ .cs) ∗ owns (c : Thread nD τ) (Memref.whole cc0_scratch3) fullShare (σ .bk) ∗ owns (c : Thread nD τ) (Memref.whole cc0_scratch4) fullShare (σ .ev) ∗ owns (c : Thread nD τ) (Memref.whole cc0_scratch5) fullShare (σ .u) ∗ owns (c : Thread nD τ) (Memref.whole cc0_scratch6) fullShare (σ .w) ∗ owns (c : Thread nD τ) (Memref.whole cc0_scratch7) fullShare (σ .ot) ∗ owns (c : Thread nD τ) (Memref.whole cc0_scratch8) fullShare (σ .mk)) :=
  bigSep_univ_eq_bigSepL [B.x, .k, .v, .out, .qc, .qs, .kc, .ks, .vc, .vs, .km, .iv, .cs, .bk, .ev, .u, .w, .ot, .mk] (by decide) (by decide) _

/-- The state with the given contents. -/
def mkSt (f0 : B.x.shape.Idx → Elt F B.x.elt) (f1 : B.k.shape.Idx → Elt F B.k.elt) (f2 : B.v.shape.Idx → Elt F B.v.elt) (f3 : B.out.shape.Idx → Elt F B.out.elt) (f4 : B.qc.shape.Idx → Elt F B.qc.elt) (f5 : B.qs.shape.Idx → Elt F B.qs.elt) (f6 : B.kc.shape.Idx → Elt F B.kc.elt) (f7 : B.ks.shape.Idx → Elt F B.ks.elt) (f8 : B.vc.shape.Idx → Elt F B.vc.elt) (f9 : B.vs.shape.Idx → Elt F B.vs.elt) (f10 : B.km.shape.Idx → Elt F B.km.elt) (f11 : B.iv.shape.Idx → Elt F B.iv.elt) (f12 : B.cs.shape.Idx → Elt F B.cs.elt) (f13 : B.bk.shape.Idx → Elt F B.bk.elt) (f14 : B.ev.shape.Idx → Elt F B.ev.elt) (f15 : B.u.shape.Idx → Elt F B.u.elt) (f16 : B.w.shape.Idx → Elt F B.w.elt) (f17 : B.ot.shape.Idx → Elt F B.ot.elt) (f18 : B.mk.shape.Idx → Elt F B.mk.elt) : St F
  | .x => f0
  | .k => f1
  | .v => f2
  | .out => f3
  | .qc => f4
  | .qs => f5
  | .kc => f6
  | .ks => f7
  | .vc => f8
  | .vs => f9
  | .km => f10
  | .iv => f11
  | .cs => f12
  | .bk => f13
  | .ev => f14
  | .u => f15
  | .w => f16
  | .ot => f17
  | .mk => f18

set_option maxHeartbeats 1000000 in
/-- The body at a grid point: from the windows' staging buffers, at any contents, and the scratch arrays; whatever the
    scratch arrays held, the staging buffers end at what `final` says. -/
theorem sound (𝒱 : Variants) (c : Dev nD) (t : Fin cfg0.N) (X0 : B.x.shape.Idx → Elt F .bf16) (X1 X2 : B.k.shape.Idx → Elt F .bf16) {Q : PUnit.{1} → sProp 𝕄} :
    (iprop(Pipeline.ΦA spec0 c ∗ owns (c : Thread nD τ) (st0_0 t) fullShare (X0) ∗ owns (c : Thread nD τ) (st0_1 t) fullShare (X1) ∗ owns (c : Thread nD τ) (st0_2 t) fullShare (X2) ∗ (∃ X, owns (c : Thread nD τ) (st0_3 t) fullShare (X)) ∗ (∃ X, owns (c : Thread nD τ) (st0_4 t) fullShare (X)) ∗ (∃ X, owns (c : Thread nD τ) (st0_5 t) fullShare (X)) ∗ (∃ X, owns (c : Thread nD τ) (st0_6 t) fullShare (X)) ∗ (∃ X, owns (c : Thread nD τ) (st0_7 t) fullShare (X)) ∗ (∃ X, owns (c : Thread nD τ) (st0_8 t) fullShare (X)) ∗ (∃ X, owns (c : Thread nD τ) (st0_9 t) fullShare (X))) : sProp 𝕄)
      ⊢ iprop((∀ σ : St F, ⌜σ .x = X0 ∧ σ .k = X1 ∧ σ .v = X2⌝ -∗ iprop(Pipeline.ΦA spec0 c ∗ owns (c : Thread nD τ) (st0_0 t) fullShare (σ .x) ∗ owns (c : Thread nD τ) (st0_1 t) fullShare (σ .k) ∗ owns (c : Thread nD τ) (st0_2 t) fullShare (σ .v) ∗ owns (c : Thread nD τ) (st0_3 t) fullShare (final σ .out) ∗ owns (c : Thread nD τ) (st0_4 t) fullShare (final σ .qc) ∗ owns (c : Thread nD τ) (st0_5 t) fullShare (final σ .qs) ∗ owns (c : Thread nD τ) (st0_6 t) fullShare (final σ .kc) ∗ owns (c : Thread nD τ) (st0_7 t) fullShare (final σ .ks) ∗ owns (c : Thread nD τ) (st0_8 t) fullShare (final σ .vc) ∗ owns (c : Thread nD τ) (st0_9 t) fullShare (final σ .vs)) -∗ Q ⟨⟩)
        -∗ wp frame (wpE (defs₀ (F := F)) 𝒱 (c : Thread nD τ) none) Set.univ (bodyAt0 t) Q) := by
  unfold Pipeline.ΦA
  rw [scopedRest0_eq]
  simp only [← owns_whole]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩, Hg⟩, H0, H1, H2, ⟨%f3, H3⟩, ⟨%f4, H4⟩, ⟨%f5, H5⟩, ⟨%f6, H6⟩, ⟨%f7, H7⟩, ⟨%f8, H8⟩, ⟨%f9, H9⟩⟩ Hk
  iapply (wp_body 𝒱 c Set.univ t (mkSt X0 X1 X2 f3 f4 f5 f6 f7 f8 f9 f10 f11 f12 f13 f14 f15 f16 f17 f18)) $$ [H0 H1 H2 H3 H4 H5 H6 H7 H8 H9 H10 H11 H12 H13 H14 H15 H16 H17 H18]
  · rw [own_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  rw [own_eq, final_input _ (b := .x) (by decide), final_input _ (b := .k) (by decide), final_input _ (b := .v) (by decide)]
  iintro ⟨H0, H1, H2, H3, H4, H5, H6, H7, H8, H9, H10, H11, H12, H13, H14, H15, H16, H17, H18⟩
  iapply Hk $$ %(mkSt X0 X1 X2 f3 f4 f5 f6 f7 f8 f9 f10 f11 f12 f13 f14 f15 f16 f17 f18) [] [H0 H1 H2 H3 H4 H5 H6 H7 H8 H9 H10 H11 H12 H13 H14 H15 H16 H17 H18 Hg]
  · ipureintro; exact ⟨rfl, rfl, rfl⟩
  isplitl [H10 H11 H12 H13 H14 H15 H16 H17 H18 Hg]
  · isplitr [Hg]
    · isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18
    · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The frame -/

/-- The results' windows, whose contents the frame does not read. -/
def forgets : Fin 10 → Bool := fun w => decide (3 ≤ w.val)

variable (m : (ℓ : Loc nD τ sig) → Buf (Elt F) ℓ) (ρ : Dev nD → PrngReg)

/-- The proof data: the arrays as the region finds them, the inputs' blocks left in place. -/
def datsF (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
    | 4 => Pipeline.Dat.unnamed (cfg := cfg0) 4 t
    | 5 => Pipeline.Dat.unnamed (cfg := cfg0) 5 t
    | 6 => Pipeline.Dat.unnamed (cfg := cfg0) 6 t
    | 7 => Pipeline.Dat.unnamed (cfg := cfg0) 7 t
    | 8 => Pipeline.Dat.unnamed (cfg := cfg0) 8 t
    | 9 => Pipeline.Dat.unnamed (cfg := cfg0) 9 t
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem soundF (c : Dev nD) (t : Fin cfg0.N) :
    iprop((datsF m 0 c).Φ t.castSucc ∗ (datsF m 0 c).owesAt () t.castSucc ∗ (∃ d, owns (c : Thread nD τ) (st0_0 t) fullShare ((datsF m 0 c).before 0 t d)) ∗ (∃ d, owns (c : Thread nD τ) (st0_1 t) fullShare ((datsF m 0 c).before 1 t d)) ∗ (∃ d, owns (c : Thread nD τ) (st0_2 t) fullShare ((datsF m 0 c).before 2 t d)) ∗ (∃ X, owns (c : Thread nD τ) (st0_3 t) fullShare (X)) ∗ (∃ X, owns (c : Thread nD τ) (st0_4 t) fullShare (X)) ∗ (∃ X, owns (c : Thread nD τ) (st0_5 t) fullShare (X)) ∗ (∃ X, owns (c : Thread nD τ) (st0_6 t) fullShare (X)) ∗ (∃ X, owns (c : Thread nD τ) (st0_7 t) fullShare (X)) ∗ (∃ X, owns (c : Thread nD τ) (st0_8 t) fullShare (X)) ∗ (∃ X, owns (c : Thread nD τ) (st0_9 t) fullShare (X)))
      ⊢ wp frame (wpE (defs₀ (F := F)) Variants.none (c : Thread nD τ) none) Set.univ (bodyAt0 t) fun _ =>
        iprop((datsF m 0 c).Φ t.succ ∗ (datsF m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ X, owns (c : Thread nD τ) (st0_3 t) fullShare (X)) ∗ (∃ X, owns (c : Thread nD τ) (st0_4 t) fullShare (X)) ∗ (∃ X, owns (c : Thread nD τ) (st0_5 t) fullShare (X)) ∗ (∃ X, owns (c : Thread nD τ) (st0_6 t) fullShare (X)) ∗ (∃ X, owns (c : Thread nD τ) (st0_7 t) fullShare (X)) ∗ (∃ X, owns (c : Thread nD τ) (st0_8 t) fullShare (X)) ∗ (∃ X, owns (c : Thread nD τ) (st0_9 t) fullShare (X))) := by
  rw [show (datsF m 0 c).Φ t.succ = Pipeline.ΦA spec0 c from rfl, show (datsF m 0 c).Φ t.castSucc = Pipeline.ΦA spec0 c from rfl,
    show (datsF m 0 c).owesAt () t.succ = (datsF m 0 c).owesAt () t.castSucc from rfl]
  simp only [before0_0_of m (datsF m 0 c) rfl (fun _ => rfl), before0_1_of m (datsF m 0 c) rfl (fun _ => rfl), before0_2_of m (datsF m 0 c) rfl (fun _ => rfl)]
  iintro ⟨HP, HO, ⟨%d0, H0⟩, ⟨%d1, H1⟩, ⟨%d2, H2⟩, Hr⟩
  iapply (sound Variants.none c t (iblk m c 0 t) (iblk m c 1 t) (iblk m c 2 t)) $$ [HP H0 H1 H2 Hr]
  · isplitl [HP]; · iexact HP
    isplitl [H0]; · iexact H0
    isplitl [H1]; · iexact H1
    isplitl [H2]; · iexact H2
    iexact Hr
  iintro %σ %hσ ⟨HP, H0, H1, H2, H3, H4, H5, H6, H7, H8, H9⟩
  obtain ⟨h0, h1, h2⟩ := hσ
  rw [h0, h1, h2]
  isplitl [HP]; · iexact HP
  isplitl [HO]; · iexact HO
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

theorem bodyF (c : Dev nD) : BodyObligation (datsF m 0 c) (defs₀ (F := F)) Variants.none () Set.univ forgets := fun t => by
  rw [bigSep_W0, bigSep_W0, defs₀_row]
  exact triple_restated (soundF m c t) rfl .rfl fun _ => .rfl

/-- The buffers the host writes after the region. -/
def written : Finset (Ref sig .tc) := {main_v1, main_v2, main_v3, main_v4, main_v5, main_v6}

theorem writes_sub : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl | rfl | rfl | rfl | rfl <;>
  · simp only [StableHlo.unary_writes, Finset.mem_singleton] at hb
    obtain rfl : b = _ := by_contra fun h => StableHlo.devRef_ne_of_ne h hb
    decide

-- the implicit arguments are found by unifying the conclusion with this statement
set_option backward.isDefEq.respectTransparency.types false in
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_around_T_forget (Q' := _) cfgs (datsF m) (0 : Fin 1) launch0 defs₀ Variants.none forgets written m ρ main
    (hbody := fun c => (bodyF m c).loose) (hshare := fun c => (datsF m 0 c).share_full fun _ => rfl)
    (howed := fun _ _ => rfl) (V₀ := V0 m) (opss := [hostOps1]) (hsub := sfx_sub) (hfresh := sfx_fresh) (hkeep := sfx_keeps)
    (hT := writes_sub) (hmain := hmain m Variants.none) (hA := fun _ _ => rfl) (hΦ := fun _ _ => rfl)
    (hQ' := fun r h => ⟨fun c => ⟨Pipeline.RDat.FramePostR.arr_in h.1 c 0 rfl, Pipeline.RDat.FramePostR.arr_in h.1 c 1 rfl, Pipeline.RDat.FramePostR.arr_in h.1 c 2 rfl⟩, h.2⟩)

end Cert.Kernel.Body

end
-- ==== Proof.Scale.lean ====
/- The scales over the reals: the exponent field of a magnitude, the power of two it stands for, its reciprocal and its
   exponent, read off the bit patterns the kernel makes. -/
module

public import Idealize.ShloMosaic.Lib.Pointwise
public import Mathlib.Algebra.Order.Archimedean.Basic

@[expose] public section

set_option maxRecDepth 16384

noncomputable section

namespace Cert.Attn

open Idealize.ShloMosaic Idealize.SL.Sem

/-! ## Bit patterns of powers of two -/

theorem shl_neg : ∀ n : Fin 256, ((BitVec.ofNat 32 n.val <<< 23).extractLsb' (8 + 23) 1 == 1#1) = false := by decide
theorem shl_exp : ∀ n : Fin 256, ((BitVec.ofNat 32 n.val <<< 23).extractLsb' 23 8).toNat = n.val := by decide
theorem shl_frac : ∀ n : Fin 256, ((BitVec.ofNat 32 n.val <<< 23).extractLsb' 0 23).toNat = 0 := by decide

theorem shli_23 (u : ArithUnit) (b : BitVec 32) : IntOp.shli u b 23#32 = b <<< 23 := by
  cases u <;> simp [IntOp.shli]

/-- The pattern whose exponent field is `n` is two to the `n` less 127. -/
theorem pow2_bits (u : ArithUnit) (n : ℕ) (h1 : 1 ≤ n) (h2 : n ≤ 254) :
    Ideal.ofBits .f32 (IntOp.shli u (BitVec.ofNat 32 n) 23#32) = (((2 : ℝ) ^ ((n : ℤ) - 127) : ℝ) : EReal) := by
  rw [shli_23]
  have a := shl_neg ⟨n, by omega⟩
  have b := shl_exp ⟨n, by omega⟩
  have d := shl_frac ⟨n, by omega⟩
  simp only at a b d
  have e1 : ¬ n = 2 ^ 8 - 1 := by norm_num; omega
  have e2 : ¬ n = 0 := by omega
  have e3 : (2 : ℝ) ^ ((n : ℤ) - 127) = (1 : ℝ) * ((2 ^ 23 + 0 : ℕ) : ℝ) * (2 : ℝ) ^ ((n : ℤ) - (2 ^ (8 - 1) - 1) - 23) := by
    rw [show ((n : ℤ) - 127) = ((n : ℤ) - (2 ^ (8 - 1) - 1) - 23) + 23 by norm_num, zpow_add₀ (by norm_num)]
    norm_num [mul_comm]
  rw [e3]
  simp only [Ideal.ofBits, Ideal.ieee, a, b, d, if_neg e1, if_neg e2]
  rfl

theorem zero_bits (u : ArithUnit) : Ideal.ofBits .f32 (IntOp.shli u (BitVec.ofNat 32 0) 23#32) = 0 := by
  rw [shli_23]
  have a := shl_neg ⟨0, by omega⟩
  have b := shl_exp ⟨0, by omega⟩
  have d := shl_frac ⟨0, by omega⟩
  simp only at a b d
  simp [Ideal.ofBits, Ideal.ieee, a, b, d]

theorem top_bits (u : ArithUnit) : Ideal.ofBits .f32 (IntOp.shli u (BitVec.ofNat 32 255) 23#32) = ⊤ := by
  rw [shli_23]
  have a := shl_neg ⟨255, by omega⟩
  have b := shl_exp ⟨255, by omega⟩
  have d := shl_frac ⟨255, by omega⟩
  simp only at a b d
  simp [Ideal.ofBits, Ideal.ieee, a, b, d]

/-! ## Constants -/

/-- The single-precision reciprocal of 448. -/
def recip448 : ℝ := 9586981 / 2 ^ 32

theorem ofBits_recip448 : Ideal.ofBits .f32 0x3B124925#32 = ((recip448 : ℝ) : EReal) := by
  simp [Ideal.ofBits, Ideal.ieee, recip448]
  rw [← EReal.coe_mul]
  norm_num

theorem ofBits_448 : Ideal.ofBits .f32 0x43E00000#32 = ((448 : ℝ) : EReal) := by
  simp [Ideal.ofBits, Ideal.ieee]
  rw [← EReal.coe_mul]
  norm_num

theorem ofBits_neg448 : Ideal.ofBits .f32 0xC3E00000#32 = ((-448 : ℝ) : EReal) := by
  simp [Ideal.ofBits, Ideal.ieee]
  rw [← EReal.coe_mul]
  norm_num

theorem ofBits_bot : Ideal.ofBits .f32 0xFF800000#32 = (⊥ : EReal) := by simp [Ideal.ofBits, Ideal.ieee]
theorem ofBits_top : Ideal.ofBits .f32 0x7F800000#32 = (⊤ : EReal) := by simp [Ideal.ofBits, Ideal.ieee]

theorem ofBits_two : Ideal.ofBits .f32 0x40000000#32 = ((2 : ℝ) : EReal) := by
  simp [Ideal.ofBits, Ideal.ieee]
  rw [← EReal.coe_mul]
  norm_num

/-! ## The scale of a magnitude -/

open Classical in
/-- The exponent of the greatest power of two that does not exceed `y`. -/
def ilog (y : ℝ) : ℤ := if h : 0 < y then (exists_mem_Ico_zpow h (one_lt_two)).choose else 0

theorem ilog_le {y : ℝ} (h : 0 < y) : (2 : ℝ) ^ ilog y ≤ y := by
  rw [ilog, dif_pos h]
  exact (exists_mem_Ico_zpow h (one_lt_two)).choose_spec.1

theorem lt_ilog_succ {y : ℝ} (h : 0 < y) : y < (2 : ℝ) ^ (ilog y + 1) := by
  rw [ilog, dif_pos h]
  exact (exists_mem_Ico_zpow h (one_lt_two)).choose_spec.2

theorem zpow_le_iff {y : ℝ} (h : 0 < y) (m : ℤ) : (2 : ℝ) ^ m ≤ y ↔ m ≤ ilog y := by
  constructor
  · intro hm
    have := (zpow_lt_zpow_iff_right₀ (one_lt_two (α := ℝ))).mp (hm.trans_lt (lt_ilog_succ h))
    omega
  · intro hm
    exact ((zpow_le_zpow_iff_right₀ (one_lt_two (α := ℝ))).mpr hm).trans (ilog_le h)

theorem lt_zpow_iff {y : ℝ} (h : 0 < y) (m : ℤ) : y < (2 : ℝ) ^ m ↔ ilog y < m := by
  rw [← not_le, ← not_le, zpow_le_iff h]

/-- The exponent of the scale of the magnitude `a`: the least power of two above `a / 448`, and one for zero. -/
def expn (a : ℝ) : ℤ := if a = 0 then 0 else ilog (a * recip448) + 1

/-- A magnitude the quantiser handles exactly. -/
def Mag (a : ℝ) : Prop := a = 0 ∨ (2 : ℝ) ^ (-115 : ℤ) ≤ a ∧ a ≤ (2 : ℝ) ^ (120 : ℤ)

theorem recip448_pos : 0 < recip448 := by unfold recip448; norm_num

theorem Mag.nonneg {a : ℝ} (h : Mag a) : 0 ≤ a := by
  rcases h with rfl | h
  · exact le_rfl
  · exact le_trans (by positivity) h.1

theorem log_bounds {a : ℝ} (h0 : a ≠ 0) (h : Mag a) : 0 < a * recip448 ∧ -126 ≤ ilog (a * recip448) ∧ ilog (a * recip448) ≤ 120 := by
  rcases h with rfl | ⟨h1, h2⟩
  · exact absurd rfl h0
  have hp : 0 < a := lt_of_lt_of_le (by positivity) h1
  have hy : 0 < a * recip448 := mul_pos hp recip448_pos
  refine ⟨hy, ?_, ?_⟩
  · rw [← zpow_le_iff hy]
    calc (2 : ℝ) ^ (-126 : ℤ) ≤ (2 : ℝ) ^ (-115 : ℤ) * recip448 := by unfold recip448; norm_num
      _ ≤ a * recip448 := mul_le_mul_of_nonneg_right h1 recip448_pos.le
  · rw [← Int.lt_add_one_iff, ← lt_zpow_iff hy]
    calc a * recip448 ≤ (2 : ℝ) ^ (120 : ℤ) * recip448 := mul_le_mul_of_nonneg_right h2 recip448_pos.le
      _ < _ := by unfold recip448; norm_num

theorem expn_bounds {a : ℝ} (h : Mag a) : -125 ≤ expn a ∧ expn a ≤ 121 := by
  unfold expn
  split
  · omega
  · have := log_bounds ‹_› h; omega

/-- The magnitude is at most 448 scales. -/
theorem le_scale {a : ℝ} (h : Mag a) : a ≤ 448 * (2 : ℝ) ^ expn a := by
  unfold expn
  split
  · subst a; positivity
  · have hb := log_bounds ‹_› h
    have := lt_ilog_succ hb.1
    have h1 : a ≤ 448 * (a * recip448) := by
      have := h.nonneg
      unfold recip448
      nlinarith
    linarith

/-! ## The kernel's field -/

/-- The field the kernel takes of `y`: the greatest `n` whose pattern does not exceed it, 126 if that is none. -/
def fieldW (y : EReal) : BitVec 32 :=
  Scalar.select (IntOp.cmpi CmpIPredicate.eq
      (Finset.fold IntOp.maxsi (2147483648#32)
        (fun k : Fin 256 => if Ideal.ofBits FTy.f32 (IntOp.shli ArithUnit.vector (BitVec.ofNat 32 k.val) 23#32) ≤ y then BitVec.ofNat 32 k.val else 0#32)
        Finset.univ) 0#32) (126#32)
    (Finset.fold IntOp.maxsi (2147483648#32)
      (fun k : Fin 256 => if Ideal.ofBits FTy.f32 (IntOp.shli ArithUnit.vector (BitVec.ofNat 32 k.val) 23#32) ≤ y then BitVec.ofNat 32 k.val else 0#32)
      Finset.univ)

theorem toInt_maxsi (x y : BitVec 32) : (IntOp.maxsi x y).toInt = max x.toInt y.toInt := by
  unfold IntOp.maxsi
  rw [BitVec.slt_eq_decide]
  by_cases h : y.toInt < x.toInt
  · simp [h, max_eq_left h.le]
  · simp [h, max_eq_right (not_lt.mp h)]

theorem ofNat_toInt (n : ℕ) (h : n < 256) : (BitVec.ofNat 32 n).toInt = n := by
  rw [BitVec.toInt_eq_toNat_of_lt] <;> simp <;> omega

theorem fold_maxsi (p : Fin 256 → Prop) [DecidablePred p] (N : Fin 256) (hN : p N ∨ N.val = 0) (h : ∀ k, p k → k ≤ N) :
    Finset.fold IntOp.maxsi (2147483648#32) (fun k : Fin 256 => if p k then BitVec.ofNat 32 k.val else 0#32) Finset.univ = BitVec.ofNat 32 N.val := by
  apply BitVec.eq_of_toInt_eq
  rw [← Finset.fold_hom (op := IntOp.maxsi) (op' := max) (m := BitVec.toInt) (fun x y => toInt_maxsi x y), ofNat_toInt _ N.isLt]
  apply le_antisymm
  · rw [Finset.fold_max_le]
    refine ⟨by simp, fun k _ => ?_⟩
    split
    · rw [ofNat_toInt _ k.isLt]; exact_mod_cast h k ‹_›
    · simp
  · rw [Finset.le_fold_max]
    refine .inr ⟨N, Finset.mem_univ _, ?_⟩
    split
    · rw [ofNat_toInt _ N.isLt]
    · rcases hN with hN | hN
      · contradiction
      · simp [hN]

/-- The kernel's field is the scale's exponent plus 126. -/
theorem fieldW_eq {a : ℝ} (h : Mag a) :
    ∃ n : ℕ, 1 ≤ n ∧ n ≤ 250 ∧ (n : ℤ) = expn a + 126 ∧ fieldW ((a * recip448 : ℝ) : EReal) = BitVec.ofNat 32 n := by
  unfold fieldW
  by_cases h0 : a = 0
  · refine ⟨126, by omega, by omega, by simp [expn, h0], ?_⟩
    rw [fold_maxsi (fun k : Fin 256 => Ideal.ofBits FTy.f32 (IntOp.shli ArithUnit.vector (BitVec.ofNat 32 k.val) 23#32) ≤ ((a * recip448 : ℝ) : EReal)) 0 (.inr rfl)]
    · decide
    · intro k hk
      by_contra hc
      have hk1 : 1 ≤ k.val := by
        have : k ≠ 0 := fun e => hc (e ▸ le_rfl)
        have : k.val ≠ 0 := fun e => this (Fin.ext e)
        omega
      rw [h0, zero_mul] at hk
      by_cases h255 : k.val = 255
      · rw [h255, top_bits] at hk
        simp at hk
      · have := k.isLt
        rw [pow2_bits _ _ hk1 (by omega)] at hk
        have : (0 : ℝ) < (2 : ℝ) ^ ((k.val : ℤ) - 127) := by positivity
        exact absurd (EReal.coe_le_coe_iff.mp hk) (not_le.mpr this)
  · obtain ⟨hy, l1, l2⟩ := log_bounds h0 h
    set m := ilog (a * recip448) with hm
    have hN : (m + 127).toNat < 256 := by omega
    have e1 : (((m + 127).toNat : ℕ) : ℤ) = m + 127 := by omega
    refine ⟨(m + 127).toNat, by omega, by omega, by rw [e1]; simp only [expn, h0, if_false, ← hm]; ring, ?_⟩
    rw [fold_maxsi (fun k : Fin 256 => Ideal.ofBits FTy.f32 (IntOp.shli ArithUnit.vector (BitVec.ofNat 32 k.val) 23#32) ≤ ((a * recip448 : ℝ) : EReal)) ⟨(m + 127).toNat, hN⟩]
    · simp only
      have : ¬ (BitVec.ofNat 32 (m + 127).toNat = 0#32) := by
        intro e
        have := congrArg BitVec.toNat e
        simp at this
        omega
      simp [Scalar.select, IntOp.cmpi, this, beq_eq_false_iff_ne.mpr this]
    · left
      rw [pow2_bits _ _ (by simp only; omega) (by simp only; omega)]
      rw [EReal.coe_le_coe_iff]
      simp only [e1]
      rw [show m + 127 - 127 = m by ring]
      exact ilog_le hy
    · intro k hk
      rw [Fin.le_def]
      by_cases hk0 : k.val = 0
      · simp only; omega
      by_cases h255 : k.val = 255
      · rw [h255, top_bits, top_le_iff] at hk
        exact absurd hk (EReal.coe_ne_top _)
      · have := k.isLt
        rw [pow2_bits _ _ (by omega) (by omega), EReal.coe_le_coe_iff] at hk
        have := (zpow_le_iff hy _).mp hk
        simp only
        omega

theorem up_of_field (u : ArithUnit) {a : ℝ} {n : ℕ} (h1 : 1 ≤ n) (h2 : n ≤ 250) (h : (n : ℤ) = expn a + 126) :
    Ideal.ofBits .f32 (IntOp.shli u (IntOp.addi (BitVec.ofNat 32 n) 1#32) 23#32) = (((2 : ℝ) ^ expn a : ℝ) : EReal) := by
  rw [show IntOp.addi (BitVec.ofNat 32 n) 1#32 = BitVec.ofNat 32 (n + 1) by simp [IntOp.addi, BitVec.ofNat_add], pow2_bits _ _ (by omega) (by omega)]
  congr 2
  push_cast
  omega

theorem down_of_field (u : ArithUnit) {a : ℝ} {n : ℕ} (h1 : 1 ≤ n) (h2 : n ≤ 250) (h : (n : ℤ) = expn a + 126) :
    Ideal.ofBits .f32 (IntOp.shli u (IntOp.subi 253#32 (BitVec.ofNat 32 n)) 23#32) = (((2 : ℝ) ^ (-expn a) : ℝ) : EReal) := by
  have : IntOp.subi 253#32 (BitVec.ofNat 32 n) = BitVec.ofNat 32 (253 - n) := by
    apply BitVec.eq_of_toNat_eq
    simp [IntOp.subi, BitVec.toNat_sub]
    omega
  rw [this, pow2_bits _ _ (by omega) (by omega)]
  congr 2
  omega

theorem expo_of_field {a : ℝ} {n : ℕ} (h1 : 1 ≤ n) (h2 : n ≤ 250) (h : (n : ℤ) = expn a + 126) :
    (FloatOps.sitofp .f32 (IntOp.subi (BitVec.ofNat 32 n) 126#32) : Ideal .f32) = (((expn a : ℤ) : ℝ) : EReal) := by
  have : (IntOp.subi (BitVec.ofNat 32 n) 126#32).toInt = expn a := by
    rw [IntOp.subi, BitVec.toInt_sub, ofNat_toInt _ (by omega), show (126#32).toInt = 126 from rfl, show (n : ℤ) - 126 = expn a by omega]
    have := expn a
    apply Int.bmod_eq_of_le <;> omega
  show (((_ : ℤ) : ℝ) : EReal) = _
  rw [this]

/-! ## The reference's table -/

/-- An entry of the reference's table of powers of two. -/
theorem pow_entry (k : Fin 254) :
    Ideal.pow (Ideal.ofBits .f32 0x40000000#32) (FloatOps.sitofp .f32 (IntOp.addi 4294967170#32 (BitVec.ofNat 32 k.val)) : Ideal .f32)
      = (((2 : ℝ) ^ ((k.val : ℤ) - 126) : ℝ) : EReal) := by
  have h : (IntOp.addi 4294967170#32 (BitVec.ofNat 32 k.val)).toInt = (k.val : ℤ) - 126 := by
    have := k.isLt
    have e1 : (4294967170#32).toInt = -126 := by decide
    have e2 := ofNat_toInt k.val (by omega)
    rw [IntOp.addi, BitVec.toInt_add, e1, e2, Int.bmod_eq_of_le] <;> omega
  rw [ofBits_two]
  show Ideal.pow ((2 : ℝ) : EReal) (((_ : ℤ) : ℝ) : EReal) = _
  rw [h, Ideal.pow_coe_coe]
  exact congrArg _ (Real.rpow_intCast 2 _)

/-- The reference's scale of a magnitude: the least entry of the table above its 448th part, one for zero. -/
def tableScale (A : EReal) : EReal :=
  if A = 0 then 1 else Finset.fold min (Ideal.ofBits .f32 0x7F800000#32)
    (fun k : Fin 254 => if A * Ideal.ofBits .f32 0x3B124925#32 < Ideal.pow (Ideal.ofBits .f32 0x40000000#32) (FloatOps.sitofp .f32 (IntOp.addi 4294967170#32 (BitVec.ofNat 32 k.val)) : Ideal .f32)
      then Ideal.pow (Ideal.ofBits .f32 0x40000000#32) (FloatOps.sitofp .f32 (IntOp.addi 4294967170#32 (BitVec.ofNat 32 k.val)) : Ideal .f32)
      else Ideal.ofBits .f32 0x7F800000#32) Finset.univ

theorem tableScale_eq {a : ℝ} (h : Mag a) : tableScale ((a : ℝ) : EReal) = (((2 : ℝ) ^ expn a : ℝ) : EReal) := by
  unfold tableScale
  by_cases h0 : a = 0
  · simp [h0, expn]
  rw [if_neg (by exact_mod_cast h0)]
  simp only [pow_entry, ofBits_recip448, ofBits_top, ← EReal.coe_mul, EReal.coe_lt_coe_iff]
  obtain ⟨hy, l1, l2⟩ := log_bounds h0 h
  simp only [expn, h0, if_false]
  apply le_antisymm
  · rw [Finset.fold_min_le]
    refine .inr ⟨⟨(ilog (a * recip448) + 127).toNat, by omega⟩, Finset.mem_univ _, ?_⟩
    rw [show ((((ilog (a * recip448) + 127).toNat : ℕ) : ℤ) - 126) = ilog (a * recip448) + 1 by omega, if_pos (lt_ilog_succ hy)]
  · rw [Finset.le_fold_min]
    refine ⟨le_top, fun k _ => ?_⟩
    split
    · rename_i hk
      rw [EReal.coe_le_coe_iff]
      rw [lt_zpow_iff hy] at hk
      exact (zpow_le_zpow_iff_right₀ (one_lt_two (α := ℝ))).mpr (by omega)
    · exact le_top

end Cert.Attn

end
-- ==== Proof.Quant.lean ====
/- The quantiser of one vector, over the reals: its greatest magnitude, its scale's exponent, its codes; and the kernel's
   fields, scales and codes of the columns of a block of real entries. -/
module

public import proofs.«01_k».proof.Proof.Prog
public import proofs.«01_k».proof.Proof.Scale
public import Idealize.ShloMosaic.Lib.Pointwise

@[expose] public section

set_option maxRecDepth 16384

noncomputable section

namespace Cert.Attn

open Idealize.ShloMosaic Idealize.SL.Sem

section
variable {ι : Type} [Fintype ι]

/-- The greatest magnitude. -/
def amax (f : ι → ℝ) : ℝ := Finset.fold max 0 (fun i => |f i|) Finset.univ

/-- The exponent of the vector's scale. -/
def expq (f : ι → ℝ) : ℤ := expn (amax f)

/-- The codes: the vector over its scale, clipped. -/
def code (f : ι → ℝ) (i : ι) : ℝ := min 448 (max (-448) (f i * (2 : ℝ) ^ (-expq f)))

/-- What the precondition says of an element. -/
def Tame (r : ℝ) : Prop := r = 0 ∨ (2 : ℝ) ^ (-90 : ℤ) ≤ |r| ∧ |r| ≤ (2 : ℝ) ^ (90 : ℤ)

theorem absf_coe (r : ℝ) : (FloatOps.absf ((r : ℝ) : EReal) : Ideal .f32) = ((|r| : ℝ) : EReal) := by
  show max ((r : ℝ) : EReal) (-((r : ℝ) : EReal)) = _
  rw [← EReal.coe_neg, ← EReal.coe_strictMono.monotone.map_max]
  rfl

theorem fold_coe (f : ι → ℝ) : ((amax f : ℝ) : EReal) = Finset.fold max 0 (fun i => ((|f i| : ℝ) : EReal)) Finset.univ := by
  unfold amax
  rw [← Finset.fold_hom (op := max) (op' := max) (m := fun r : ℝ => (r : EReal)) (fun x y => EReal.coe_strictMono.monotone.map_max)]
  rfl

theorem fold_absf [Nonempty ι] (f : ι → ℝ) :
    Finset.fold max (Ideal.ofBits .f32 4286578688#32) (fun i => (FloatOps.absf ((f i : ℝ) : EReal) : Ideal .f32)) Finset.univ = ((amax f : ℝ) : EReal) := by
  rw [fold_coe, ofBits_bot]
  simp only [absf_coe]
  apply le_antisymm
  · rw [Finset.fold_max_le]
    refine ⟨bot_le, fun i hi => ?_⟩
    rw [Finset.le_fold_max]
    exact .inr ⟨i, hi, le_rfl⟩
  · rw [Finset.fold_max_le]
    obtain ⟨i0⟩ := (inferInstance : Nonempty ι)
    constructor
    · rw [Finset.le_fold_max]
      exact .inr ⟨i0, Finset.mem_univ _, by exact_mod_cast abs_nonneg _⟩
    · intro i hi
      rw [Finset.le_fold_max]
      exact .inr ⟨i, hi, le_rfl⟩

theorem le_amax (f : ι → ℝ) (i : ι) : |f i| ≤ amax f := by
  unfold amax
  rw [Finset.le_fold_max]
  exact .inr ⟨i, Finset.mem_univ _, le_rfl⟩

theorem amax_tame {f : ι → ℝ} (h : ∀ i, Tame (f i)) : amax f = 0 ∨ (2 : ℝ) ^ (-90 : ℤ) ≤ amax f ∧ amax f ≤ (2 : ℝ) ^ (90 : ℤ) := by
  by_cases hz : ∀ i, f i = 0
  · left
    apply le_antisymm
    · unfold amax
      rw [Finset.fold_max_le]
      exact ⟨le_rfl, fun i _ => by simp [hz i]⟩
    · unfold amax
      rw [Finset.le_fold_max]
      exact .inl le_rfl
  · right
    push Not at hz
    obtain ⟨i, hi⟩ := hz
    refine ⟨((h i).resolve_left hi).1.trans (le_amax f i), ?_⟩
    unfold amax
    rw [Finset.fold_max_le]
    refine ⟨by positivity, fun j _ => ?_⟩
    rcases h j with h | h
    · rw [h]; simp
    · exact h.2

theorem amax_mag {f : ι → ℝ} (h : ∀ i, Tame (f i)) : Mag (amax f) := by
  rcases amax_tame h with h | ⟨h1, h2⟩
  · exact .inl h
  · exact .inr ⟨le_trans (by gcongr <;> norm_num) h1, h2.trans (by gcongr <;> norm_num)⟩

theorem expq_tame {f : ι → ℝ} (h : ∀ i, Tame (f i)) : -98 ≤ expq f ∧ expq f ≤ 82 := by
  unfold expq expn
  split
  · omega
  · obtain ⟨h1, h2⟩ := (amax_tame h).resolve_left ‹_›
    have hy : 0 < amax f * recip448 := mul_pos (lt_of_lt_of_le (by positivity) h1) recip448_pos
    have e1 : -99 ≤ ilog (amax f * recip448) := by
      rw [← zpow_le_iff hy]
      calc (2 : ℝ) ^ (-99 : ℤ) ≤ (2 : ℝ) ^ (-90 : ℤ) * recip448 := by unfold recip448; norm_num
        _ ≤ _ := mul_le_mul_of_nonneg_right h1 recip448_pos.le
    have e2 : ilog (amax f * recip448) < 82 := by
      rw [← lt_zpow_iff hy]
      calc _ ≤ (2 : ℝ) ^ (90 : ℤ) * recip448 := mul_le_mul_of_nonneg_right h2 recip448_pos.le
        _ < _ := by unfold recip448; norm_num
    omega

theorem code_coe (f : ι → ℝ) (i : ι) :
    min (Ideal.ofBits .f32 1138753536#32) (max (Ideal.ofBits .f32 3286237184#32) (((f i : ℝ) : EReal) * (((2 : ℝ) ^ (-expq f) : ℝ) : EReal))) = ((code f i : ℝ) : EReal) := by
  rw [ofBits_448, ofBits_neg448, ← EReal.coe_mul, ← EReal.coe_strictMono.monotone.map_max, ← EReal.coe_strictMono.monotone.map_min]
  rfl

end

variable {x : FVec Ideal (V2 64 2048) .f32} {f : Fin 2048 → Fin 64 → ℝ}

theorem colField_eq (hx : ∀ i j, x (ix2 i j) = ((f j i : ℝ) : EReal)) (j : Fin 2048) :
    colField x (ix2 0 j) = fieldW ((amax (f j) * recip448 : ℝ) : EReal) := by
  unfold fieldW
  rw [EReal.coe_mul, ← fold_absf, ← ofBits_recip448]
  pointwise [colField, field]
  simp only [hx]

theorem colField_nat (hx : ∀ i j, x (ix2 i j) = ((f j i : ℝ) : EReal)) (j : Fin 2048) (hm : Mag (amax (f j))) :
    ∃ n : ℕ, 1 ≤ n ∧ n ≤ 250 ∧ (n : ℤ) = expq (f j) + 126 ∧ colField x (ix2 0 j) = BitVec.ofNat 32 n := by
  rw [colField_eq hx]
  exact fieldW_eq hm

theorem up_at (hx : ∀ i j, x (ix2 i j) = ((f j i : ℝ) : EReal)) (j : Fin 2048) (hm : Mag (amax (f j))) :
    (up (colField x) : FVec Ideal (V2 1 2048) .f32) (ix2 0 j) = (((2 : ℝ) ^ expq (f j) : ℝ) : EReal) := by
  obtain ⟨n, h1, h2, h3, h4⟩ := colField_nat hx j hm
  pointwise [up]
  rw [h4]
  exact up_of_field _ h1 h2 h3

theorem expo_at (hx : ∀ i j, x (ix2 i j) = ((f j i : ℝ) : EReal)) (j : Fin 2048) (hm : Mag (amax (f j))) :
    (expo (colField x) : FVec Ideal (V2 1 2048) .f32) (ix2 0 j) = (((expq (f j) : ℤ) : ℝ) : EReal) := by
  obtain ⟨n, h1, h2, h3, h4⟩ := colField_nat hx j hm
  pointwise [expo]
  rw [h4]
  exact expo_of_field h1 h2 h3

theorem codes_at (hx : ∀ i j, x (ix2 i j) = ((f j i : ℝ) : EReal)) (i : Fin 64) (j : Fin 2048) (hm : Mag (amax (f j))) :
    codes x (colField x) (ix2 i j) = ((code (f j) i : ℝ) : EReal) := by
  obtain ⟨n, h1, h2, h3, h4⟩ := colField_nat hx j hm
  rw [← code_coe]
  pointwise [codes, down]
  rw [h4, hx, down_of_field _ h1 h2 h3]
  rfl

theorem recip_up_at (hx : ∀ i j, x (ix2 i j) = ((f j i : ℝ) : EReal)) (j : Fin 2048) (hm : Mag (amax (f j))) :
    (divf (broadcast (V2 1 2048) (Scalar.ofBits .f32 0x3F800000#32)) (up (colField x)) : FVec Ideal (V2 1 2048) .f32) (ix2 0 j) = (((2 : ℝ) ^ (-expq (f j)) : ℝ) : EReal) := by
  have h := up_at hx j hm
  pointwise
  rw [h]
  have h0 : ((2 : ℝ) ^ expq (f j)) ≠ 0 := by positivity
  rw [Ideal.div_coe h0, one_mul, zpow_neg, one_div]

theorem spread_at (y : FVec Ideal (V2 1 2048) .f32) (s : Fin 2048) (l : Fin 128) : spread y (ix3 0 s l) = y (ix2 0 s) := by
  pointwise [spread]

theorem posRow_at (s : Fin 2048) : (posRow : FVec Ideal (V2 1 2048) .f32) (ix2 0 s) = (((s.val : ℝ)) : EReal) := by
  pointwise [posRow]
  show (((BitVec.ofNat 32 s.val).toInt : ℝ) : EReal) = _
  have : (BitVec.ofNat 32 s.val).toInt = s.val := by
    rw [BitVec.toInt_eq_toNat_of_lt] <;> simp <;> omega
  rw [this]
  norm_cast

theorem maskBlk_at (i j : Fin 256) : (maskBlk : FVec Ideal (V2 256 256) .f32) (ix2 i j) = if i ≤ j then 0 else ⊥ := by
  pointwise [maskBlk]
  have h (a : Fin 256) : (BitVec.ofNat 32 a.val).toInt = a.val := by
    rw [BitVec.toInt_eq_toNat_of_lt] <;> simp <;> omega
  have e : IntOp.cmpi CmpIPredicate.sle (BitVec.ofNat 32 i.val) (BitVec.ofNat 32 j.val) = if i ≤ j then 1#1 else 0#1 := by
    simp only [IntOp.cmpi, BitVec.sle_eq_decide, h]
    by_cases hij : i ≤ j
    · simp [hij]
    · simp [hij]
  rw [e, ofBits_bot]
  split <;> rfl

end Cert.Attn

end
-- ==== Proof.Pre.lean ====
/- The precondition, read: every element of the arguments is a tame real. -/
module

public import proofs.«01_k».proof.Defs
public import proofs.«01_k».proof.Proof.Quant

@[expose] public section

set_option maxRecDepth 16384

noncomputable section

namespace Cert.Attn

open Idealize.ShloMosaic Idealize.SL.Sem

theorem pre_facts : Cert.Pre_inputs_tame.Facts := ⟨by decide, by decide, by decide⟩

theorem ofBits_low : Ideal.ofBits .f32 0x12800000#32 = (((2 : ℝ) ^ (-90 : ℤ) : ℝ) : EReal) := by
  simp [Ideal.ofBits, Ideal.ieee]
  rw [← EReal.coe_mul]
  norm_num

theorem ofBits_high : Ideal.ofBits .f32 0x6C800000#32 = (((2 : ℝ) ^ (90 : ℤ) : ℝ) : EReal) := by
  simp [Ideal.ofBits, Ideal.ieee]
  rw [← EReal.coe_pow, ← EReal.coe_pow, ← EReal.coe_mul]
  norm_num

/-- What the predicate says of one element. -/
def tameBit (x : EReal) : BitVec 1 :=
  IntOp.ori (Ideal.cmp .oeq (max x (-x)) (Ideal.ofBits .f32 0x00000000#32))
    (IntOp.andi (Ideal.cmp .oge (max x (-x)) (Ideal.ofBits .f32 0x12800000#32)) (Ideal.cmp .ole (max x (-x)) (Ideal.ofBits .f32 0x6C800000#32)))

theorem tame_of_bit (x : EReal) (h : tameBit x = 1#1) : x = ((x.toReal : ℝ) : EReal) ∧ Tame x.toReal := by
  have hb : ∀ a b c : Bool, IntOp.ori (BitVec.ofBool a) (IntOp.andi (BitVec.ofBool b) (BitVec.ofBool c)) = 1#1 → a = true ∨ b = true ∧ c = true := by decide
  have h' := hb (decide (max x (-x) = Ideal.ofBits .f32 0x00000000#32)) (decide (Ideal.ofBits .f32 0x12800000#32 ≤ max x (-x))) (decide (max x (-x) ≤ Ideal.ofBits .f32 0x6C800000#32)) h
  rw [decide_eq_true_iff, decide_eq_true_iff, decide_eq_true_iff, ofBits_low, ofBits_high, Ideal.ofBits_zero_f32] at h'
  unfold Tame
  generalize (2 : ℝ) ^ (-90 : ℤ) = l at h' ⊢
  generalize (2 : ℝ) ^ (90 : ℤ) = u at h' ⊢
  clear h hb
  induction x using EReal.rec with
  | bot => simp at h'
  | top => simp at h'
  | coe r =>
    refine ⟨rfl, ?_⟩
    rw [show max ((r : ℝ) : EReal) (-((r : ℝ) : EReal)) = ((|r| : ℝ) : EReal) from absf_coe r, show (0 : EReal) = ((0 : ℝ) : EReal) from rfl] at h'
    simp only [EReal.coe_le_coe_iff, EReal.coe_eq_coe_iff, abs_eq_zero] at h'
    exact h'

variable [Cert.Pre_inputs_tame.Facts] (a0 : FVec Ideal Cert.Pre_inputs_tame.S9x2048x512 .bf16) (a1 a2 : FVec Ideal Cert.Pre_inputs_tame.S9x2048x128 .bf16)

theorem pre_x (h : (Cert.Pre_inputs_tame.fn (F := Ideal) a0 a1 a2).1 = fun _ => 1#1) (i : Cert.Pre_inputs_tame.S9x2048x512.Idx) : tameBit (a0 i) = 1#1 := congrFun h i
theorem pre_k (h : (Cert.Pre_inputs_tame.fn (F := Ideal) a0 a1 a2).2.1 = fun _ => 1#1) (i : Cert.Pre_inputs_tame.S9x2048x128.Idx) : tameBit (a1 i) = 1#1 := congrFun h i
theorem pre_v (h : (Cert.Pre_inputs_tame.fn (F := Ideal) a0 a1 a2).2.2 = fun _ => 1#1) (i : Cert.Pre_inputs_tame.S9x2048x128.Idx) : tameBit (a2 i) = 1#1 := congrFun h i

end Cert.Attn

end
-- ==== Proof.RefTerms.lean ====
/- The reference's operations as functions of plainly typed arrays, and its printed run's terms as these functions. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.StableHlo

/-- The queries, head by head. -/
def rows8 (a : FVec Ideal S9x2048x512 .bf16) : FVec Ideal S9x2048x8x64 .f32 :=
  shapeCast _ (extf .f32 a bitsLt_bf16_f32) shapeCasts_S9x2048x512_S9x2048x8x64

/-- The keys, or the values, head by head. -/
def rows2 (a : FVec Ideal S9x2048x128 .bf16) : FVec Ideal S9x2048x2x64 .f32 :=
  shapeCast _ (extf .f32 a bitsLt_bf16_f32) shapeCasts_S9x2048x128_S9x2048x2x64

/-- The greatest magnitude of each row. -/
def peak8 (x : FVec Ideal S9x2048x8x64 .f32) : FVec Ideal S9x2048x8x1 .f32 :=
  broadcastInDim S9x2048x8x1 ![0, 1, 2] bcast_S9x2048x8_S9x2048x8x1_0_1_2 (Host.reduce FloatOps.maximumf (Host.absf x) (constant S_ .f32 0xFF800000#32) reducesTo_S9x2048x8x64_S9x2048x8_d3 h_S_)

/-- The greatest magnitude of each row. -/
def peak2 (x : FVec Ideal S9x2048x2x64 .f32) : FVec Ideal S9x2048x2x1 .f32 :=
  broadcastInDim S9x2048x2x1 ![0, 1, 2] bcast_S9x2048x2_S9x2048x2x1_0_1_2 (Host.reduce FloatOps.maximumf (Host.absf x) (constant S_ .f32 0xFF800000#32) reducesTo_S9x2048x2x64_S9x2048x2_d3 h_S_)

/-- The powers of two a scale may be. -/
def table : FVec Ideal S254 .f32 :=
  Host.powf (broadcastInDim S254 ![] bcast_S_S254 (constant S_ .f32 0x40000000#32)) (sitofp .f32 (addi (broadcastInDim S254 ![] bcast_S_S254 (constantI S_ 32 4294967170#32)) (iotaInDim S254 32 0)))

/-- The scale of each row. -/
def scales8 (p : FVec Ideal S9x2048x8x1 .f32) : FVec Ideal S9x2048x8x1 .f32 :=
  select (cmpf .oeq p (broadcastInDim S9x2048x8x1 ![] bcast_S_S9x2048x8x1 (constant S_ .f32 0x00000000#32))) (broadcastInDim S9x2048x8x1 ![] bcast_S_S9x2048x8x1 (id (constant S_ .f32 0x3F800000#32))) (broadcastInDim S9x2048x8x1 ![0, 1, 2] bcast_S9x2048x8_S9x2048x8x1_0_1_2 (Host.reduce FloatOps.minimumf (select (cmpf .ogt (broadcastInDim S9x2048x8x254 ![0, 1, 2, 3] bcast_S1x1x1x254_S9x2048x8x254_0_1_2_3 (broadcastInDim S1x1x1x254 ![3] bcast_S254_S1x1x1x254_3 table)) (broadcastInDim S9x2048x8x254 ![0, 1, 2, 3] bcast_S9x2048x8x1_S9x2048x8x254_0_1_2_3 (mulf p (broadcastInDim S9x2048x8x1 ![] bcast_S_S9x2048x8x1 (constant S_ .f32 0x3B124925#32))))) (broadcastInDim S9x2048x8x254 ![3] bcast_S254_S9x2048x8x254_3 table) (broadcastInDim S9x2048x8x254 ![] bcast_S_S9x2048x8x254 (id (constant S_ .f32 0x7F800000#32)))) (constant S_ .f32 0x7F800000#32) reducesTo_S9x2048x8x254_S9x2048x8_d3 h_S_))

/-- The scale of each row. -/
def scales2 (p : FVec Ideal S9x2048x2x1 .f32) : FVec Ideal S9x2048x2x1 .f32 :=
  select (cmpf .oeq p (broadcastInDim S9x2048x2x1 ![] bcast_S_S9x2048x2x1 (constant S_ .f32 0x00000000#32))) (broadcastInDim S9x2048x2x1 ![] bcast_S_S9x2048x2x1 (id (constant S_ .f32 0x3F800000#32))) (broadcastInDim S9x2048x2x1 ![0, 1, 2] bcast_S9x2048x2_S9x2048x2x1_0_1_2 (Host.reduce FloatOps.minimumf (select (cmpf .ogt (broadcastInDim S9x2048x2x254 ![0, 1, 2, 3] bcast_S1x1x1x254_S9x2048x2x254_0_1_2_3 (broadcastInDim S1x1x1x254 ![3] bcast_S254_S1x1x1x254_3 table)) (broadcastInDim S9x2048x2x254 ![0, 1, 2, 3] bcast_S9x2048x2x1_S9x2048x2x254_0_1_2_3 (mulf p (broadcastInDim S9x2048x2x1 ![] bcast_S_S9x2048x2x1 (constant S_ .f32 0x3B124925#32))))) (broadcastInDim S9x2048x2x254 ![3] bcast_S254_S9x2048x2x254_3 table) (broadcastInDim S9x2048x2x254 ![] bcast_S_S9x2048x2x254 (id (constant S_ .f32 0x7F800000#32)))) (constant S_ .f32 0x7F800000#32) reducesTo_S9x2048x2x254_S9x2048x2_d3 h_S_))

/-- The codes of each row. -/
def codes8 (x : FVec Ideal S9x2048x8x64 .f32) (y : FVec Ideal S9x2048x8x1 .f32) : FVec Ideal S9x2048x8x64 .f32 :=
  minimumf (broadcastInDim S9x2048x8x64 ![] bcast_S_S9x2048x8x64 (id (constant S_ .f32 0x43E00000#32))) (maximumf (broadcastInDim S9x2048x8x64 ![] bcast_S_S9x2048x8x64 (id (constant S_ .f32 0xC3E00000#32))) (Host.divf x (broadcastInDim S9x2048x8x64 ![0, 1, 2, 3] bcast_S9x2048x8x1_S9x2048x8x64_0_1_2_3 y)))

/-- The codes of each row. -/
def codes2 (x : FVec Ideal S9x2048x2x64 .f32) (y : FVec Ideal S9x2048x2x1 .f32) : FVec Ideal S9x2048x2x64 .f32 :=
  minimumf (broadcastInDim S9x2048x2x64 ![] bcast_S_S9x2048x2x64 (id (constant S_ .f32 0x43E00000#32))) (maximumf (broadcastInDim S9x2048x2x64 ![] bcast_S_S9x2048x2x64 (id (constant S_ .f32 0xC3E00000#32))) (Host.divf x (broadcastInDim S9x2048x2x64 ![0, 1, 2, 3] bcast_S9x2048x2x1_S9x2048x2x64_0_1_2_3 y)))

/-- The masked scores. -/
def scores (qc : FVec Ideal S9x2048x8x64 .f32) (qs : FVec Ideal S9x2048x8x1 .f32) (kc : FVec Ideal S9x2048x2x64 .f32) (ks : FVec Ideal S9x2048x2x1 .f32) : FVec Ideal S9x2x4x2048x2048 .f32 :=
  select (broadcastInDim S9x2x4x2048x2048 ![3, 4] bcast_S2048x2048_S9x2x4x2048x2048_3_4 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (mulf (mulf (Host.dotGeneral dot_S9x2x4x2048x64_S9x2x2048x64_S9x2x4x2048x2048_4_3_23_2_01_01 none (transpose S9x2x4x2048x64 [0, 2, 3, 1, 4] (shapeCast _ qc shapeCasts_S9x2048x8x64_S9x2048x2x4x64) transposes_S9x2048x2x4x64_S9x2x4x2048x64_0_2_3_1_4) (transpose S9x2x2048x64 [0, 2, 1, 3] kc transposes_S9x2048x2x64_S9x2x2048x64_0_2_1_3)) (broadcastInDim S9x2x4x2048x2048 ![0, 1, 2, 3, 4] bcast_S9x2x4x2048x1_S9x2x4x2048x2048_0_1_2_3_4 (mulf (broadcastInDim S9x2x4x2048x1 ![0, 1, 2, 3] bcast_S9x2x4x2048_S9x2x4x2048x1_0_1_2_3 (transpose S9x2x4x2048 [0, 2, 3, 1] (shapeCast _ (shapeCast _ qs shapeCasts_S9x2048x8x1_S9x2048x8) shapeCasts_S9x2048x8_S9x2048x2x4) transposes_S9x2048x2x4_S9x2x4x2048_0_2_3_1)) (broadcastInDim S9x2x4x2048x1 ![] bcast_S_S9x2x4x2048x1 (constant S_ .f32 0x3E000000#32))))) (broadcastInDim S9x2x4x2048x2048 ![0, 1, 2, 3, 4] bcast_S9x2x1x1x2048_S9x2x4x2048x2048_0_1_2_3_4 (broadcastInDim S9x2x1x1x2048 ![0, 1, 4] bcast_S9x2x2048_S9x2x1x1x2048_0_1_4 (transpose S9x2x2048 [0, 2, 1] (shapeCast _ ks shapeCasts_S9x2048x2x1_S9x2048x2) transposes_S9x2048x2_S9x2x2048_0_2_1)))) (broadcastInDim S9x2x4x2048x2048 ![0, 1, 2, 3, 4] bcast_S1x2x4x2048x2048_S9x2x4x2048x2048_0_1_2_3_4 (mulf (broadcastInDim S1x2x4x2048x2048 ![0, 1, 2, 3, 4] bcast_S1x2x4x1x1_S1x2x4x2048x2048_0_1_2_3_4 (broadcastInDim S1x2x4x1x1 ![1, 2] bcast_S2x4_S1x2x4x1x1_1_2 (shapeCast _ (Host.powf (broadcastInDim S8 ![] bcast_S_S8 (constant S_ .f32 0x40000000#32)) (Host.negf (addf (sitofp .f32 (iotaInDim S8 32 0)) (broadcastInDim S8 ![] bcast_S_S8 (constant S_ .f32 0x3F800000#32))))) shapeCasts_S8_S2x4))) (broadcastInDim S1x2x4x2048x2048 ![0, 1, 2, 3, 4] bcast_S1x1x1x2048x2048_S1x2x4x2048x2048_0_1_2_3_4 (broadcastInDim S1x1x1x2048x2048 ![3, 4] bcast_S2048x2048_S1x1x1x2048x2048_3_4 (sitofp .f32 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))))))) (broadcastInDim S9x2x4x2048x2048 ![] bcast_S_S9x2x4x2048x2048 (id (constant S_ .f32 0xFF800000#32)))

/-- The exponentials. -/
def expos (u : FVec Ideal S9x2x4x2048x2048 .f32) : FVec Ideal S9x2x4x2048x2048 .f32 :=
  Host.exp (subf u (broadcastInDim S9x2x4x2048x2048 ![0, 1, 2, 3, 4] bcast_S9x2x4x2048x1_S9x2x4x2048x2048_0_1_2_3_4 (broadcastInDim S9x2x4x2048x1 ![0, 1, 2, 3] bcast_S9x2x4x2048_S9x2x4x2048x1_0_1_2_3 (Host.reduce FloatOps.maximumf u (constant S_ .f32 0xFF800000#32) reducesTo_S9x2x4x2048x2048_S9x2x4x2048_d4 h_S_))))

/-- The probabilities, times the values' scales. -/
def probs (e : FVec Ideal S9x2x4x2048x2048 .f32) (vs : FVec Ideal S9x2048x2x1 .f32) : FVec Ideal S9x2x4x2048x2048 .f32 :=
  mulf (Host.divf e (broadcastInDim S9x2x4x2048x2048 ![0, 1, 2, 3, 4] bcast_S9x2x4x2048x1_S9x2x4x2048x2048_0_1_2_3_4 (broadcastInDim S9x2x4x2048x1 ![0, 1, 2, 3] bcast_S9x2x4x2048_S9x2x4x2048x1_0_1_2_3 (Host.reduceAdd e (constant S_ .f32 0x00000000#32) reducesTo_S9x2x4x2048x2048_S9x2x4x2048_d4 h_S_)))) (broadcastInDim S9x2x4x2048x2048 ![0, 1, 2, 3, 4] bcast_S9x2x1x1x2048_S9x2x4x2048x2048_0_1_2_3_4 (broadcastInDim S9x2x1x1x2048 ![0, 1, 4] bcast_S9x2x2048_S9x2x1x1x2048_0_1_4 (transpose S9x2x2048 [0, 2, 1] (shapeCast _ vs shapeCasts_S9x2048x2x1_S9x2048x2) transposes_S9x2048x2_S9x2x2048_0_2_1)))

/-- The greatest magnitude of each row of probabilities. -/
def peakP (p : FVec Ideal S9x2x4x2048x2048 .f32) : FVec Ideal S9x2x4x2048x1 .f32 :=
  broadcastInDim S9x2x4x2048x1 ![0, 1, 2, 3] bcast_S9x2x4x2048_S9x2x4x2048x1_0_1_2_3 (Host.reduce FloatOps.maximumf (Host.absf p) (constant S_ .f32 0xFF800000#32) reducesTo_S9x2x4x2048x2048_S9x2x4x2048_d4 h_S_)

/-- The scale of each row of probabilities. -/
def scalesP (p : FVec Ideal S9x2x4x2048x1 .f32) : FVec Ideal S9x2x4x2048x1 .f32 :=
  select (cmpf .oeq p (broadcastInDim S9x2x4x2048x1 ![] bcast_S_S9x2x4x2048x1 (constant S_ .f32 0x00000000#32))) (broadcastInDim S9x2x4x2048x1 ![] bcast_S_S9x2x4x2048x1 (id (constant S_ .f32 0x3F800000#32))) (broadcastInDim S9x2x4x2048x1 ![0, 1, 2, 3] bcast_S9x2x4x2048_S9x2x4x2048x1_0_1_2_3 (Host.reduce FloatOps.minimumf (select (cmpf .ogt (broadcastInDim S9x2x4x2048x254 ![0, 1, 2, 3, 4] bcast_S1x1x1x1x254_S9x2x4x2048x254_0_1_2_3_4 (broadcastInDim S1x1x1x1x254 ![4] bcast_S254_S1x1x1x1x254_4 table)) (broadcastInDim S9x2x4x2048x254 ![0, 1, 2, 3, 4] bcast_S9x2x4x2048x1_S9x2x4x2048x254_0_1_2_3_4 (mulf p (broadcastInDim S9x2x4x2048x1 ![] bcast_S_S9x2x4x2048x1 (constant S_ .f32 0x3B124925#32))))) (broadcastInDim S9x2x4x2048x254 ![4] bcast_S254_S9x2x4x2048x254_4 table) (broadcastInDim S9x2x4x2048x254 ![] bcast_S_S9x2x4x2048x254 (id (constant S_ .f32 0x7F800000#32)))) (constant S_ .f32 0x7F800000#32) reducesTo_S9x2x4x2048x254_S9x2x4x2048_d4 h_S_))

/-- The output. -/
def output (p : FVec Ideal S9x2x4x2048x2048 .f32) (y : FVec Ideal S9x2x4x2048x1 .f32) (vc : FVec Ideal S9x2048x2x64 .f32) : FVec Ideal S9x2048x512 .bf16 :=
  shapeCast _ (transpose S9x2048x2x4x64 [0, 3, 1, 2, 4] (truncf .bf16 (mulf (Host.dotGeneral dot_S9x2x4x2048x2048_S9x2x2048x64_S9x2x4x2048x64_4_2_23_3_01_01 none (minimumf (broadcastInDim S9x2x4x2048x2048 ![] bcast_S_S9x2x4x2048x2048 (id (constant S_ .f32 0x43E00000#32))) (maximumf (broadcastInDim S9x2x4x2048x2048 ![] bcast_S_S9x2x4x2048x2048 (id (constant S_ .f32 0xC3E00000#32))) (Host.divf p (broadcastInDim S9x2x4x2048x2048 ![0, 1, 2, 3, 4] bcast_S9x2x4x2048x1_S9x2x4x2048x2048_0_1_2_3_4 y)))) (transpose S9x2x2048x64 [0, 2, 1, 3] vc transposes_S9x2048x2x64_S9x2x2048x64_0_2_1_3)) (broadcastInDim S9x2x4x2048x64 ![0, 1, 2, 3, 4] bcast_S9x2x4x2048x1_S9x2x4x2048x64_0_1_2_3_4 (broadcastInDim S9x2x4x2048x1 ![0, 1, 2, 3] bcast_S9x2x4x2048_S9x2x4x2048x1_0_1_2_3 (shapeCast _ y shapeCasts_S9x2x4x2048x1_S9x2x4x2048)))) bitsLt_bf16_f32) transposes_S9x2x4x2048x64_S9x2048x2x4x64_0_3_1_2_4) shapeCasts_S9x2048x2x4x64_S9x2048x512

variable (V0 : Valuation τ sig (Elt Ideal))

theorem v1_eq : (res_main_v1 V0 : FVec Ideal S9x2048x8x64 .f32) = rows8 (V0 (Proc.devRef .tc main_arg0)) := rfl
theorem v28_eq : (res_main_v28 V0 : FVec Ideal S9x2048x2x64 .f32) = rows2 (V0 (Proc.devRef .tc main_arg1)) := rfl
theorem v55_eq : (res_main_v55 V0 : FVec Ideal S9x2048x2x64 .f32) = rows2 (V0 (Proc.devRef .tc main_arg2)) := rfl
theorem v22_eq : (res_main_v22 V0 : FVec Ideal S9x2048x8x1 .f32) = scales8 (peak8 (res_main_v1 V0)) := rfl
theorem v49_eq : (res_main_v49 V0 : FVec Ideal S9x2048x2x1 .f32) = scales2 (peak2 (res_main_v28 V0)) := rfl
theorem v76_eq : (res_main_v76 V0 : FVec Ideal S9x2048x2x1 .f32) = scales2 (peak2 (res_main_v55 V0)) := rfl
theorem v25_eq : (res_main_v25 V0 : FVec Ideal S9x2048x8x64 .f32) = codes8 (res_main_v1 V0) (res_main_v22 V0) := rfl
theorem v52_eq : (res_main_v52 V0 : FVec Ideal S9x2048x2x64 .f32) = codes2 (res_main_v28 V0) (res_main_v49 V0) := rfl
theorem v79_eq : (res_main_v79 V0 : FVec Ideal S9x2048x2x64 .f32) = codes2 (res_main_v55 V0) (res_main_v76 V0) := rfl
theorem v126_eq : (res_main_v126 V0 : FVec Ideal S9x2x4x2048x2048 .f32) = scores (res_main_v25 V0) (res_main_v22 V0) (res_main_v52 V0) (res_main_v49 V0) := rfl
theorem v137_eq : (res_main_v137 V0 : FVec Ideal S9x2x4x2048x2048 .f32) = probs (expos (res_main_v126 V0)) (res_main_v76 V0) := rfl
theorem v158_eq : (res_main_v158 V0 : FVec Ideal S9x2x4x2048x1 .f32) = scalesP (peakP (res_main_v137 V0)) := rfl

end Cert.ReferenceIdeal.Value

end
-- ==== Proof.RefQuant.lean ====
/- The reference's quantiser at the ideal instance: the scales and the codes of rows of tame reals. -/
module

public import proofs.«01_k».proof.Proof.RefTerms
public import proofs.«01_k».proof.Proof.Quant

@[expose] public section

set_option maxRecDepth 16384

noncomputable section

namespace Cert.ReferenceIdeal.Value

open Cert.ReferenceIdeal Cert.ReferenceIdeal.Gen Cert.Attn
open Idealize.ShloMosaic Idealize.SL.Sem

/-- A code, from the element and the scale. -/
theorem code_div {ι : Type} [Fintype ι] (f : ι → ℝ) (i : ι) :
    min (Ideal.ofBits .f32 1138753536#32) (max (Ideal.ofBits .f32 3286237184#32) (Ideal.div ((f i : ℝ) : EReal) (((2 : ℝ) ^ expq f : ℝ) : EReal))) = ((code f i : ℝ) : EReal) := by
  rw [← code_coe, Ideal.div_coe (by positivity), ← EReal.coe_mul, ← EReal.coe_mul, zpow_neg, one_div]

variable (b : Fin 9) (s : Fin 2048) (h : Fin 8) (g : Fin 2) (d : Fin 64)

theorem rows8_at (a : FVec Ideal S9x2048x512 .bf16) : (rows8 a (ix4 b s h d) : EReal) = a (ix3 b s (⟨64 * h.val + d.val, by omega⟩ : Fin 512)) := by
  unfold rows8
  pointwise
  exact congrArg (fun j => a (ix3 b s j)) (Fin.ext (by show h.val * 64 + d.val = 64 * h.val + d.val; omega))

theorem rows2_at (a : FVec Ideal S9x2048x128 .bf16) : (rows2 a (ix4 b s g d) : EReal) = a (ix3 b s (⟨64 * g.val + d.val, by omega⟩ : Fin 128)) := by
  unfold rows2
  pointwise
  exact congrArg (fun j => a (ix3 b s j)) (Fin.ext (by show g.val * 64 + d.val = 64 * g.val + d.val; omega))

theorem scales8_at (a : FVec Ideal S9x2048x8x1 .f32) : scales8 a (ix4 b s h 0) = tableScale (a (ix4 b s h 0)) := by
  generalize hT : tableScale (a (ix4 b s h 0)) = T
  unfold scales8 table
  pointwise
  simp only [id_eq, ValueIdx.constant_apply]
  rw [← hT, Ideal.ofBits_one_f32]
  unfold tableScale
  with_reducible rfl

theorem scales2_at (a : FVec Ideal S9x2048x2x1 .f32) : scales2 a (ix4 b s g 0) = tableScale (a (ix4 b s g 0)) := by
  generalize hT : tableScale (a (ix4 b s g 0)) = T
  unfold scales2 table
  pointwise
  simp only [id_eq, ValueIdx.constant_apply]
  rw [← hT, Ideal.ofBits_one_f32]
  unfold tableScale
  with_reducible rfl

theorem scalesP_at (r : Fin 4) (a : FVec Ideal S9x2x4x2048x1 .f32) : scalesP a (ix5 b g r s 0) = tableScale (a (ix5 b g r s 0)) := by
  generalize hT : tableScale (a (ix5 b g r s 0)) = T
  unfold scalesP table
  pointwise
  simp only [id_eq, ValueIdx.constant_apply]
  rw [← hT, Ideal.ofBits_one_f32]
  unfold tableScale
  with_reducible rfl

theorem codes8_at (x : FVec Ideal S9x2048x8x64 .f32) (y : FVec Ideal S9x2048x8x1 .f32) :
    codes8 x y (ix4 b s h d) = min (Ideal.ofBits .f32 1138753536#32) (max (Ideal.ofBits .f32 3286237184#32) (Ideal.div (x (ix4 b s h d)) (y (ix4 b s h 0)))) := by
  unfold codes8
  pointwise
  simp only [id_eq, ValueIdx.constant_apply]

theorem codes2_at (x : FVec Ideal S9x2048x2x64 .f32) (y : FVec Ideal S9x2048x2x1 .f32) :
    codes2 x y (ix4 b s g d) = min (Ideal.ofBits .f32 1138753536#32) (max (Ideal.ofBits .f32 3286237184#32) (Ideal.div (x (ix4 b s g d)) (y (ix4 b s g 0)))) := by
  unfold codes2
  pointwise
  simp only [id_eq, ValueIdx.constant_apply]

/-! ## Of rows of tame reals -/

section
variable {x : FVec Ideal S9x2048x8x64 .f32} {f : Fin 9 → Fin 8 → Fin 2048 → Fin 64 → ℝ} (hx : ∀ b s h d, x (ix4 b s h d) = ((f b h s d : ℝ) : EReal)) (ht : ∀ b h s d, Tame (f b h s d))
include hx

theorem peak8_val : (peak8 x (ix4 b s h 0) : EReal) = ((amax (f b h s) : ℝ) : EReal) := by
  rw [← fold_absf]
  unfold peak8
  pointwise
  simp only [hx]

include ht

theorem scales8_val : (scales8 (peak8 x) (ix4 b s h 0) : EReal) = (((2 : ℝ) ^ expq (f b h s) : ℝ) : EReal) := by
  rw [scales8_at, peak8_val b s h hx]
  exact tableScale_eq (amax_mag (ht b h s))

theorem codes8_val : (codes8 x (scales8 (peak8 x)) (ix4 b s h d) : EReal) = ((code (f b h s) d : ℝ) : EReal) := by
  rw [codes8_at, scales8_val b s h hx ht, hx]
  exact code_div (f b h s) d
end

section
variable {x : FVec Ideal S9x2048x2x64 .f32} {f : Fin 9 → Fin 2 → Fin 2048 → Fin 64 → ℝ} (hx : ∀ b s g d, x (ix4 b s g d) = ((f b g s d : ℝ) : EReal)) (ht : ∀ b g s d, Tame (f b g s d))
include hx

theorem peak2_val : (peak2 x (ix4 b s g 0) : EReal) = ((amax (f b g s) : ℝ) : EReal) := by
  rw [← fold_absf]
  unfold peak2
  pointwise
  simp only [hx]

include ht

theorem scales2_val : (scales2 (peak2 x) (ix4 b s g 0) : EReal) = (((2 : ℝ) ^ expq (f b g s) : ℝ) : EReal) := by
  rw [scales2_at, peak2_val b s g hx]
  exact tableScale_eq (amax_mag (ht b g s))

theorem codes2_val : (codes2 x (scales2 (peak2 x)) (ix4 b s g d) : EReal) = ((code (f b g s) d : ℝ) : EReal) := by
  rw [codes2_at, scales2_val b s g hx ht, hx]
  exact code_div (f b g s) d
end

end Cert.ReferenceIdeal.Value

end
-- ==== Proof.Box.lean ====
/- A box stored into an array, and a box loaded from it, at an index. -/
module

public import proofs.«01_k».proof.Proof.Prog
public import Idealize.ShloMosaic.Lib.Pointwise

@[expose] public section

noncomputable section

namespace Cert.Attn

open Idealize.ShloMosaic Idealize.SL.Sem

section
variable {s : Shape} {α : Type} {off size : Fin s.rank → Nat} (inb : ∀ a, off a + size a ≤ s.size a)

/-- A box's index, placed. -/
theorem box_emb {y : s.Idx} {x : (⟨s.rank, size⟩ : Shape).Idx} (h : ∀ a, (y a : Nat) = off a + x a) : (Rect.unit off size inb).emb x = y := by
  funext a
  apply Fin.ext
  rw [Rect.emb_apply]
  show off a + 1 * (x a : Nat) = _
  have := h a
  omega

/-- Inside the box stored, what was stored. -/
theorem overlay_in (f : s.Idx → α) (w : (⟨s.rank, size⟩ : Shape).Idx → α) {y : s.Idx} (x : (⟨s.rank, size⟩ : Shape).Idx)
    (h : ∀ a, (y a : Nat) = off a + x a) : (Rect.unit off size inb).overlay f w y = w x := by
  rw [← box_emb inb h]
  exact Rect.overlay_emb _ _ _ _

/-- Outside it, what was there. -/
theorem overlay_out (f : s.Idx → α) (w : (⟨s.rank, size⟩ : Shape).Idx → α) {y : s.Idx} (a : Fin s.rank)
    (h : (y a : Nat) < off a ∨ off a + size a ≤ (y a : Nat)) : (Rect.unit off size inb).overlay f w y = f y := by
  apply Rect.overlay_of_not_mem
  intro hy
  obtain ⟨x, rfl⟩ := (Rect.unit off size inb).exists_idx_of_mem hy
  have l : (x a : Nat) < size a := (x a).isLt
  change off a + 1 * (x a : Nat) < off a ∨ off a + size a ≤ off a + 1 * (x a : Nat) at h
  omega

end

variable {F : FTy → Type} [FloatOps F]

theorem put_same (σ : St F) (b : B) (r : Rect b.shape) (w : r.shape.Idx → Elt F b.elt) : put σ b r w b = r.overlay (σ b) w := Function.update_self _ _ _

theorem put_other (σ : St F) {b b' : B} (r : Rect b.shape) (w : r.shape.Idx → Elt F b.elt) (h : b' ≠ b) : put σ b r w b' = σ b' := Function.update_of_ne h _ _

theorem run_pst (σ : St F) (b : B) (off size : Fin b.shape.rank → Nat) (inb : ∀ a, off a + size a ≤ b.shape.size a)
    (hn : 0 < (⟨b.shape.rank, size⟩ : Shape).numel) (ho : StoreOk b (Rect.unit (s := b.shape) off size inb))
    (w : Vec F ⟨b.shape.rank, size⟩ b.elt) : run (pst b off size inb hn ho w) σ = (⟨⟩, put σ b (Rect.unit (s := b.shape) off size inb) w) := rfl

theorem run_ld (σ : St F) (b : B) (off size : Fin b.shape.rank → Nat) (inb : ∀ a, off a + size a ≤ b.shape.size a)
    (hn : 0 < (⟨b.shape.rank, size⟩ : Shape).numel) : run (ld b off size inb hn) σ = (fun x => σ b ((Rect.unit (s := b.shape) off size inb).emb x), σ) := rfl

/-! ## Rows of an array -/

section
variable {α : Type} {n a b c : Nat}

/-- A row of the second of four axes stored. -/
theorem row4 (h : Nat) (inb) (f : (V4 1 n a b).Idx → α) (w : (V4 1 1 a b).Idx → α) (h' : Fin n) (d : Fin a) (s : Fin b) :
    (Rect.unit (s := V4 1 n a b) ![0, h, 0, 0] ![1, 1, a, b] inb).overlay f w (ix4 0 h' d s) = if h'.val = h then w (ix4 0 0 d s) else f (ix4 0 h' d s) := by
  split
  · rename_i e
    refine overlay_in (s := V4 1 n a b) (off := ![0, h, 0, 0]) (size := ![1, 1, a, b]) _ f _ (y := ix4 0 h' d s) (ix4 0 0 d s) ?_
    intro a
    fin_cases a
    · rfl
    · exact e.trans (Nat.add_zero _).symm
    · exact (Nat.zero_add _).symm
    · exact (Nat.zero_add _).symm
  · rename_i e
    refine overlay_out (s := V4 1 n a b) (off := ![0, h, 0, 0]) (size := ![1, 1, a, b]) _ f _ (y := ix4 0 h' d s) 1 ?_
    show h'.val < h ∨ h + 1 ≤ h'.val
    omega

/-- A row of the second of three axes stored. -/
theorem row3 (h : Nat) (inb) (f : (V3 1 n b).Idx → α) (w : (V3 1 1 b).Idx → α) (h' : Fin n) (s : Fin b) :
    (Rect.unit (s := V3 1 n b) ![0, h, 0] ![1, 1, b] inb).overlay f w (ix3 0 h' s) = if h'.val = h then w (ix3 0 0 s) else f (ix3 0 h' s) := by
  split
  · rename_i e
    refine overlay_in (s := V3 1 n b) (off := ![0, h, 0]) (size := ![1, 1, b]) _ f _ (y := ix3 0 h' s) (ix3 0 0 s) ?_
    intro a
    fin_cases a
    · rfl
    · exact e.trans (Nat.add_zero _).symm
    · exact (Nat.zero_add _).symm
  · rename_i e
    refine overlay_out (s := V3 1 n b) (off := ![0, h, 0]) (size := ![1, 1, b]) _ f _ (y := ix3 0 h' s) 1 ?_
    show h'.val < h ∨ h + 1 ≤ h'.val
    omega

/-- A slab of the first of three axes stored. -/
theorem slab3 (h : Nat) (inb) (f : (V3 n a b).Idx → α) (w : (V3 1 a b).Idx → α) (h' : Fin n) (d : Fin a) (s : Fin b) :
    (Rect.unit (s := V3 n a b) ![h, 0, 0] ![1, a, b] inb).overlay f w (ix3 h' d s) = if h'.val = h then w (ix3 0 d s) else f (ix3 h' d s) := by
  split
  · rename_i e
    refine overlay_in (s := V3 n a b) (off := ![h, 0, 0]) (size := ![1, a, b]) _ f _ (y := ix3 h' d s) (ix3 0 d s) ?_
    intro a
    fin_cases a
    · exact e.trans (Nat.add_zero _).symm
    · exact (Nat.zero_add _).symm
    · exact (Nat.zero_add _).symm
  · rename_i e
    refine overlay_out (s := V3 n a b) (off := ![h, 0, 0]) (size := ![1, a, b]) _ f _ (y := ix3 h' d s) 0 ?_
    show h'.val < h ∨ h + 1 ≤ h'.val
    omega

/-- A band of rows of a matrix stored. -/
theorem band2 (o : Nat) (inb) (f : (V2 n b).Idx → α) (w : (V2 a b).Idx → α) (i : Fin n) (j : Fin b) :
    (Rect.unit (s := V2 n b) ![o, 0] ![a, b] inb).overlay f w (ix2 i j) = if h : o ≤ i.val ∧ i.val < o + a then w (ix2 ⟨i.val - o, by omega⟩ j) else f (ix2 i j) := by
  split
  · rename_i e
    refine overlay_in (s := V2 n b) (off := ![o, 0]) (size := ![a, b]) _ f _ (y := ix2 i j) (ix2 ⟨i.val - o, by omega⟩ j) ?_
    intro a
    fin_cases a
    · show i.val = o + (i.val - o)
      omega
    · exact (Nat.zero_add _).symm
  · rename_i e
    refine overlay_out (s := V2 n b) (off := ![o, 0]) (size := ![a, b]) _ f _ (y := ix2 i j) 0 ?_
    show i.val < o ∨ o + a ≤ i.val
    omega

/-- A band of the last of three axes stored, in one slab. -/
theorem band3 (h o : Nat) (inb) (f : (V3 n a b).Idx → α) (w : (V3 1 a c).Idx → α) (h' : Fin n) (d : Fin a) (s : Fin b) :
    (Rect.unit (s := V3 n a b) ![h, 0, o] ![1, a, c] inb).overlay f w (ix3 h' d s)
      = if e : h'.val = h ∧ o ≤ s.val ∧ s.val < o + c then w (ix3 0 d ⟨s.val - o, by omega⟩) else f (ix3 h' d s) := by
  split
  · rename_i e
    refine overlay_in (s := V3 n a b) (off := ![h, 0, o]) (size := ![1, a, c]) _ f _ (y := ix3 h' d s) (ix3 0 d ⟨s.val - o, by omega⟩) ?_
    intro a
    fin_cases a
    · exact e.1.trans (Nat.add_zero _).symm
    · exact (Nat.zero_add _).symm
    · show s.val = o + (s.val - o)
      omega
  · rename_i e
    by_cases e1 : h'.val = h
    · refine overlay_out (s := V3 n a b) (off := ![h, 0, o]) (size := ![1, a, c]) _ f _ (y := ix3 h' d s) 2 ?_
      show s.val < o ∨ o + c ≤ s.val
      omega
    · refine overlay_out (s := V3 n a b) (off := ![h, 0, o]) (size := ![1, a, c]) _ f _ (y := ix3 h' d s) 0 ?_
      show h'.val < h ∨ h + 1 ≤ h'.val
      omega

end

/-- A box of a buffer. -/
abbrev boxAt (σ : St F) (b : B) (off size : Fin b.shape.rank → Nat) (inb : ∀ a, off a + size a ≤ b.shape.size a) : Vec F ⟨b.shape.rank, size⟩ b.elt :=
  fun x => σ b ((Rect.unit (s := b.shape) off size inb).emb x)

theorem boxAt_eq (σ : St F) (b : B) (off size : Fin b.shape.rank → Nat) (inb : ∀ a, off a + size a ≤ b.shape.size a) (x : (⟨b.shape.rank, size⟩ : Shape).Idx)
    (y : b.shape.Idx) (h : ∀ a, (y a : Nat) = off a + x a) : boxAt σ b off size inb x = σ b y := congrArg (σ b) (box_emb inb h)

end Cert.Attn

end
-- ==== Proof.Prologue.lean ====
/- What the prologue leaves: every vector's codes and scales, and the arrays the heads read. -/
module

public import proofs.«01_k».proof.Proof.Box
public import proofs.«01_k».proof.Proof.Quant
public import proofs.«01_k».proof.Proof.Only

@[expose] public section

set_option maxRecDepth 16384

noncomputable section

namespace Cert.Attn

open Idealize.ShloMosaic Idealize.SL.Sem

section
variable {F : FTy → Type} [FloatOps F]

theorem x_inb (h : Nat) (hh : h < 8) : ∀ a, (![0, 0, 64 * h] : Fin 3 → Nat) a + (![1, 2048, 64] : Fin 3 → Nat) a ≤ B.x.shape.size a := by
  intro a; fin_cases a <;> simp <;> omega

/-- Head `h`'s queries as a block. -/
def queries (σ : St F) (h : Nat) (hh : h < 8) : FVec F (V2 64 2048) .f32 := headT (boxAt σ .x ![0, 0, 64 * h] ![1, 2048, 64] (x_inb h hh))

theorem headCmd_run (h : Nat) (hh : h < 8) (σ : St F) : (run (headCmd h hh) σ).2 =
    put (put σ .qc (Rect.unit (s := B.shape .qc) ![0, h, 0, 0] ![1, 1, 64, 2048] (by intro a; fin_cases a <;> simp <;> omega))
        (shapeCast (V4 1 1 64 2048) (codes (queries σ h hh) (colField (queries σ h hh))) (by decide)))
      .qs (Rect.unit (s := B.shape .qs) ![0, h, 0] ![1, 1, 2048] (by intro a; fin_cases a <;> simp <;> omega))
        (shapeCast (V3 1 1 2048) (up (colField (queries σ h hh)) : FVec F (V2 1 2048) .f32) (by decide)) := rfl

/-- A key head's keys, or values, as a block. -/
def keys (σ : St F) (g : Nat) (hg : g < 2) : FVec F (V2 64 2048) .f32 := half g hg (slab (boxAt σ .k ![0, 0, 0] ![1, 2048, 128] (by decide)))
def vals (σ : St F) (g : Nat) (hg : g < 2) : FVec F (V2 64 2048) .f32 := half g hg (slab (boxAt σ .v ![0, 0, 0] ![1, 2048, 128] (by decide)))

/-- The state before the heads. -/
def masked (σ : St F) : St F := put σ .mk (Rect.unit (s := B.shape .mk) ![0, 0] ![256, 256] (by decide)) (shapeCast (V2 256 256) maskBlk (by decide))

theorem prologue_run (σ : St F) : (run prologue σ).2 =
    (run (kvCmd 1 (by omega) (keys σ 1 (by omega)) (vals σ 1 (by omega))) (run (kvCmd 0 (by omega) (keys σ 0 (by omega)) (vals σ 0 (by omega))) (run (heads 8 (by omega)) (masked σ)).2).2).2 := by
  unfold prologue
  rw [run_bind]
  rw [run_bind]
  rw [run_bind]
  rw [run_bind]
  rw [run_bind]
  rfl

/-- Key head `g`'s commands are nine stores. -/
theorem kvCmd_run (σ : St F) (g : Nat) (hg : g < 2) (k v : FVec F (V2 64 2048) .f32) : (run (kvCmd g hg k v) σ).2 =
    put (put (put (put (put (put (put (put (put σ
      .kc (Rect.unit (s := B.shape .kc) ![0, g, 0, 0] ![1, 1, 64, 2048] (by intro a; fin_cases a <;> simp <;> omega)) (shapeCast (V4 1 1 64 2048) (codes k (colField k)) (by decide)))
      .ks (Rect.unit (s := B.shape .ks) ![0, g, 0] ![1, 1, 2048] (by intro a; fin_cases a <;> simp <;> omega)) (shapeCast (V3 1 1 2048) (up (colField k) : FVec F (V2 1 2048) .f32) (by decide)))
      .vc (Rect.unit (s := B.shape .vc) ![0, g, 0, 0] ![1, 1, 64, 2048] (by intro a; fin_cases a <;> simp <;> omega)) (shapeCast (V4 1 1 64 2048) (codes v (colField v)) (by decide)))
      .vs (Rect.unit (s := B.shape .vs) ![0, g, 0] ![1, 1, 2048] (by intro a; fin_cases a <;> simp <;> omega)) (shapeCast (V3 1 1 2048) (up (colField v) : FVec F (V2 1 2048) .f32) (by decide)))
      .km (Rect.unit (s := B.shape .km) ![g, 0, 0] ![1, 2048, 64] (by intro a; fin_cases a <;> simp <;> omega)) (shapeCast (V3 1 2048 64) (truncf .fp8e4m3 (transpose (V2 2048 64) [1, 0]
        (extf .f32 (codes k (colField k)) lt_f8_f32 : FVec F (V2 64 2048) .f32) (by decide)) lt_f8_f32 : FVec F (V2 2048 64) .fp8e4m3) (by decide)))
      .cs (Rect.unit (s := B.shape .cs) ![g, 0, 0] ![1, 2048, 128] (by intro a; fin_cases a <;> simp <;> omega)) (spread (up (colField k))))
      .bk (Rect.unit (s := B.shape .bk) ![g, 0, 0] ![1, 2048, 128] (by intro a; fin_cases a <;> simp <;> omega)) (spread posRow))
      .ev (Rect.unit (s := B.shape .ev) ![g, 0, 0] ![1, 2048, 128] (by intro a; fin_cases a <;> simp <;> omega)) (spread (expo (colField v))))
      .iv (Rect.unit (s := B.shape .iv) ![g, 0, 0] ![1, 2048, 128] (by intro a; fin_cases a <;> simp <;> omega)) (spread (divf (broadcast (V2 1 2048) (Scalar.ofBits .f32 0x3F800000#32)) (up (colField v)))) := rfl

end

section
variable (σ : St Ideal) (k v : FVec Ideal (V2 64 2048) .f32) (g : Nat) (hg : g < 2)

theorem kv_kc (g' : Fin 2) (d : Fin 64) (s : Fin 2048) : ((run (kvCmd g hg k v) σ).2 .kc (ix4 0 g' d s) : EReal) = if g'.val = g then codes k (colField k) (ix2 d s) else σ .kc (ix4 0 g' d s) := by
  rw [kvCmd_run]
  repeat rw [put_other (b' := .kc) _ _ _ (by decide)]
  rw [put_same]
  refine (row4 g _ (σ .kc) _ g' d s).trans ?_
  pointwise

theorem kv_ks (g' : Fin 2) (s : Fin 2048) : ((run (kvCmd g hg k v) σ).2 .ks (ix3 0 g' s) : EReal) = if g'.val = g then (up (colField k) : FVec Ideal (V2 1 2048) .f32) (ix2 0 s) else σ .ks (ix3 0 g' s) := by
  rw [kvCmd_run]
  repeat rw [put_other (b' := .ks) _ _ _ (by decide)]
  rw [put_same]
  repeat rw [put_other (b' := .ks) _ _ _ (by decide)]
  refine (row3 g _ (σ .ks) _ g' s).trans ?_
  pointwise

theorem kv_vc (g' : Fin 2) (d : Fin 64) (s : Fin 2048) : ((run (kvCmd g hg k v) σ).2 .vc (ix4 0 g' d s) : EReal) = if g'.val = g then codes v (colField v) (ix2 d s) else σ .vc (ix4 0 g' d s) := by
  rw [kvCmd_run]
  repeat rw [put_other (b' := .vc) _ _ _ (by decide)]
  rw [put_same]
  repeat rw [put_other (b' := .vc) _ _ _ (by decide)]
  refine (row4 g _ (σ .vc) _ g' d s).trans ?_
  pointwise

theorem kv_vs (g' : Fin 2) (s : Fin 2048) : ((run (kvCmd g hg k v) σ).2 .vs (ix3 0 g' s) : EReal) = if g'.val = g then (up (colField v) : FVec Ideal (V2 1 2048) .f32) (ix2 0 s) else σ .vs (ix3 0 g' s) := by
  rw [kvCmd_run]
  repeat rw [put_other (b' := .vs) _ _ _ (by decide)]
  rw [put_same]
  repeat rw [put_other (b' := .vs) _ _ _ (by decide)]
  refine (row3 g _ (σ .vs) _ g' s).trans ?_
  pointwise

theorem kv_km (g' : Fin 2) (s : Fin 2048) (d : Fin 64) : ((run (kvCmd g hg k v) σ).2 .km (ix3 g' s d) : EReal) = if g'.val = g then codes k (colField k) (ix2 d s) else σ .km (ix3 g' s d) := by
  rw [kvCmd_run]
  repeat rw [put_other (b' := .km) _ _ _ (by decide)]
  rw [put_same]
  repeat rw [put_other (b' := .km) _ _ _ (by decide)]
  refine (slab3 g _ (σ .km) _ g' s d).trans ?_
  pointwise

theorem kv_cs (g' : Fin 2) (s : Fin 2048) (l : Fin 128) : ((run (kvCmd g hg k v) σ).2 .cs (ix3 g' s l) : EReal) = if g'.val = g then (up (colField k) : FVec Ideal (V2 1 2048) .f32) (ix2 0 s) else σ .cs (ix3 g' s l) := by
  rw [kvCmd_run]
  repeat rw [put_other (b' := .cs) _ _ _ (by decide)]
  rw [put_same]
  repeat rw [put_other (b' := .cs) _ _ _ (by decide)]
  refine (slab3 g _ (σ .cs) _ g' s l).trans ?_
  rw [spread_at]

theorem kv_bk (g' : Fin 2) (s : Fin 2048) (l : Fin 128) : ((run (kvCmd g hg k v) σ).2 .bk (ix3 g' s l) : EReal) = if g'.val = g then (posRow : FVec Ideal (V2 1 2048) .f32) (ix2 0 s) else σ .bk (ix3 g' s l) := by
  rw [kvCmd_run]
  repeat rw [put_other (b' := .bk) _ _ _ (by decide)]
  rw [put_same]
  repeat rw [put_other (b' := .bk) _ _ _ (by decide)]
  refine (slab3 g _ (σ .bk) _ g' s l).trans ?_
  rw [spread_at]

theorem kv_ev (g' : Fin 2) (s : Fin 2048) (l : Fin 128) : ((run (kvCmd g hg k v) σ).2 .ev (ix3 g' s l) : EReal) = if g'.val = g then (expo (colField v) : FVec Ideal (V2 1 2048) .f32) (ix2 0 s) else σ .ev (ix3 g' s l) := by
  rw [kvCmd_run]
  repeat rw [put_other (b' := .ev) _ _ _ (by decide)]
  rw [put_same]
  repeat rw [put_other (b' := .ev) _ _ _ (by decide)]
  refine (slab3 g _ (σ .ev) _ g' s l).trans ?_
  rw [spread_at]

theorem kv_iv (g' : Fin 2) (s : Fin 2048) (l : Fin 128) : ((run (kvCmd g hg k v) σ).2 .iv (ix3 g' s l) : EReal) = if g'.val = g then (divf (broadcast (V2 1 2048) (Scalar.ofBits .f32 0x3F800000#32)) (up (colField v)) : FVec Ideal (V2 1 2048) .f32) (ix2 0 s) else σ .iv (ix3 g' s l) := by
  rw [kvCmd_run]
  repeat rw [put_other (b' := .iv) _ _ _ (by decide)]
  rw [put_same]
  repeat rw [put_other (b' := .iv) _ _ _ (by decide)]
  refine (slab3 g _ (σ .iv) _ g' s l).trans ?_
  rw [spread_at]

theorem kv_qc : (run (kvCmd g hg k v) σ).2 .qc = σ .qc := by
  rw [kvCmd_run]
  repeat rw [put_other (b' := .qc) _ _ _ (by decide)]

theorem kv_qs : (run (kvCmd g hg k v) σ).2 .qs = σ .qs := by
  rw [kvCmd_run]
  repeat rw [put_other (b' := .qs) _ _ _ (by decide)]

theorem kv_mk : (run (kvCmd g hg k v) σ).2 .mk = σ .mk := by
  rw [kvCmd_run]
  repeat rw [put_other (b' := .mk) _ _ _ (by decide)]

end

variable (σ : St Ideal)

theorem headT_at (z : Vec Ideal (V3 1 2048 64) .bf16) (d : Fin 64) (s : Fin 2048) : (headT z (ix2 d s) : EReal) = z (ix3 0 s d) := by
  pointwise [headT]

theorem half_at (z : Vec Ideal (V3 1 2048 128) .bf16) (g : Fin 2) (d : Fin 64) (s : Fin 2048) : (half g.val g.isLt (slab z) (ix2 d s) : EReal) = z (ix3 0 s ⟨64 * g.val + d.val, by omega⟩) := by
  pointwise [half, slab]

theorem heads_input (n : Nat) (h : n ≤ 8) (σ : St Ideal) : (run (heads n h) σ).2 .x = σ .x := run_only (heads_only n h) σ (by decide)

theorem queries_congr {σ σ' : St Ideal} (e : σ .x = σ' .x) (h : Nat) (hh : h < 8) : queries σ h hh = queries σ' h hh := by
  unfold queries boxAt
  rw [e]

theorem heads_qc (n : Nat) (hn : n ≤ 8) (h : Fin 8) (d : Fin 64) (s : Fin 2048) (hh : h.val < n) :
    ((run (heads n hn) σ).2 .qc (ix4 0 h d s) : EReal) = codes (queries σ h.val h.isLt) (colField (queries σ h.val h.isLt)) (ix2 d s) := by
  induction n with
  | zero => omega
  | succ n ih =>
    rw [heads, run_bind, headCmd_run, put_other _ _ _ (by decide), put_same]
    refine (row4 n _ ((run (heads n (by omega)) σ).2 .qc) _ h d s).trans ?_
    split
    · rename_i e
      subst e
      rw [queries_congr (heads_input _ _ σ)]
      pointwise
    · exact ih (by omega) (by omega)

theorem heads_qs (n : Nat) (hn : n ≤ 8) (h : Fin 8) (s : Fin 2048) (hh : h.val < n) :
    ((run (heads n hn) σ).2 .qs (ix3 0 h s) : EReal) = (up (colField (queries σ h.val h.isLt)) : FVec Ideal (V2 1 2048) .f32) (ix2 0 s) := by
  induction n with
  | zero => omega
  | succ n ih =>
    rw [heads, run_bind, headCmd_run, put_same, put_other _ _ _ (by decide)]
    refine (row3 n _ ((run (heads n (by omega)) σ).2 .qs) _ h s).trans ?_
    split
    · rename_i e
      subst e
      rw [queries_congr (heads_input _ _ σ)]
      pointwise
    · exact ih (by omega) (by omega)

theorem headCmd_mk (h : Nat) (hh : h < 8) : (run (headCmd h hh) σ).2 .mk = σ .mk := by
  rw [headCmd_run, put_other _ _ _ (by decide), put_other _ _ _ (by decide)]

theorem heads_mk (n : Nat) (hn : n ≤ 8) : (run (heads n hn) σ).2 .mk = σ .mk := by
  induction n with
  | zero => rfl
  | succ n ih => rw [heads, run_bind, headCmd_mk, ih]

/-- The queries, keys and values of one batch. -/
structure Data where
  q : Fin 8 → Fin 2048 → Fin 64 → ℝ
  k : Fin 2 → Fin 2048 → Fin 64 → ℝ
  v : Fin 2 → Fin 2048 → Fin 64 → ℝ

/-- The precondition of a batch. -/
structure Data.Ok (D : Data) : Prop where
  q : ∀ h s d, Tame (D.q h s d)
  k : ∀ h s d, Tame (D.k h s d)
  v : ∀ h s d, Tame (D.v h s d)

/-- The state's inputs are the batch's. -/
structure Holds (σ : St Ideal) (D : Data) : Prop where
  x : ∀ (h : Fin 8) (s : Fin 2048) (d : Fin 64), (σ .x (ix3 0 s ⟨64 * h.val + d.val, by omega⟩) : EReal) = ((D.q h s d : ℝ) : EReal)
  k : ∀ (g : Fin 2) (s : Fin 2048) (d : Fin 64), (σ .k (ix3 0 s ⟨64 * g.val + d.val, by omega⟩) : EReal) = ((D.k g s d : ℝ) : EReal)
  v : ∀ (g : Fin 2) (s : Fin 2048) (d : Fin 64), (σ .v (ix3 0 s ⟨64 * g.val + d.val, by omega⟩) : EReal) = ((D.v g s d : ℝ) : EReal)

/-- The state after the prologue. -/
structure Ready (σ : St Ideal) (D : Data) : Prop where
  qc : ∀ (h : Fin 8) (d : Fin 64) (s : Fin 2048), (σ .qc (ix4 0 h d s) : EReal) = ((code (D.q h s) d : ℝ) : EReal)
  qs : ∀ (h : Fin 8) (s : Fin 2048), (σ .qs (ix3 0 h s) : EReal) = (((2 : ℝ) ^ expq (D.q h s) : ℝ) : EReal)
  kc : ∀ (g : Fin 2) (d : Fin 64) (s : Fin 2048), (σ .kc (ix4 0 g d s) : EReal) = ((code (D.k g s) d : ℝ) : EReal)
  ks : ∀ (g : Fin 2) (s : Fin 2048), (σ .ks (ix3 0 g s) : EReal) = (((2 : ℝ) ^ expq (D.k g s) : ℝ) : EReal)
  vc : ∀ (g : Fin 2) (d : Fin 64) (s : Fin 2048), (σ .vc (ix4 0 g d s) : EReal) = ((code (D.v g s) d : ℝ) : EReal)
  vs : ∀ (g : Fin 2) (s : Fin 2048), (σ .vs (ix3 0 g s) : EReal) = (((2 : ℝ) ^ expq (D.v g s) : ℝ) : EReal)
  km : ∀ (g : Fin 2) (s : Fin 2048) (d : Fin 64), (σ .km (ix3 g s d) : EReal) = ((code (D.k g s) d : ℝ) : EReal)
  cs : ∀ (g : Fin 2) (s : Fin 2048) (l : Fin 128), (σ .cs (ix3 g s l) : EReal) = (((2 : ℝ) ^ expq (D.k g s) : ℝ) : EReal)
  bk : ∀ (g : Fin 2) (s : Fin 2048) (l : Fin 128), (σ .bk (ix3 g s l) : EReal) = ((s.val : ℝ) : EReal)
  ev : ∀ (g : Fin 2) (s : Fin 2048) (l : Fin 128), (σ .ev (ix3 g s l) : EReal) = (((expq (D.v g s) : ℤ) : ℝ) : EReal)
  iv : ∀ (g : Fin 2) (s : Fin 2048) (l : Fin 128), (σ .iv (ix3 g s l) : EReal) = (((2 : ℝ) ^ (-expq (D.v g s)) : ℝ) : EReal)
  mask : ∀ i j : Fin 256, (σ .mk (ix2 i j) : EReal) = if i ≤ j then 0 else ⊥

variable {σ} {D : Data} (H : Holds σ D) (O : D.Ok)
include H

theorem queries_at (h : Fin 8) (d : Fin 64) (s : Fin 2048) : (queries σ h.val h.isLt (ix2 d s) : EReal) = ((D.q h s d : ℝ) : EReal) := by
  unfold queries
  rw [headT_at, ← H.x]
  exact boxAt_eq σ .x ![0, 0, 64 * h.val] ![1, 2048, 64] (x_inb h.val h.isLt) (ix3 0 s d) _ (by
    intro a
    fin_cases a
    · rfl
    · exact (Nat.zero_add _).symm
    · rfl)

theorem keys_at (g : Fin 2) (d : Fin 64) (s : Fin 2048) : (keys σ g.val g.isLt (ix2 d s) : EReal) = ((D.k g s d : ℝ) : EReal) := by
  unfold keys
  rw [half_at, ← H.k]
  exact boxAt_eq σ .k ![0, 0, 0] ![1, 2048, 128] (by decide) (ix3 0 s ⟨64 * g.val + d.val, by omega⟩) _ (by
    intro a
    fin_cases a
    · rfl
    · exact (Nat.zero_add _).symm
    · exact (Nat.zero_add _).symm)

theorem vals_at (g : Fin 2) (d : Fin 64) (s : Fin 2048) : (vals σ g.val g.isLt (ix2 d s) : EReal) = ((D.v g s d : ℝ) : EReal) := by
  unfold vals
  rw [half_at, ← H.v]
  exact boxAt_eq σ .v ![0, 0, 0] ![1, 2048, 128] (by decide) (ix3 0 s ⟨64 * g.val + d.val, by omega⟩) _ (by
    intro a
    fin_cases a
    · rfl
    · exact (Nat.zero_add _).symm
    · exact (Nat.zero_add _).symm)

include O

theorem ready : Ready (run prologue σ).2 D := by
  have mq (h s) := amax_mag (O.q h s)
  have mk (h s) := amax_mag (O.k h s)
  have mv (h s) := amax_mag (O.v h s)
  have kx (g : Fin 2) (i j) := keys_at H g i j
  have vx (g : Fin 2) (i j) := vals_at H g i j
  have qx (h : Fin 8) : queries (masked σ) h.val h.isLt = queries σ h.val h.isLt := queries_congr (put_other _ _ _ (by decide)) _ _
  rw [prologue_run]
  constructor
  · intro h d s
    rw [kv_qc, kv_qc, heads_qc _ 8 _ h d s h.isLt, qx]
    exact codes_at (queries_at H h) d s (mq h s)
  · intro h s
    rw [kv_qs, kv_qs, heads_qs _ 8 _ h s h.isLt, qx]
    exact up_at (queries_at H h) s (mq h s)
  · intro g d s
    rw [kv_kc, kv_kc]
    fin_cases g
    · exact codes_at (kx 0) d s (mk 0 s)
    · exact codes_at (kx 1) d s (mk 1 s)
  · intro g s
    rw [kv_ks, kv_ks]
    fin_cases g
    · exact up_at (kx 0) s (mk 0 s)
    · exact up_at (kx 1) s (mk 1 s)
  · intro g d s
    rw [kv_vc, kv_vc]
    fin_cases g
    · exact codes_at (vx 0) d s (mv 0 s)
    · exact codes_at (vx 1) d s (mv 1 s)
  · intro g s
    rw [kv_vs, kv_vs]
    fin_cases g
    · exact up_at (vx 0) s (mv 0 s)
    · exact up_at (vx 1) s (mv 1 s)
  · intro g s d
    rw [kv_km, kv_km]
    fin_cases g
    · exact codes_at (kx 0) d s (mk 0 s)
    · exact codes_at (kx 1) d s (mk 1 s)
  · intro g s l
    rw [kv_cs, kv_cs]
    fin_cases g
    · exact up_at (kx 0) s (mk 0 s)
    · exact up_at (kx 1) s (mk 1 s)
  · intro g s l
    rw [kv_bk, kv_bk]
    fin_cases g
    · exact posRow_at s
    · exact posRow_at s
  · intro g s l
    rw [kv_ev, kv_ev]
    fin_cases g
    · exact expo_at (vx 0) s (mv 0 s)
    · exact expo_at (vx 1) s (mv 1 s)
  · intro g s l
    rw [kv_iv, kv_iv]
    fin_cases g
    · exact recip_up_at (vx 0) s (mv 0 s)
    · exact recip_up_at (vx 1) s (mv 1 s)
  · intro i j
    rw [kv_mk, kv_mk, heads_mk, masked, put_same]
    refine (band2 0 _ (σ .mk) _ i j).trans ?_
    rw [dif_pos ⟨by omega, by omega⟩, ← maskBlk_at]
    pointwise

end Cert.Attn

end
-- ==== Proof.Softmax.lean ====
/- The weights of the attention, over the reals: the kernel's powers of two, whose exponents carry the values' scales,
   against the reference's softmax multiplied by those scales. -/
module

public import Idealize.ShloMosaic.Lib.Pointwise

@[expose] public section

noncomputable section

namespace Cert.Attn

open Idealize.ShloMosaic

variable {ι : Type} [Fintype ι]

theorem coe_sum (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The greatest of finitely many values, some real and the others `-∞`. -/
theorem fold_max_masked (V : ι → Prop) [DecidablePred V] (f : ι → ℝ) (i0 : ι) (h0 : V i0) (h : ∀ i, V i → f i ≤ f i0) :
    Finset.fold max (⊥ : EReal) (fun i => if V i then ((f i : ℝ) : EReal) else ⊥) Finset.univ = ((f i0 : ℝ) : EReal) := by
  apply le_antisymm
  · rw [Finset.fold_max_le]
    refine ⟨bot_le, fun i _ => ?_⟩
    split
    · exact EReal.coe_le_coe_iff.mpr (h i ‹_›)
    · exact bot_le
  · rw [Finset.le_fold_max]
    exact .inr ⟨i0, Finset.mem_univ _, by rw [if_pos h0]⟩

theorem exists_top (V : ι → Prop) [DecidablePred V] (f : ι → ℝ) (hV : ∃ i, V i) : ∃ i0, V i0 ∧ ∀ i, V i → f i ≤ f i0 := by
  classical
  obtain ⟨i, hi⟩ := hV
  obtain ⟨i0, h1, h2⟩ := Finset.exists_max_image (Finset.univ.filter V) f ⟨i, by simp [hi]⟩
  exact ⟨i0, by simpa using h1, fun j hj => h2 j (by simp [hj])⟩

theorem two_rpow_div (x : ℝ) : (2 : ℝ) ^ ((Real.log 2)⁻¹ * x) = Real.exp x := by
  rw [Real.rpow_def_of_pos (by norm_num)]
  congr 1
  have : Real.log 2 ≠ 0 := (Real.log_pos (by norm_num)).ne'
  field_simp

/-- The kernel's weights and the reference's probabilities. `V` are the keys the query sees, `z` its scores, `e` the
    exponents of the values' scales, `κ` what the kernel adds to every score. -/
theorem weights (V : ι → Prop) [DecidablePred V] (hV : ∃ i, V i) (z : ι → ℝ) (e : ι → ℤ) (κ : ℝ) :
    ∃ (a : ℝ) (w : ι → ℝ), 0 < a ∧ (∀ i, 0 ≤ w i ∧ w i ≤ 1) ∧ (∃ i, w i = 1) ∧ (∑ i, w i * (2 : ℝ) ^ (-e i) = a⁻¹) ∧ (∀ i, ¬ V i → w i = 0)
      ∧ (∀ i, Ideal.exp2 ((if V i then (((Real.log 2)⁻¹ * z i + κ + (e i : ℝ) : ℝ) : EReal) else ⊥)
          - Finset.fold max (⊥ : EReal) (fun i => if V i then (((Real.log 2)⁻¹ * z i + κ + (e i : ℝ) : ℝ) : EReal) else ⊥) Finset.univ) = ((w i : ℝ) : EReal))
      ∧ (∀ i, Ideal.div (Ideal.exp ((if V i then ((z i : ℝ) : EReal) else ⊥) - Finset.fold max (⊥ : EReal) (fun i => if V i then ((z i : ℝ) : EReal) else ⊥) Finset.univ))
          (∑ j, Ideal.exp ((if V j then ((z j : ℝ) : EReal) else ⊥) - Finset.fold max (⊥ : EReal) (fun i => if V i then ((z i : ℝ) : EReal) else ⊥) Finset.univ))
          * (((2 : ℝ) ^ e i : ℝ) : EReal) = ((w i * a : ℝ) : EReal)) := by
  obtain ⟨i0, v0, m0⟩ := exists_top V (fun i => (Real.log 2)⁻¹ * z i + κ + (e i : ℝ)) hV
  obtain ⟨i1, v1, m1⟩ := exists_top V z hV
  rw [fold_max_masked V _ i0 v0 m0, fold_max_masked V _ i1 v1 m1]
  set μ : ℝ := (Real.log 2)⁻¹ * z i0 + κ + (e i0 : ℝ) with hμ
  set M : ℝ := z i1 with hM
  set w : ι → ℝ := fun i => if V i then (2 : ℝ) ^ ((Real.log 2)⁻¹ * z i + κ + (e i : ℝ) - μ) else 0 with hw
  set E : ι → ℝ := fun i => if V i then Real.exp (z i - M) else 0 with hE
  have e2 : ∀ i, Ideal.exp2 ((if V i then (((Real.log 2)⁻¹ * z i + κ + (e i : ℝ) : ℝ) : EReal) else ⊥) - ((μ : ℝ) : EReal)) = ((w i : ℝ) : EReal) := by
    intro i
    by_cases h : V i
    · simp only [hw, h, if_true]
      rw [← EReal.coe_sub, Ideal.exp2_coe]
      rfl
    · simp only [hw, h, if_false]
      rw [EReal.bot_sub, Ideal.exp2_bot]
      rfl
  have eE : ∀ i, Ideal.exp ((if V i then ((z i : ℝ) : EReal) else ⊥) - ((M : ℝ) : EReal)) = ((E i : ℝ) : EReal) := by
    intro i
    by_cases h : V i
    · simp only [hE, h, if_true]
      rw [← EReal.coe_sub]
      rfl
    · simp only [hE, h, if_false]
      rw [EReal.bot_sub]
      rfl
  have wnn : ∀ i, 0 ≤ w i := by
    intro i
    simp only [hw]
    split <;> positivity
  have w1 : w i0 = 1 := by simp [hw, v0, hμ]
  have wle : ∀ i, w i ≤ 1 := by
    intro i
    simp only [hw]
    split
    · exact Real.rpow_le_one_of_one_le_of_nonpos (by norm_num) (by have := m0 i ‹_›; linarith)
    · norm_num
  have spos : 0 < ∑ i, w i * (2 : ℝ) ^ (-e i) :=
    Finset.sum_pos' (fun i _ => mul_nonneg (wnn i) (by positivity)) ⟨i0, Finset.mem_univ _, by rw [w1, one_mul]; positivity⟩
  set l : ℝ := ∑ i, w i * (2 : ℝ) ^ (-e i) with hl
  set C : ℝ := (2 : ℝ) ^ ((Real.log 2)⁻¹ * M + κ - μ) with hC
  have Cpos : 0 < C := by positivity
  have wE : ∀ i, w i = C * E i * (2 : ℝ) ^ e i := by
    intro i
    by_cases h : V i
    · simp only [hw, hE, h, if_true]
      rw [← two_rpow_div, ← Real.rpow_intCast, hC, ← Real.rpow_add (by norm_num), ← Real.rpow_add (by norm_num)]
      congr 1
      ring
    · simp [hw, hE, h]
  have lE : l = C * ∑ i, E i := by
    rw [hl, Finset.mul_sum]
    refine Finset.sum_congr rfl fun i _ => ?_
    rw [wE i, mul_assoc, ← zpow_add₀ (by norm_num)]
    simp
  refine ⟨l⁻¹, w, inv_pos.mpr spos, fun i => ⟨wnn i, wle i⟩, ⟨i0, w1⟩, by rw [inv_inv], fun i h => by simp [hw, h], e2, fun i => ?_⟩
  simp only [eE]
  rw [← coe_sum]
  have Dpos : (∑ i, E i) ≠ 0 := by
    intro h
    rw [h, mul_zero] at lE
    exact spos.ne' lE
  rw [Ideal.div, if_neg (by exact_mod_cast Dpos), ← EReal.coe_inv, ← EReal.coe_mul, ← EReal.coe_mul]
  congr 1
  rw [wE i, lE]
  field_simp

end Cert.Attn

end
-- ==== Proof.Attn.lean ====
/- One query's output, as the reference writes it and as the kernel does: the kernel's weights times one factor are the
   probabilities' codes. -/
module

public import proofs.«01_k».proof.Proof.Quant
public import proofs.«01_k».proof.Proof.Softmax

@[expose] public section

noncomputable section

namespace Cert.Attn

open Idealize.ShloMosaic

variable {ι : Type} [Fintype ι]

/-- Scores, `-∞` where the query does not see the key. -/
def seen (V : ι → Prop) [DecidablePred V] (z : ι → ℝ) (i : ι) : EReal := if V i then ((z i : ℝ) : EReal) else ⊥

/-- The greatest score. -/
def top (u : ι → EReal) : EReal := Finset.fold max ⊥ u Finset.univ

/-- The probabilities, times the scales of the values. -/
def prob (V : ι → Prop) [DecidablePred V] (z : ι → ℝ) (e : ι → ℤ) (i : ι) : EReal :=
  Ideal.div (Ideal.exp (seen V z i - top (seen V z))) (∑ j, Ideal.exp (seen V z j - top (seen V z))) * (((2 : ℝ) ^ e i : ℝ) : EReal)

/-- The probabilities' scale. -/
def probScale (V : ι → Prop) [DecidablePred V] (z : ι → ℝ) (e : ι → ℤ) : EReal :=
  tableScale (Finset.fold max (Ideal.ofBits .f32 4286578688#32) (fun i => (FloatOps.absf (prob V z e i) : Ideal .f32)) Finset.univ)

/-- The output: the probabilities' codes times the values', at the probabilities' scale. -/
def refOut (V : ι → Prop) [DecidablePred V] (z : ι → ℝ) (e : ι → ℤ) (c : ι → ℝ) : EReal :=
  (∑ i, min (Ideal.ofBits .f32 1138753536#32) (max (Ideal.ofBits .f32 3286237184#32) (Ideal.div (prob V z e i) (probScale V z e))) * ((c i : ℝ) : EReal)) * probScale V z e

/-- The kernel's score of a key: to base two, the value's exponent added, and a term that is one for all keys. -/
def kScore (z : ι → ℝ) (e : ι → ℤ) (κ : ℝ) (i : ι) : ℝ := (Real.log 2)⁻¹ * z i + κ + (e i : ℝ)

/-- The kernel's weight of a key. -/
def kWeight (u : ι → EReal) (i : ι) : EReal := Ideal.exp2 (u i - top u)

/-- The reciprocal of the kernel's sum of weights. -/
def kRecip (u : ι → EReal) (e : ι → ℤ) : EReal := Ideal.div 1 (∑ i, kWeight u i * (((2 : ℝ) ^ (-e i) : ℝ) : EReal))

/-- The field of the kernel's scale of the probabilities. -/
def kField (u : ι → EReal) (e : ι → ℤ) : BitVec 32 := fieldW (kRecip u e * Ideal.ofBits .f32 0x3B124925#32)

/-- The kernel's output. -/
def kOut (u : ι → EReal) (e : ι → ℤ) (c : ι → ℝ) : EReal :=
  (∑ i, ((c i : ℝ) : EReal) * (kWeight u i * min (kRecip u e * Ideal.ofBits .f32 (IntOp.shli .vector (IntOp.subi 253#32 (kField u e)) 23#32)) (Ideal.ofBits .f32 1138753536#32)))
    * Ideal.ofBits .f32 (IntOp.shli .vector (IntOp.addi (kField u e) 1#32) 23#32)

theorem kOut_eq (V : ι → Prop) [DecidablePred V] (hV : ∃ i, V i) (z : ι → ℝ) (e : ι → ℤ) (κ : ℝ) (c : ι → ℝ) (he : ∀ i, -98 ≤ e i ∧ e i ≤ 82)
    (hι : Fintype.card ι ≤ 2048) : kOut (seen V (kScore z e κ)) e c = refOut V z e c := by
  obtain ⟨a, w, ha, hw, ⟨i1, h1⟩, hs, -, hk, hr⟩ := weights V hV z e κ
  haveI : Nonempty ι := ⟨i1⟩
  have hk' : ∀ i, kWeight (seen V (kScore z e κ)) i = ((w i : ℝ) : EReal) := hk
  have hr' : ∀ i, prob V z e i = ((w i * a : ℝ) : EReal) := hr
  have e1 : kRecip (seen V (kScore z e κ)) e = ((a : ℝ) : EReal) := by
    unfold kRecip
    simp only [hk', ← EReal.coe_mul, ← coe_sum]
    rw [hs, Ideal.div_coe (inv_ne_zero ha.ne'), one_mul, one_div, inv_inv]
  have hm : Mag a := by
    have lo : (2 : ℝ) ^ (-82 : ℤ) ≤ a⁻¹ := by
      rw [← hs]
      calc (2 : ℝ) ^ (-82 : ℤ) ≤ w i1 * (2 : ℝ) ^ (-e i1) := by
            rw [h1, one_mul]
            have := (he i1).2
            exact zpow_le_zpow_right₀ (by norm_num) (by omega)
        _ ≤ _ := Finset.single_le_sum (f := fun i => w i * (2 : ℝ) ^ (-e i)) (fun i _ => mul_nonneg (hw i).1 (by positivity)) (Finset.mem_univ i1)
    have hi : a⁻¹ ≤ (2 : ℝ) ^ (109 : ℤ) := by
      rw [← hs]
      calc _ ≤ ∑ _i : ι, (2 : ℝ) ^ (98 : ℤ) := by
            refine Finset.sum_le_sum fun i _ => ?_
            have := (he i).1
            calc w i * (2 : ℝ) ^ (-e i) ≤ 1 * (2 : ℝ) ^ (98 : ℤ) :=
                  mul_le_mul (hw i).2 (zpow_le_zpow_right₀ (by norm_num) (by omega)) (by positivity) (by norm_num)
              _ = _ := one_mul _
        _ = (Fintype.card ι : ℝ) * (2 : ℝ) ^ (98 : ℤ) := by rw [Finset.sum_const, nsmul_eq_mul, Finset.card_univ]
        _ ≤ (2048 : ℝ) * (2 : ℝ) ^ (98 : ℤ) := by gcongr; exact_mod_cast hι
        _ = _ := by norm_num
    right
    constructor
    · have : (2 : ℝ) ^ (-109 : ℤ) ≤ a := by
        rw [zpow_neg]
        exact inv_le_of_inv_le₀ ha hi
      exact le_trans (by gcongr <;> norm_num) this
    · have : a ≤ (2 : ℝ) ^ (82 : ℤ) := by
        rw [zpow_neg] at lo
        exact (inv_le_inv₀ (by positivity) ha).mp lo
      exact this.trans (by gcongr <;> norm_num)
  obtain ⟨n, n1, n2, n3, n4⟩ := fieldW_eq hm
  have e2 : kField (seen V (kScore z e κ)) e = BitVec.ofNat 32 n := by
    unfold kField
    rw [e1, ofBits_recip448, ← EReal.coe_mul, n4]
  have hb : a * (2 : ℝ) ^ (-expn a) ≤ 448 := by
    have := le_scale hm
    rw [zpow_neg, ← div_eq_mul_inv, div_le_iff₀ (by positivity)]
    exact this
  have e3 : probScale V z e = (((2 : ℝ) ^ expn a : ℝ) : EReal) := by
    unfold probScale
    simp only [hr']
    rw [fold_absf, show amax (fun i => w i * a) = a from ?_, tableScale_eq hm]
    apply le_antisymm
    · unfold amax
      rw [Finset.fold_max_le]
      refine ⟨ha.le, fun i _ => ?_⟩
      rw [abs_of_nonneg (mul_nonneg (hw i).1 ha.le)]
      exact mul_le_of_le_one_left ha.le (hw i).2
    · have := le_amax (fun i => w i * a) i1
      simp only [h1, one_mul] at this
      exact (le_abs_self a).trans this
  unfold kOut refOut
  rw [e1, e2, e3, down_of_field _ n1 n2 n3, up_of_field _ n1 n2 n3]
  congr 1
  refine Finset.sum_congr rfl fun i _ => ?_
  rw [hk', hr', Ideal.div_coe (by positivity), ofBits_448, ofBits_neg448]
  simp only [← EReal.coe_mul, ← EReal.coe_strictMono.monotone.map_max, ← EReal.coe_strictMono.monotone.map_min]
  congr 1
  have p0 : 0 ≤ w i * a * (1 / (2 : ℝ) ^ expn a) := by
    have := (hw i).1
    positivity
  have p1 : w i * a * (1 / (2 : ℝ) ^ expn a) ≤ 448 := by
    rw [one_div, ← zpow_neg, mul_assoc]
    calc _ ≤ 1 * (a * (2 : ℝ) ^ (-expn a)) := mul_le_mul_of_nonneg_right (hw i).2 (by positivity)
      _ ≤ 448 := by rw [one_mul]; exact hb
  rw [min_eq_left hb, max_eq_right (by linarith), min_eq_right p1, one_div, ← zpow_neg]
  ring

end Cert.Attn

end
-- ==== Proof.Blocks.lean ====
/- Sums and maxima over 2048 keys, block by block of 256; and what one block's vector expressions are at an index. -/
module

public import proofs.«01_k».proof.Proof.Prologue
public import proofs.«01_k».proof.Proof.Attn
public import Idealize.ShloMosaic.Lib.MatmulPlain

@[expose] public section

set_option maxRecDepth 16384

noncomputable section

namespace Cert.Attn

open Idealize.ShloMosaic Idealize.SL.Sem

/-! ## Blocks of 256 keys -/

/-- The sum over the first keys, and over the next 256. -/
theorem sum_block (f : Fin 2048 → EReal) (c : Nat) (hc : c < 8) :
    (∑ s : Fin 2048, if s.val < 256 * c then f s else 0) + ∑ i : Fin 256, f ⟨256 * c + i.val, by omega⟩ = ∑ s : Fin 2048, if s.val < 256 * (c + 1) then f s else 0 := by
  have e : ∀ s : Fin 2048, (if s.val < 256 * (c + 1) then f s else 0) = (if s.val < 256 * c then f s else 0) + (if 256 * c ≤ s.val ∧ s.val < 256 * (c + 1) then f s else 0) := by
    intro s
    by_cases h1 : s.val < 256 * c
    · rw [if_pos h1, if_pos (by omega), if_neg (by omega), add_zero]
    · by_cases h2 : s.val < 256 * (c + 1)
      · rw [if_neg h1, if_pos h2, if_pos ⟨by omega, h2⟩, zero_add]
      · rw [if_neg h1, if_neg h2, if_neg (by omega), zero_add]
  simp only [e, Finset.sum_add_distrib]
  congr 1
  rw [← Finset.sum_filter]
  refine Finset.sum_bij (fun i _ => (⟨256 * c + i.val, by omega⟩ : Fin 2048)) ?_ ?_ ?_ ?_
  · intro i _
    simp only [Finset.mem_filter, Finset.mem_univ, true_and]
    omega
  · intro i _ j _ h
    apply Fin.ext
    have := congrArg Fin.val h
    simp only at this
    omega
  · intro s hs
    simp only [Finset.mem_filter, Finset.mem_univ, true_and] at hs
    exact ⟨⟨s.val - 256 * c, by omega⟩, Finset.mem_univ _, Fin.ext (by show 256 * c + (s.val - 256 * c) = s.val; omega)⟩
  · intro i _
    rfl

/-- A sum over the first keys. -/
theorem sum_take (f : Fin 2048 → EReal) (n : Nat) (hn : n ≤ 2048) :
    ∑ k : Fin n, f ⟨k.val, by omega⟩ = ∑ s : Fin 2048, if s.val < n then f s else 0 := by
  rw [← Finset.sum_filter]
  refine Finset.sum_bij (fun i _ => (⟨i.val, by omega⟩ : Fin 2048)) ?_ ?_ ?_ ?_
  · intro i _
    simp
  · intro i _ j _ h
    apply Fin.ext
    have := congrArg Fin.val h
    simpa using this
  · intro s hs
    simp only [Finset.mem_filter, Finset.mem_univ, true_and] at hs
    exact ⟨⟨s.val, hs⟩, Finset.mem_univ _, rfl⟩
  · intro i _
    rfl

/-- The scores of the first `n` keys. -/
def upto (n : Nat) (f : Fin 2048 → EReal) (s : Fin 2048) : EReal := if s.val < n then f s else ⊥

theorem top_block (f : Fin 2048 → EReal) (c : Nat) (hc : c < 8) :
    max (top (upto (256 * c) f)) (Finset.fold max ⊥ (fun i : Fin 256 => f ⟨256 * c + i.val, by omega⟩) Finset.univ) = top (upto (256 * (c + 1)) f) := by
  unfold top
  apply le_antisymm
  · apply max_le
    · rw [Finset.fold_max_le]
      refine ⟨bot_le, fun s _ => ?_⟩
      unfold upto
      split
      · rw [Finset.le_fold_max]
        exact .inr ⟨s, Finset.mem_univ _, by rw [if_pos (by omega)]⟩
      · exact bot_le
    · rw [Finset.fold_max_le]
      refine ⟨bot_le, fun i _ => ?_⟩
      rw [Finset.le_fold_max]
      exact .inr ⟨⟨256 * c + i.val, by omega⟩, Finset.mem_univ _, by unfold upto; rw [if_pos (by show 256 * c + i.val < _; omega)]⟩
  · rw [Finset.fold_max_le]
    refine ⟨bot_le, fun s _ => ?_⟩
    by_cases h1 : s.val < 256 * c
    · apply le_max_of_le_left
      rw [Finset.le_fold_max]
      exact .inr ⟨s, Finset.mem_univ _, by unfold upto; rw [if_pos (by omega), if_pos h1]⟩
    · by_cases h2 : s.val < 256 * (c + 1)
      · apply le_max_of_le_right
        rw [Finset.le_fold_max]
        refine .inr ⟨⟨s.val - 256 * c, by omega⟩, Finset.mem_univ _, ?_⟩
        unfold upto
        rw [if_pos h2]
        exact le_of_eq (congrArg f (Fin.ext (by show s.val = 256 * c + (s.val - 256 * c); omega)))
      · unfold upto
        rw [if_neg h2]
        exact bot_le

theorem top_zero (f : Fin 2048 → EReal) : top (upto (256 * 0) f) = ⊥ := by
  unfold top
  apply le_antisymm _ bot_le
  rw [Finset.fold_max_le]
  exact ⟨le_rfl, fun s _ => by unfold upto; rw [if_neg (by omega)]⟩

/-! ## What the blocks compute -/

theorem colMax_at (u : FVec Ideal (V2 256 256) .f32) (j : Fin 256) : (colMax u (ix2 0 j) : EReal) = Finset.fold max ⊥ (fun i : Fin 256 => (u (ix2 i j) : EReal)) Finset.univ := by
  rw [← ofBits_bot]
  pointwise [colMax]

theorem colSum_at (u : FVec Ideal (V2 256 256) .f32) (j : Fin 256) : (colSum u (ix2 0 j) : EReal) = ∑ i : Fin 256, (u (ix2 i j) : EReal) := by
  pointwise [colSum]

theorem scoreOf_at (q : FVec Ideal (V2 64 256) .fp8e4m3) (r : FVec Ideal (V2 1 256) .f32) (sl : FVec Ideal (V2 8 128) .f32) (qb : BitVec 32)
    (km : Vec Ideal (V3 1 256 64) .fp8e4m3) (cs bk ev : Vec Ideal (V3 1 256 128) .f32) (i j : Fin 256)
    (qr kr : Fin 64 → ℝ) (rr sr T cr br er : ℝ)
    (hq : ∀ d, (q (ix2 d j) : EReal) = ((qr d : ℝ) : EReal)) (hr : (r (ix2 0 j) : EReal) = ((rr : ℝ) : EReal)) (hs : ∀ l, (sl (ix2 0 l) : EReal) = ((sr : ℝ) : EReal))
    (hT : Ideal.ofBits .f32 qb = ((T : ℝ) : EReal)) (hk : ∀ d, (km (ix3 0 i d) : EReal) = ((kr d : ℝ) : EReal)) (hc : ∀ l, (cs (ix3 0 i l) : EReal) = ((cr : ℝ) : EReal))
    (hb : ∀ l, (bk (ix3 0 i l) : EReal) = ((br : ℝ) : EReal)) (he : ∀ l, (ev (ix3 0 i l) : EReal) = ((er : ℝ) : EReal)) :
    (scoreOf q r sl qb km cs bk ev (ix2 i j) : EReal) = (((∑ d, kr d * qr d) * rr * cr + ((br - T) * sr + er) : ℝ) : EReal) := by
  have e1 : (∑ x, km (ix3 0 i x) * q (ix2 x j) : EReal) = ((∑ d, kr d * qr d : ℝ) : EReal) := by
    rw [coe_sum]
    exact Finset.sum_congr rfl fun d _ => by rw [hk, hq, ← EReal.coe_mul]
  pointwise [scoreOf, rows256, twice]
  rw [e1, hr, hT]
  by_cases hj : j.val < 128
  · rw [dif_pos hj, dif_pos hj, hc, hb, hs, he]
    rfl
  · rw [dif_neg hj, dif_neg hj, hc, hb, hs, he]
    rfl

theorem probField_at (a : FVec Ideal (V2 1 256) .f32) (i : Fin 8) (j : Fin 256) : probField a (ix2 i j) = fieldW (a (ix2 0 j) * Ideal.ofBits .f32 0x3B124925#32) := by
  unfold fieldW
  pointwise [probField, field]

theorem codeFactor_at (a : FVec Ideal (V2 1 256) .f32) (j : Fin 256) : (codeFactor a (ix2 0 j) : EReal) =
    min (a (ix2 0 j) * Ideal.ofBits .f32 (IntOp.shli .vector (IntOp.subi 253#32 (fieldW (a (ix2 0 j) * Ideal.ofBits .f32 0x3B124925#32))) 23#32)) (Ideal.ofBits .f32 1138753536#32) := by
  rw [← probField_at a 0 j]
  pointwise [codeFactor, down]

theorem dotVP_at (n : Nat) (h) (x : FVec Ideal (V2 64 n) .fp8e4m3) (y : FVec Ideal (V2 n 256) .fp8e4m3) (acc : FVec Ideal (V2 64 256) .f32) (d : Fin 64) (j : Fin 256) :
    (FloatOps.matmul (dotVP n h) none x y acc (ix2 d j) : EReal) = acc (ix2 d j) + ∑ k : Fin n, x (ix2 d k) * y (ix2 k j) :=
  Ideal.matmul_plain_apply none x y acc d j

theorem cast_n (n : Nat) (x : Vec Ideal (V4 1 1 64 n) .fp8e4m3) (h) (d : Fin 64) (k : Fin n) : (shapeCast (V2 64 n) x h (ix2 d k) : EReal) = x (ix4 0 0 d k) :=
  congrArg x (Shape.reshapeEquiv_eq_of_rowMajor h (by
    rw [Shape.rowMajor_val_four, Shape.rowMajor_val_two]
    show ((0 * 1 + 0) * 64 + d.val) * n + k.val = d.val * n + k.val
    simp only [Nat.zero_mul, Nat.zero_add]))

theorem bcast_n (n : Nat) (x : FVec Ideal (V2 1 256) .f32) (h) (k : Fin n) (j : Fin 256) : (broadcastTo (V2 n 256) x h (ix2 k j) : EReal) = x (ix2 0 j) := by
  pointwise

theorem tileOut_at (t : Nat) (ht : t < 8) (a : FVec Ideal (V2 1 256) .f32) (w : Vec Ideal (V2 (256 * (t + 1)) 256) .f32)
    (vc : Vec Ideal (V4 1 1 64 (256 * (t + 1))) .fp8e4m3) (d : Fin 64) (j : Fin 256) :
    (tileOut t ht a w vc (ix2 d j) : EReal) = (∑ k : Fin (256 * (t + 1)), (vc (ix4 0 0 d k) : EReal) * ((w (ix2 k j) : EReal) * codeFactor a (ix2 0 j)))
      * Ideal.ofBits .f32 (IntOp.shli .vector (IntOp.addi (fieldW (a (ix2 0 j) * Ideal.ofBits .f32 0x3B124925#32)) 1#32) 23#32) := by
  rw [← probField_at a 0 j]
  pointwise [tileOut, up]
  refine (congrArg (· * _) (dotVP_at _ (dotVP_wf ⟨t, ht⟩) _ _ _ d j)).trans ?_
  refine congrArg (· * _) ((congrArg₂ (· + ·) Ideal.ofBits_zero_f32 (Finset.sum_congr rfl fun k _ => ?_)).trans (zero_add _))
  refine congrArg₂ (· * ·) ?_ ?_
  · exact cast_n _ vc _ d k
  · exact congrArg (w (ix2 k j) * ·) (bcast_n _ (codeFactor a) _ k j)

end Cert.Attn

end
-- ==== Proof.Tile.lean ====
/- One head's tile of 256 queries, run: the scores kept block by block, the weights, the output stored. -/
module

public import proofs.«01_k».proof.Proof.Blocks

@[expose] public section

set_option maxRecDepth 16384

noncomputable section

namespace Cert.Attn

open Idealize.ShloMosaic Idealize.SL.Sem

/-- A state that differs only in what the heads write is as ready. -/
theorem Ready.congr {σ σ' : St Ideal} {D : Data} (R : Ready σ D) (h : ∀ b, ¬ IsWork b → σ' b = σ b) : Ready σ' D := by
  have hn (b : B) (hb : b ≠ .u ∧ b ≠ .w ∧ b ≠ .ot) : σ' b = σ b := h b (by rintro (h | h | h) <;> simp_all)
  constructor
  · rw [hn .qc (by decide)]; exact R.qc
  · rw [hn .qs (by decide)]; exact R.qs
  · rw [hn .kc (by decide)]; exact R.kc
  · rw [hn .ks (by decide)]; exact R.ks
  · rw [hn .vc (by decide)]; exact R.vc
  · rw [hn .vs (by decide)]; exact R.vs
  · rw [hn .km (by decide)]; exact R.km
  · rw [hn .cs (by decide)]; exact R.cs
  · rw [hn .bk (by decide)]; exact R.bk
  · rw [hn .ev (by decide)]; exact R.ev
  · rw [hn .iv (by decide)]; exact R.iv
  · rw [hn .mk (by decide)]; exact R.mask

theorem Ready.run {σ : St Ideal} {D : Data} (R : Ready σ D) {α : Type} {S : B → Prop} {c : Cmd Ideal α} (hc : c.Only S) (hS : ∀ b, S b → IsWork b) :
    Ready (run c σ).2 D := R.congr fun _ hb => run_only hc σ fun h => hb (hS _ h)

/-! ## Scores kept, weights -/

theorem keepCmd_run (c : Nat) (hc : c < 8) (mu : FVec Ideal (V2 1 256) .f32) (u : FVec Ideal (V2 256 256) .f32) (σ : St Ideal) :
    run (keepCmd c hc mu u) σ = (maximumf mu (colMax u), put σ .u (Rect.unit (s := B.shape .u) ![256 * c, 0] ![256, 256] (by intro a; fin_cases a <;> simp <;> omega))
      (shapeCast (V2 256 256) u (by decide))) := rfl

theorem band_u (c : Nat) (hc : c < 8) (f0 : (V2 2048 256).Idx → EReal) (u : (V2 256 256).Idx → EReal) (inb) (f : Fin 256 → Fin 2048 → EReal)
    (hu : ∀ i j, u (ix2 i j) = f j ⟨256 * c + i.val, by omega⟩) (h0 : ∀ i j, i.val < 256 * c → f0 (ix2 i j) = f j i) (i : Fin 2048) (j : Fin 256) (hi : i.val < 256 * (c + 1)) :
    (Rect.unit (s := V2 2048 256) ![256 * c, 0] ![256, 256] inb).overlay f0 u (ix2 i j) = f j i := by
  rw [band2]
  split
  · rename_i e
    rw [hu]
    exact congrArg (f j) (Fin.ext (by show 256 * c + (i.val - 256 * c) = i.val; omega))
  · exact h0 i j (by omega)

theorem same_cast (u : FVec Ideal (V2 256 256) .f32) (h) (i j : Fin 256) : (shapeCast (V2 256 256) u h (ix2 i j) : EReal) = u (ix2 i j) := by
  pointwise

theorem keep_at (σ : St Ideal) (f : Fin 256 → Fin 2048 → EReal) (c : Nat) (hc : c < 8) (mu : FVec Ideal (V2 1 256) .f32) (u : FVec Ideal (V2 256 256) .f32)
    (hmu : ∀ j, (mu (ix2 0 j) : EReal) = top (upto (256 * c) (f j))) (hu : ∀ i j, (u (ix2 i j) : EReal) = f j ⟨256 * c + i.val, by omega⟩)
    (hσ : ∀ (i : Fin 2048) j, i.val < 256 * c → (σ .u (ix2 i j) : EReal) = f j i) :
    (∀ j, ((run (keepCmd c hc mu u) σ).1 (ix2 0 j) : EReal) = top (upto (256 * (c + 1)) (f j)))
      ∧ ∀ (i : Fin 2048) j, i.val < 256 * (c + 1) → ((run (keepCmd c hc mu u) σ).2 .u (ix2 i j) : EReal) = f j i := by
  rw [keepCmd_run]
  constructor
  · intro j
    show max (mu (ix2 0 j) : EReal) (colMax u (ix2 0 j)) = _
    rw [hmu, colMax_at, ← top_block _ c hc]
    simp only [hu]
  · intro i j hi
    show (put σ .u _ _ .u (ix2 i j) : EReal) = _
    rw [put_same]
    exact band_u c hc (σ .u) _ _ f (fun i j => (same_cast _ _ i j).trans (hu i j)) hσ i j hi

/-- A block's weights. -/
def wts (u : FVec Ideal (V2 256 256) .f32) (mu : FVec Ideal (V2 1 256) .f32) : FVec Ideal (V2 256 256) .f32 := exp2 (subf u (rows256 mu))

theorem wts_at (u : FVec Ideal (V2 256 256) .f32) (mu : FVec Ideal (V2 1 256) .f32) (i j : Fin 256) : (wts u mu (ix2 i j) : EReal) = Ideal.exp2 (u (ix2 i j) - mu (ix2 0 j)) := by
  pointwise [wts, rows256]
  rfl

/-- The sum so far and a block's. -/
def sums (l : FVec Ideal (V2 1 256) .f32) (w : FVec Ideal (V2 256 256) .f32) (iv : Vec Ideal (V3 1 256 128) .f32) : FVec Ideal (V2 1 256) .f32 :=
  addf l (colSum (mulf w (twice (shapeCast (V2 256 128) iv (by decide)))))

theorem sums_at (l : FVec Ideal (V2 1 256) .f32) (w : FVec Ideal (V2 256 256) .f32) (iv : Vec Ideal (V3 1 256 128) .f32) (r : Fin 256 → EReal)
    (hr : ∀ i l, (iv (ix3 0 i l) : EReal) = r i) (j : Fin 256) : (sums l w iv (ix2 0 j) : EReal) = l (ix2 0 j) + ∑ i, w (ix2 i j) * r i := by
  show (l (ix2 0 j) : EReal) + colSum _ (ix2 0 j) = _
  rw [colSum_at]
  congr 1
  refine Finset.sum_congr rfl fun i _ => ?_
  pointwise [twice]
  by_cases hj : j.val < 128
  · rw [dif_pos hj, hr]
  · rw [dif_neg hj, hr]

theorem weightCmd_run (g : Nat) (hg : g < 2) (c : Nat) (hc : c < 8) (mu l : FVec Ideal (V2 1 256) .f32) (σ : St Ideal) :
    run (weightCmd g hg c hc mu l) σ = (sums l (wts (boxAt σ .u ![256 * c, 0] ![256, 256] (by intro a; fin_cases a <;> simp <;> omega)) mu)
        (boxAt σ .iv ![g, 256 * c, 0] ![1, 256, 128] (by intro a; fin_cases a <;> simp <;> omega)),
      put σ .w (Rect.unit (s := B.shape .w) ![256 * c, 0] ![256, 256] (by intro a; fin_cases a <;> simp <;> omega))
        (shapeCast (V2 256 256) (wts (boxAt σ .u ![256 * c, 0] ![256, 256] (by intro a; fin_cases a <;> simp <;> omega)) mu) (by decide))) := rfl

theorem weightLoop_at (σ : St Ideal) (f : Fin 256 → Fin 2048 → EReal) (e : Fin 2048 → ℤ) (g : Fin 2) (t : Nat) (ht : t < 8) (mu : FVec Ideal (V2 1 256) .f32)
    (hmu : ∀ j, (mu (ix2 0 j) : EReal) = top (f j)) (hu : ∀ (i : Fin 2048) j, i.val < 256 * (t + 1) → (σ .u (ix2 i j) : EReal) = f j i)
    (hiv : ∀ (s : Fin 2048) (l : Fin 128), (σ .iv (ix3 g s l) : EReal) = (((2 : ℝ) ^ (-e s) : ℝ) : EReal)) (n : Nat) (hn : n ≤ t + 1) :
    (∀ j, ((run (weightLoop g.val g.isLt mu n (by omega)) σ).1 (ix2 0 j) : EReal)
        = ∑ s : Fin 2048, if s.val < 256 * n then kWeight (f j) s * (((2 : ℝ) ^ (-e s) : ℝ) : EReal) else 0)
      ∧ ∀ (i : Fin 2048) j, i.val < 256 * n → ((run (weightLoop g.val g.isLt mu n (by omega)) σ).2 .w (ix2 i j) : EReal) = kWeight (f j) i := by
  induction n with
  | zero =>
    constructor
    · intro j
      refine Eq.trans (b := (0 : EReal)) ?_ (Finset.sum_eq_zero fun s _ => by rw [if_neg (by omega)]).symm
      exact Ideal.ofBits_zero_f32
    · intro i j hi
      omega
  | succ n ih =>
    obtain ⟨ih1, ih2⟩ := ih (by omega)
    have hg := g.isLt
    rw [weightLoop, run_bind, weightCmd_run]
    have eu : (run (weightLoop g.val g.isLt mu n (by omega)) σ).2 .u = σ .u := run_only (weightLoop_only _ _ _ _ _) σ (by decide)
    have ei : (run (weightLoop g.val g.isLt mu n (by omega)) σ).2 .iv = σ .iv := run_only (weightLoop_only _ _ _ _ _) σ (by decide)
    generalize run (weightLoop g.val g.isLt mu n (by omega)) σ = A at ih1 ih2 eu ei ⊢
    have hw (i j : Fin 256) : (wts (boxAt A.2 .u ![256 * n, 0] ![256, 256] (by intro a; fin_cases a <;> simp <;> omega)) mu (ix2 i j) : EReal)
        = kWeight (f j) ⟨256 * n + i.val, by omega⟩ := by
      rw [wts_at, hmu]
      unfold kWeight
      rw [← hu _ _ (by show 256 * n + i.val < _; omega), ← eu]
      congr 2
      exact boxAt_eq A.2 .u ![256 * n, 0] ![256, 256] _ (ix2 i j) _ (by
        intro a
        fin_cases a
        · rfl
        · exact (Nat.zero_add _).symm)
    constructor
    · intro j
      refine (sums_at _ _ _ (fun i => (((2 : ℝ) ^ (-e ⟨256 * n + i.val, by omega⟩) : ℝ) : EReal)) ?_ j).trans ?_
      · intro i l
        rw [← hiv _ l, ← ei]
        exact boxAt_eq A.2 .iv ![g.val, 256 * n, 0] ![1, 256, 128] _ (ix3 0 i l) _ (by
          intro a
          fin_cases a
          · rfl
          · rfl
          · exact (Nat.zero_add _).symm)
      · rw [ih1, ← sum_block (fun s => kWeight (f j) s * (((2 : ℝ) ^ (-e s) : ℝ) : EReal)) n (by omega)]
        simp only [hw]
    · intro i j hi
      show (put A.2 .w _ _ .w (ix2 i j) : EReal) = _
      rw [put_same]
      exact band_u n (by omega) (A.2 .w) _ _ (fun j s => kWeight (f j) s) (fun i j => (same_cast _ _ i j).trans (hw i j)) ih2 i j hi

end Cert.Attn

end
-- ==== Proof.TileRun.lean ====
/- One tile's result: what the kernel stores for 256 queries of a head is the attention's output for them. -/
module

public import proofs.«01_k».proof.Proof.Tile

@[expose] public section

set_option maxRecDepth 16384

noncomputable section

namespace Cert.Attn

open Idealize.ShloMosaic Idealize.SL.Sem

/-- A query's scores: of the codes, at the scales, less the slope times the distance. -/
def zAt (D : Data) (h : Fin 8) (g : Fin 2) (m : ℝ) (q s : Fin 2048) : ℝ :=
  (∑ d, code (D.q h q) d * code (D.k g s) d) * ((2 : ℝ) ^ expq (D.q h q) * 8⁻¹) * (2 : ℝ) ^ expq (D.k g s) - m * ((q.val : ℝ) - (s.val : ℝ))

/-- A query's output, at a coordinate. -/
def outAt (D : Data) (h : Fin 8) (g : Fin 2) (m : ℝ) (q : Fin 2048) (d : Fin 64) : EReal :=
  refOut (fun s : Fin 2048 => s.val ≤ q.val) (zAt D h g m q) (fun s => expq (D.v g s)) (fun s => code (D.v g s) d)

/-- Query `j` of tile `t`. -/
def qAt (t : Fin 8) (j : Fin 256) : Fin 2048 := ⟨256 * t.val + j.val, by omega⟩

/-- The kernel's scores of a query. -/
def uAt (D : Data) (h : Fin 8) (g : Fin 2) (m T : ℝ) (q : Fin 2048) : Fin 2048 → EReal :=
  seen (fun s : Fin 2048 => s.val ≤ q.val) (kScore (zAt D h g m q) (fun s => expq (D.v g s)) ((Real.log 2)⁻¹ * m * ((q.val : ℝ) - T)))

/-- What a tile has in hand: its queries' codes and scales, the slope, the position past its last query. -/
structure Reads (D : Data) (h : Fin 8) (t : Fin 8) (m T : ℝ) (q : FVec Ideal (V2 64 256) .fp8e4m3) (r : FVec Ideal (V2 1 256) .f32)
    (sl : FVec Ideal (V2 8 128) .f32) (qb : BitVec 32) : Prop where
  q : ∀ d j, (q (ix2 d j) : EReal) = ((code (D.q h (qAt t j)) d : ℝ) : EReal)
  r : ∀ j, (r (ix2 0 j) : EReal) = (((2 : ℝ) ^ expq (D.q h (qAt t j)) * ((Real.log 2)⁻¹ * 8⁻¹) : ℝ) : EReal)
  sl : ∀ l, (sl (ix2 0 l) : EReal) = ((m * (Real.log 2)⁻¹ : ℝ) : EReal)
  T : Ideal.ofBits .f32 qb = ((T : ℝ) : EReal)

section
variable {σ : St Ideal} {D : Data} {h : Fin 8} {g : Fin 2} {t : Fin 8} {m T : ℝ} {q : FVec Ideal (V2 64 256) .fp8e4m3} {r : FVec Ideal (V2 1 256) .f32}
  {sl : FVec Ideal (V2 8 128) .f32} {qb : BitVec 32}

theorem scoreCmd_run (g : Nat) (hg : g < 2) (c : Nat) (hc : c < 8) (q : FVec Ideal (V2 64 256) .fp8e4m3) (r : FVec Ideal (V2 1 256) .f32)
    (sl : FVec Ideal (V2 8 128) .f32) (qb : BitVec 32) (σ : St Ideal) : run (scoreCmd g hg c hc q r sl qb) σ
      = (scoreOf q r sl qb (boxAt σ .km ![g, 256 * c, 0] ![1, 256, 64] (by intro a; fin_cases a <;> simp <;> omega))
          (boxAt σ .cs ![g, 256 * c, 0] ![1, 256, 128] (by intro a; fin_cases a <;> simp <;> omega)) (boxAt σ .bk ![g, 256 * c, 0] ![1, 256, 128] (by intro a; fin_cases a <;> simp <;> omega))
          (boxAt σ .ev ![g, 256 * c, 0] ![1, 256, 128] (by intro a; fin_cases a <;> simp <;> omega)), σ) := rfl

theorem scoreCmd_at (R : Ready σ D) (I : Reads D h t m T q r sl qb) (c : Nat) (hc : c < 8) (i j : Fin 256) :
    ((run (scoreCmd g.val g.isLt c hc q r sl qb) σ).1 (ix2 i j) : EReal)
      = ((kScore (zAt D h g m (qAt t j)) (fun s => expq (D.v g s)) ((Real.log 2)⁻¹ * m * (((qAt t j).val : ℝ) - T)) ⟨256 * c + i.val, by omega⟩ : ℝ) : EReal) := by
  rw [scoreCmd_run]
  refine (scoreOf_at q r sl qb _ _ _ _ i j (code (D.q h (qAt t j))) (code (D.k g ⟨256 * c + i.val, by omega⟩)) _ _ T _ _ _ (fun d => I.q d j) (I.r j) I.sl I.T
    (fun d => (boxAt_eq σ .km ![g.val, 256 * c, 0] ![1, 256, 64] _ (ix3 0 i d) (ix3 g ⟨256 * c + i.val, by omega⟩ d) ?_).trans (R.km g _ d))
    (fun l => (boxAt_eq σ .cs ![g.val, 256 * c, 0] ![1, 256, 128] _ (ix3 0 i l) (ix3 g ⟨256 * c + i.val, by omega⟩ l) ?_).trans (R.cs g _ l))
    (fun l => (boxAt_eq σ .bk ![g.val, 256 * c, 0] ![1, 256, 128] _ (ix3 0 i l) (ix3 g ⟨256 * c + i.val, by omega⟩ l) ?_).trans (R.bk g _ l))
    (fun l => (boxAt_eq σ .ev ![g.val, 256 * c, 0] ![1, 256, 128] _ (ix3 0 i l) (ix3 g ⟨256 * c + i.val, by omega⟩ l) ?_).trans (R.ev g _ l))).trans (congrArg _ ?_)
  iterate 4
    · intro a
      fin_cases a
      · rfl
      · rfl
      · exact (Nat.zero_add _).symm
  · unfold kScore zAt
    rw [Finset.sum_congr rfl fun d _ => mul_comm (code (D.k g ⟨256 * c + i.val, by omega⟩) d) (code (D.q h (qAt t j)) d)]
    ring

theorem scoreLoop_at (R : Ready σ D) (I : Reads D h t m T q r sl qb) (n : Nat) (hn : n ≤ t.val) :
    (∀ j, ((run (scoreLoop g.val g.isLt q r sl qb n (by omega)) σ).1 (ix2 0 j) : EReal) = top (upto (256 * n) (uAt D h g m T (qAt t j))))
      ∧ ∀ (i : Fin 2048) j, i.val < 256 * n → ((run (scoreLoop g.val g.isLt q r sl qb n (by omega)) σ).2 .u (ix2 i j) : EReal) = uAt D h g m T (qAt t j) i := by
  induction n with
  | zero =>
    constructor
    · intro j
      rw [top_zero]
      exact ofBits_bot
    · intro i j hi
      omega
  | succ n ih =>
    obtain ⟨ih1, ih2⟩ := ih (by omega)
    have RA := R.run (scoreLoop_only g.val g.isLt q r sl qb n (by omega)) fun b hb => .inl hb
    rw [scoreLoop, run_bind, run_bind]
    generalize run (scoreLoop g.val g.isLt q r sl qb n (by omega)) σ = A at ih1 ih2 RA ⊢
    have hu (i j : Fin 256) : ((run (scoreCmd g.val g.isLt n (by omega) q r sl qb) A.2).1 (ix2 i j) : EReal) = uAt D h g m T (qAt t j) ⟨256 * n + i.val, by omega⟩ := by
      rw [scoreCmd_at RA I]
      unfold uAt seen
      rw [if_pos]
      show 256 * n + i.val ≤ 256 * t.val + j.val
      omega
    exact keep_at A.2 (fun j => uAt D h g m T (qAt t j)) n (by omega) A.1 _ ih1 hu ih2

theorem seen_upto (D : Data) (h : Fin 8) (g : Fin 2) (m T : ℝ) (t : Fin 8) (j : Fin 256) :
    upto (256 * (t.val + 1)) (uAt D h g m T (qAt t j)) = uAt D h g m T (qAt t j) := by
  funext s
  unfold upto
  split
  · rfl
  · unfold uAt seen
    rw [if_neg]
    show ¬ s.val ≤ 256 * t.val + j.val
    omega

theorem weight_late (D : Data) (h : Fin 8) (g : Fin 2) (m T : ℝ) (t : Fin 8) (j : Fin 256) (s : Fin 2048) (hs : ¬ s.val < 256 * (t.val + 1)) :
    kWeight (uAt D h g m T (qAt t j)) s = 0 := by
  have e : uAt D h g m T (qAt t j) s = ⊥ := by
    unfold uAt seen
    rw [if_neg]
    show ¬ s.val ≤ 256 * t.val + j.val
    omega
  unfold kWeight
  rw [e, EReal.bot_sub]
  exact Ideal.exp2_bot

end

/-- A tile's queries. -/
def tileQ (σ : St Ideal) (h t : Fin 8) : FVec Ideal (V2 64 256) .fp8e4m3 :=
  shapeCast (V2 64 256) (boxAt σ .qc ![0, h.val, 0, 256 * t.val] ![1, 1, 64, 256] (by intro a; fin_cases a <;> simp <;> omega)) (by decide)

/-- Their scales. -/
def tileR (σ : St Ideal) (cR : Ideal .f32) (h t : Fin 8) : FVec Ideal (V2 1 256) .f32 :=
  mulf (shapeCast (V2 1 256) (boxAt σ .qs ![0, h.val, 256 * t.val] ![1, 1, 256] (by intro a; fin_cases a <;> simp <;> omega)) (by decide)) (broadcast (V2 1 256) cR)

theorem castQ_at (x : Vec Ideal (V4 1 1 64 256) .fp8e4m3) (d : Fin 64) (j : Fin 256) (h) : (shapeCast (V2 64 256) x h (ix2 d j) : EReal) = x (ix4 0 0 d j) := by
  pointwise

theorem castR_at (x : Vec Ideal (V3 1 1 256) .f32) (c : Ideal .f32) (j : Fin 256) (h) : (mulf (shapeCast (V2 1 256) x h) (broadcast (V2 1 256) c) (ix2 0 j) : EReal) = x (ix3 0 0 j) * c := by
  pointwise

theorem tile_reads {σ : St Ideal} {D : Data} (R : Ready σ D) (h t : Fin 8) {m T : ℝ} {sl : FVec Ideal (V2 8 128) .f32} {qb : BitVec 32} {cR : Ideal .f32}
    (hc : (cR : EReal) = (((Real.log 2)⁻¹ * 8⁻¹ : ℝ) : EReal)) (hs : ∀ l, (sl (ix2 0 l) : EReal) = ((m * (Real.log 2)⁻¹ : ℝ) : EReal))
    (hT : Ideal.ofBits .f32 qb = ((T : ℝ) : EReal)) : Reads D h t m T (tileQ σ h t) (tileR σ cR h t) sl qb := by
  refine ⟨fun d j => ?_, fun j => ?_, hs, hT⟩
  · refine (castQ_at _ d j _).trans ((boxAt_eq σ .qc ![0, h.val, 0, 256 * t.val] ![1, 1, 64, 256] _ (ix4 0 0 d j) (ix4 0 h d (qAt t j)) ?_).trans (R.qc h d _))
    intro a
    fin_cases a
    · rfl
    · rfl
    · exact (Nat.zero_add _).symm
    · rfl
  · refine (castR_at _ cR j _).trans ?_
    rw [hc, EReal.coe_mul]
    refine congrArg (· * _) ((boxAt_eq σ .qs ![0, h.val, 256 * t.val] ![1, 1, 256] _ (ix3 0 0 j) (ix3 0 h (qAt t j)) ?_).trans (R.qs h _))
    intro a
    fin_cases a
    · rfl
    · rfl
    · rfl

section
variable (σ : St Ideal) (cR : Ideal .f32) (sl : FVec Ideal (V2 8 128) .f32) (h : Fin 8) (g : Fin 2) (t : Fin 8) (qb : BitVec 32)

/-- After a tile's unmasked blocks. -/
def tileA : FVec Ideal (V2 1 256) .f32 × St Ideal := run (scoreLoop g.val g.isLt (tileQ σ h t) (tileR σ cR h t) sl qb t.val (by omega)) σ

/-- The diagonal block's scores. -/
def tileU : FVec Ideal (V2 256 256) .f32 :=
  addf (run (scoreCmd g.val g.isLt t.val t.isLt (tileQ σ h t) (tileR σ cR h t) sl qb) (tileA σ cR sl h g t qb).2).1
    (boxAt (tileA σ cR sl h g t qb).2 .mk ![0, 0] ![256, 256] (by decide))

/-- After the diagonal block. -/
def tileB : FVec Ideal (V2 1 256) .f32 × St Ideal := run (keepCmd t.val t.isLt (tileA σ cR sl h g t qb).1 (tileU σ cR sl h g t qb)) (tileA σ cR sl h g t qb).2

/-- After the weights. -/
def tileC : FVec Ideal (V2 1 256) .f32 × St Ideal := run (weightLoop g.val g.isLt (tileB σ cR sl h g t qb).1 (t.val + 1) (by omega)) (tileB σ cR sl h g t qb).2

theorem tileCmd_run : (run (tileCmd cR sl h.val h.isLt g.val g.isLt t.val t.isLt qb) σ).2
    = put (tileC σ cR sl h g t qb).2 .ot (Rect.unit (s := B.shape .ot) ![h.val, 0, 256 * t.val] ![1, 64, 256] (by intro a; fin_cases a <;> simp <;> omega))
      (shapeCast (V3 1 64 256) (tileOut t.val t.isLt (recip (tileC σ cR sl h g t qb).1)
        (boxAt (tileC σ cR sl h g t qb).2 .w ![0, 0] ![256 * (t.val + 1), 256] (by intro a; fin_cases a <;> simp <;> omega))
        (boxAt (tileC σ cR sl h g t qb).2 .vc ![0, g.val, 0, 0] ![1, 1, 64, 256 * (t.val + 1)] (by intro a; fin_cases a <;> simp <;> omega))) (by decide)) := by
  unfold tileCmd
  rw [run_bind, run_bind, run_bind, run_bind, run_bind, run_bind, run_bind, run_bind, run_bind]
  rfl

end

theorem castO_at (x : FVec Ideal (V2 64 256) .f32) (d : Fin 64) (j : Fin 256) (h) : (shapeCast (V3 1 64 256) x h (ix3 0 d j) : EReal) = x (ix2 d j) := by
  pointwise

theorem recip_at (l : FVec Ideal (V2 1 256) .f32) (j : Fin 256) : (recip l (ix2 0 j) : EReal) = Ideal.div 1 (l (ix2 0 j)) := by
  rw [← Ideal.ofBits_one_f32]
  rfl

/-- What a tile stores. -/
theorem tile_at {σ : St Ideal} {D : Data} (R : Ready σ D) (O : D.Ok) (h : Fin 8) (g : Fin 2) (t : Fin 8) {m T : ℝ} {sl : FVec Ideal (V2 8 128) .f32} {qb : BitVec 32} {cR : Ideal .f32}
    (hc : (cR : EReal) = (((Real.log 2)⁻¹ * 8⁻¹ : ℝ) : EReal)) (hs : ∀ l, (sl (ix2 0 l) : EReal) = ((m * (Real.log 2)⁻¹ : ℝ) : EReal))
    (hT : Ideal.ofBits .f32 qb = ((T : ℝ) : EReal)) (h' : Fin 8) (d : Fin 64) (s : Fin 2048) :
    ((run (tileCmd cR sl h.val h.isLt g.val g.isLt t.val t.isLt qb) σ).2 .ot (ix3 h' d s) : EReal)
      = if h' = h ∧ 256 * t.val ≤ s.val ∧ s.val < 256 * t.val + 256 then outAt D h g m s d else σ .ot (ix3 h' d s) := by
  have I := tile_reads R h t (m := m) (T := T) (sl := sl) (qb := qb) hc hs hT
  obtain ⟨a1, a2⟩ := scoreLoop_at (g := g) R I t.val le_rfl
  have RA := R.run (scoreLoop_only g.val g.isLt (tileQ σ h t) (tileR σ cR h t) sl qb t.val (by omega)) fun b hb => .inl hb
  have oA : (tileA σ cR sl h g t qb).2 .ot = σ .ot := run_only (scoreLoop_only g.val g.isLt (tileQ σ h t) (tileR σ cR h t) sl qb t.val (by omega)) σ (by decide)
  have hu (i j : Fin 256) : (tileU σ cR sl h g t qb (ix2 i j) : EReal) = uAt D h g m T (qAt t j) ⟨256 * t.val + i.val, by omega⟩ := by
    have e2 : (boxAt (tileA σ cR sl h g t qb).2 .mk ![0, 0] ![256, 256] (by decide) (ix2 i j) : EReal) = if i ≤ j then 0 else ⊥ :=
      (boxAt_eq (tileA σ cR sl h g t qb).2 .mk ![0, 0] ![256, 256] _ (ix2 i j) (ix2 i j) (by
        intro a
        fin_cases a
        · exact (Nat.zero_add _).symm
        · exact (Nat.zero_add _).symm)).trans (RA.mask i j)
    refine (congrArg₂ (fun a b : EReal => a + b) (scoreCmd_at RA I t.val t.isLt i j) e2).trans ?_
    unfold uAt seen
    by_cases hij : i ≤ j
    · rw [if_pos hij, if_pos]
      · exact add_zero _
      · show 256 * t.val + i.val ≤ 256 * t.val + j.val
        have : i.val ≤ j.val := hij
        omega
    · rw [if_neg hij, if_neg]
      · exact EReal.add_bot _
      · show ¬ 256 * t.val + i.val ≤ 256 * t.val + j.val
        have : ¬ i.val ≤ j.val := hij
        omega
  obtain ⟨b1, b2⟩ := keep_at (tileA σ cR sl h g t qb).2 (fun j => uAt D h g m T (qAt t j)) t.val t.isLt (tileA σ cR sl h g t qb).1 (tileU σ cR sl h g t qb) a1 hu a2
  have RB := Ready.run RA (keepCmd_only t.val t.isLt (tileA σ cR sl h g t qb).1 (tileU σ cR sl h g t qb)) fun b hb => .inl hb
  have oB : (tileB σ cR sl h g t qb).2 .ot = σ .ot := (run_only (keepCmd_only t.val t.isLt (tileA σ cR sl h g t qb).1 (tileU σ cR sl h g t qb)) _ (by decide)).trans oA
  have b1' (j : Fin 256) : ((tileB σ cR sl h g t qb).1 (ix2 0 j) : EReal) = top (uAt D h g m T (qAt t j)) := by
    rw [← seen_upto D h g m T t j]
    exact b1 j
  obtain ⟨c1, c2⟩ := weightLoop_at (tileB σ cR sl h g t qb).2 (fun j => uAt D h g m T (qAt t j)) (fun s => expq (D.v g s)) g t.val t.isLt (tileB σ cR sl h g t qb).1 b1' b2
    (fun s l => RB.iv g s l) (t.val + 1) le_rfl
  have RC := Ready.run RB (weightLoop_only g.val g.isLt (tileB σ cR sl h g t qb).1 (t.val + 1) (by omega)) fun b hb => .inr (.inl hb)
  have oC : (tileC σ cR sl h g t qb).2 .ot = σ .ot := (run_only (weightLoop_only g.val g.isLt (tileB σ cR sl h g t qb).1 (t.val + 1) (by omega)) _ (by decide)).trans oB
  rw [tileCmd_run, put_same, oC]
  refine (band3 h.val (256 * t.val) _ (σ .ot) _ h' d s).trans ?_
  by_cases e : h' = h ∧ 256 * t.val ≤ s.val ∧ s.val < 256 * t.val + 256
  · rw [if_pos e, dif_pos ⟨congrArg Fin.val e.1, e.2⟩]
    refine (castO_at _ d ⟨s.val - 256 * t.val, by omega⟩ _).trans ?_
    generalize hj : (⟨s.val - 256 * t.val, by omega⟩ : Fin 256) = j
    have hq : qAt t j = s := Fin.ext (by rw [← hj]; show 256 * t.val + (s.val - 256 * t.val) = s.val; omega)
    have er : (recip (tileC σ cR sl h g t qb).1 (ix2 0 j) : EReal) = kRecip (uAt D h g m T (qAt t j)) (fun s => expq (D.v g s)) := by
      rw [recip_at]
      refine congrArg (Ideal.div 1) ((c1 j).trans (Finset.sum_congr rfl fun s _ => ?_))
      split
      · rfl
      · rename_i hlt
        rw [weight_late D h g m T t j s hlt, zero_mul]
    rw [tileOut_at, codeFactor_at, er]
    have eo : kOut (uAt D h g m T (qAt t j)) (fun s => expq (D.v g s)) (fun s => code (D.v g s) d) = outAt D h g m (qAt t j) d := by
      exact kOut_eq (fun s : Fin 2048 => s.val ≤ (qAt t j).val) ⟨⟨0, by omega⟩, Nat.zero_le _⟩ _ _ _ _ (fun i => expq_tame (O.v g i)) (by rw [Fintype.card_fin])
    rw [← hq, ← eo]
    unfold kOut kField
    refine congrArg (· * _) ?_
    refine (Finset.sum_congr rfl fun k _ => ?_).trans ((sum_take (fun i : Fin 2048 => ((code (D.v g i) d : ℝ) : EReal) * (kWeight (uAt D h g m T (qAt t j)) i * min (kRecip (uAt D h g m T (qAt t j)) (fun s => expq (D.v g s)) * Ideal.ofBits .f32 (IntOp.shli .vector (IntOp.subi 253#32 (fieldW (kRecip (uAt D h g m T (qAt t j)) (fun s => expq (D.v g s)) * Ideal.ofBits .f32 0x3B124925#32))) 23#32)) (Ideal.ofBits .f32 1138753536#32))) (256 * (t.val + 1)) (by omega)).trans (Finset.sum_congr rfl fun i _ => ?_))
    · refine congrArg₂ (fun a b : EReal => a * b) ?_ (congrArg (· * _) ?_)
      · refine (boxAt_eq (tileC σ cR sl h g t qb).2 .vc ![0, g.val, 0, 0] ![1, 1, 64, 256 * (t.val + 1)] _ (ix4 0 0 d k) (ix4 0 g d ⟨k.val, by omega⟩) ?_).trans (RC.vc g d _)
        intro a
        fin_cases a
        · rfl
        · rfl
        · exact (Nat.zero_add _).symm
        · exact (Nat.zero_add _).symm
      · refine (boxAt_eq (tileC σ cR sl h g t qb).2 .w ![0, 0] ![256 * (t.val + 1), 256] _ (ix2 k j) (ix2 ⟨k.val, by omega⟩ j) ?_).trans (c2 ⟨k.val, by omega⟩ j k.isLt)
        intro a
        fin_cases a
        · exact (Nat.zero_add _).symm
        · exact (Nat.zero_add _).symm
    · split
      · rfl
      · rename_i hi
        rw [weight_late D h g m T t j i hi, zero_mul, mul_zero]
  · rw [if_neg e, dif_neg fun e' => e ⟨Fin.ext e'.1, e'.2⟩]

end Cert.Attn

end
-- ==== Proof.Heads.lean ====
/- Every head's tiles, then the heads side by side: what the body leaves in its seven results. -/
module

public import proofs.«01_k».proof.Proof.TileRun
public import proofs.«01_k».proof.Proof.BodyIdeal

@[expose] public section

set_option maxRecDepth 16384

noncomputable section

namespace Cert.Attn

open Idealize.ShloMosaic Idealize.SL.Sem

/-- A head's slope. -/
def headSlope (h : Fin 8) : ℝ := (2 : ℝ) ^ (-((h.val : ℤ) + 1))

/-- The key head a head reads. -/
def keyHead (h : Fin 8) : Fin 2 := ⟨h.val / 4, by omega⟩

theorem ofBits_neg1 : Ideal.ofBits .f32 0xBF800000#32 = ((-1 : ℝ) : EReal) := by
  simp [Ideal.ofBits, Ideal.ieee]
  rw [← EReal.coe_mul]
  norm_num

theorem ofBits_256 : Ideal.ofBits .f32 0x43800000#32 = ((256 : ℝ) : EReal) := by
  simp [Ideal.ofBits, Ideal.ieee]
  rw [← EReal.coe_mul]
  norm_num
theorem ofBits_512 : Ideal.ofBits .f32 0x44000000#32 = ((512 : ℝ) : EReal) := by
  simp [Ideal.ofBits, Ideal.ieee]
  rw [← EReal.coe_mul]
  norm_num
theorem ofBits_768 : Ideal.ofBits .f32 0x44400000#32 = ((768 : ℝ) : EReal) := by
  simp [Ideal.ofBits, Ideal.ieee]
  rw [← EReal.coe_mul]
  norm_num
theorem ofBits_1024 : Ideal.ofBits .f32 0x44800000#32 = ((1024 : ℝ) : EReal) := by
  simp [Ideal.ofBits, Ideal.ieee]
  rw [← EReal.coe_mul]
  norm_num
theorem ofBits_1280 : Ideal.ofBits .f32 0x44A00000#32 = ((1280 : ℝ) : EReal) := by
  simp [Ideal.ofBits, Ideal.ieee]
  rw [← EReal.coe_mul]
  norm_num
theorem ofBits_1536 : Ideal.ofBits .f32 0x44C00000#32 = ((1536 : ℝ) : EReal) := by
  simp [Ideal.ofBits, Ideal.ieee]
  rw [← EReal.coe_mul]
  norm_num
theorem ofBits_1792 : Ideal.ofBits .f32 0x44E00000#32 = ((1792 : ℝ) : EReal) := by
  simp [Ideal.ofBits, Ideal.ieee]
  rw [← EReal.coe_mul]
  norm_num
theorem ofBits_2048 : Ideal.ofBits .f32 0x45000000#32 = ((2048 : ℝ) : EReal) := by
  simp [Ideal.ofBits, Ideal.ieee]
  rw [← EReal.coe_mul]
  norm_num

theorem slope_at (cL : Ideal .f32) (hc : (cL : EReal) = (((Real.log 2)⁻¹ : ℝ) : EReal)) (w : BitVec 32) (h : Fin 8) (hw : (IntOp.addi w 1#32).toInt = (h.val : ℤ) + 1) (l : Fin 128) :
    (slope cL w (ix2 0 l) : EReal) = ((headSlope h * (Real.log 2)⁻¹ : ℝ) : EReal) := by
  have e : (slope cL w (ix2 0 l) : EReal) = Ideal.exp2 (Ideal.ofBits .f32 0xBF800000#32 * (FloatOps.sitofp .f32 (IntOp.addi w 1#32) : Ideal .f32)) * cL := rfl
  have e2 : (FloatOps.sitofp .f32 (IntOp.addi w 1#32) : Ideal .f32) = (((((h.val : ℤ) + 1 : ℤ) : ℝ)) : EReal) := by
    rw [← hw]
    rfl
  rw [e, e2, hc, ofBits_neg1, ← EReal.coe_mul, Ideal.exp2_coe, ← EReal.coe_mul]
  congr 2
  unfold headSlope
  rw [← Real.rpow_intCast]
  congr 1
  push_cast
  ring

/-- The results of head `h`'s first `n` tiles. -/
structure Upto (σ σ' : St Ideal) (D : Data) (h : Fin 8) (g : Fin 2) (n : Nat) : Prop where
  ready : Ready σ' D
  ot : ∀ h' d s, (σ' .ot (ix3 h' d s) : EReal) = if h' = h ∧ s.val < 256 * n then outAt D h g (headSlope h) s d else σ .ot (ix3 h' d s)

theorem Upto.step {σ σ' : St Ideal} {D : Data} (O : D.Ok) {h : Fin 8} {g : Fin 2} (t : Fin 8) (U : Upto σ σ' D h g t.val) {T : ℝ} {sl : FVec Ideal (V2 8 128) .f32} {qb : BitVec 32} {cR : Ideal .f32}
    (hc : (cR : EReal) = (((Real.log 2)⁻¹ * 8⁻¹ : ℝ) : EReal)) (hs : ∀ l, (sl (ix2 0 l) : EReal) = ((headSlope h * (Real.log 2)⁻¹ : ℝ) : EReal))
    (hT : Ideal.ofBits .f32 qb = ((T : ℝ) : EReal)) : Upto σ (run (tileCmd cR sl h.val h.isLt g.val g.isLt t.val t.isLt qb) σ').2 D h g (t.val + 1) := by
  refine ⟨U.ready.run (tileCmd_only _ _ _ _ _ _ _ _ _) fun _ h => h, fun h' d s => ?_⟩
  rw [tile_at U.ready O h g t hc hs hT, U.ot]
  by_cases e1 : h' = h
  · by_cases e2 : 256 * t.val ≤ s.val ∧ s.val < 256 * t.val + 256
    · rw [if_pos ⟨e1, e2⟩, if_pos ⟨e1, by omega⟩]
    · rw [if_neg fun e => e2 e.2]
      by_cases e3 : s.val < 256 * t.val
      · rw [if_pos ⟨e1, e3⟩, if_pos ⟨e1, by omega⟩]
      · rw [if_neg fun e => e3 e.2, if_neg fun e => by omega]
  · rw [if_neg fun e => e1 e.1, if_neg fun e => e1 e.1, if_neg fun e => e1 e.1]

theorem head_at {σ : St Ideal} {D : Data} (R : Ready σ D) (O : D.Ok) (h : Fin 8) (g : Fin 2) {cL cR : Ideal .f32} {w : BitVec 32}
    (hl : (cL : EReal) = (((Real.log 2)⁻¹ : ℝ) : EReal)) (hc : (cR : EReal) = (((Real.log 2)⁻¹ * 8⁻¹ : ℝ) : EReal)) (hw : (IntOp.addi w 1#32).toInt = (h.val : ℤ) + 1) :
    Upto σ (run (headTrip cL cR w h.val h.isLt g.val g.isLt) σ).2 D h g 8 := by
  have hs := slope_at cL hl w h hw
  have U0 : Upto σ σ D h g 0 := ⟨R, fun h' d s => by rw [if_neg fun e => by omega]⟩
  have U1 := U0.step O 0 hc hs ofBits_256
  have U2 := U1.step O 1 hc hs ofBits_512
  have U3 := U2.step O 2 hc hs ofBits_768
  have U4 := U3.step O 3 hc hs ofBits_1024
  have U5 := U4.step O 4 hc hs ofBits_1280
  have U6 := U5.step O 5 hc hs ofBits_1536
  have U7 := U6.step O 6 hc hs ofBits_1792
  have U8 := U7.step O 7 hc hs ofBits_2048
  unfold headTrip
  rw [run_bind, run_bind, run_bind, run_bind, run_bind, run_bind, run_bind]
  exact U8

/-! ## The pairs of heads -/

/-- Two heads side by side. -/
def pairOut (a b : Vec Ideal (V3 1 64 2048) .f32) : FVec Ideal (V3 1 2048 128) .bf16 :=
  shapeCast (V3 1 2048 128) (truncf .bf16 (transpose (V2 2048 128) [1, 0]
      (concatenate (V2 128 2048) 0 [⟨V2 64 2048, (shapeCast (V2 64 2048) a (by decide) : FVec Ideal (V2 64 2048) .f32)⟩,
        ⟨V2 64 2048, (shapeCast (V2 64 2048) b (by decide) : FVec Ideal (V2 64 2048) .f32)⟩] cat_pair) (by decide)) lt_bf16_f32 : FVec Ideal (V2 2048 128) .bf16) (by decide)

theorem pairOut_at (a b : Vec Ideal (V3 1 64 2048) .f32) (s : Fin 2048) (c : Fin 128) :
    (pairOut a b (ix3 0 s c) : EReal) = if h : c.val < 64 then a (ix3 0 ⟨c.val, h⟩ s) else b (ix3 0 ⟨c.val - 64, by omega⟩ s) := by
  pointwise [pairOut]

theorem pairCmd_run (p : Nat) (hp : p < 4) (σ : St Ideal) : (run (pairCmd p hp) σ).2
    = put σ .out (Rect.unit (s := B.shape .out) ![0, 0, 128 * p] ![1, 2048, 128] (by intro a; fin_cases a <;> simp <;> omega))
      (pairOut (boxAt σ .ot ![2 * p, 0, 0] ![1, 64, 2048] (by intro a; fin_cases a <;> simp <;> omega))
        (boxAt σ .ot ![2 * p + 1, 0, 0] ![1, 64, 2048] (by intro a; fin_cases a <;> simp <;> omega))) := rfl

/-- The head of a column of the result, and its coordinate. -/
def colHead (j : Fin 512) : Fin 8 := ⟨j.val / 64, by omega⟩
def colDim (j : Fin 512) : Fin 64 := ⟨j.val % 64, by omega⟩

theorem pairCmd_at (p : Nat) (hp : p < 4) (σ : St Ideal) (s : Fin 2048) (j : Fin 512) : ((run (pairCmd p hp) σ).2 .out (ix3 0 s j) : EReal)
    = if 128 * p ≤ j.val ∧ j.val < 128 * p + 128 then σ .ot (ix3 (colHead j) (colDim j) s) else σ .out (ix3 0 s j) := by
  rw [pairCmd_run, put_same]
  refine (band3 0 (128 * p) _ (σ .out) _ 0 s j).trans ?_
  by_cases e : 128 * p ≤ j.val ∧ j.val < 128 * p + 128
  · rw [if_pos e, dif_pos ⟨rfl, e⟩]
    refine (pairOut_at _ _ s _).trans ?_
    split
    · rename_i hlt
      have hlt' : j.val - 128 * p < 64 := hlt
      refine boxAt_eq σ .ot ![2 * p, 0, 0] ![1, 64, 2048] _ (ix3 0 ⟨j.val - 128 * p, hlt'⟩ s) _ ?_
      intro a
      fin_cases a
      · show j.val / 64 = 2 * p + 0
        omega
      · show j.val % 64 = 0 + (j.val - 128 * p)
        omega
      · exact (Nat.zero_add _).symm
    · rename_i hlt
      have hlt' : ¬ j.val - 128 * p < 64 := hlt
      refine boxAt_eq σ .ot ![2 * p + 1, 0, 0] ![1, 64, 2048] _ (ix3 0 ⟨j.val - 128 * p - 64, by omega⟩ s) _ ?_
      intro a
      fin_cases a
      · show j.val / 64 = 2 * p + 1 + 0
        omega
      · show j.val % 64 = 0 + (j.val - 128 * p - 64)
        omega
      · exact (Nat.zero_add _).symm
  · rw [if_neg e, dif_neg fun e' => e e'.2]

theorem epilogue_at (σ : St Ideal) (s : Fin 2048) (j : Fin 512) : ((run epilogue σ).2 .out (ix3 0 s j) : EReal) = σ .ot (ix3 (colHead j) (colDim j) s) := by
  have o (p : Nat) (hp : p < 4) (σ : St Ideal) : (run (pairCmd p hp) σ).2 .ot = σ .ot := run_only (pairCmd_only p hp) σ (by decide)
  unfold epilogue
  rw [run_bind, run_bind, run_bind, pairCmd_at, pairCmd_at, pairCmd_at, pairCmd_at, o, o, o]
  split
  · rfl
  split
  · rfl
  split
  · rfl
  rw [if_pos (by omega)]

end Cert.Attn

namespace Cert.KernelIdeal.Body

open Cert.KernelIdeal Cert.KernelIdeal.Gen Cert.Attn
open Idealize.ShloMosaic Idealize.SL.Sem

theorem word_int : ∀ k : Fin k0_t1_loop.trips, (IntOp.addi (word k) 1#32).toInt = (k.val : ℤ) + 1 := by decide +kernel
theorem trips_eight : k0_t1_loop.trips = 8 := by decide +kernel

theorem cL_eq : (Named.named κ "log2_e" 0x3FB8AA3B#32 : Ideal .f32) = (((Real.log 2)⁻¹ : ℝ) : EReal) := rfl
theorem cR_eq : (Named.named κ "log2_e_over_8" 0x3E38AA3B#32 : Ideal .f32) = (((Real.log 2)⁻¹ * 8⁻¹ : ℝ) : EReal) := rfl

theorem trip_at {σ : St Ideal} {D : Data} (R : Ready σ D) (O : D.Ok) (k : Fin k0_t1_loop.trips) :
    Upto σ (run (trip k) σ).2 D ⟨k.val, by have := k.isLt; have := trips_eight; omega⟩ ⟨k.val / 4, by have := k.isLt; have := trips_eight; omega⟩ 8 := by
  have a := head_at (σ := σ) R O ⟨(Scalar.indexCast (word k)).toNat, word_lt k⟩ ⟨(Scalar.indexCast (kvWord (word k))).toNat, kv_lt k⟩ (w := word k) cL_eq cR_eq
    (by rw [word_int]; exact congrArg (fun n : Nat => (n : ℤ) + 1) (word_toNat k).symm)
  have e1 : (⟨(Scalar.indexCast (word k)).toNat, word_lt k⟩ : Fin 8) = ⟨k.val, by have := k.isLt; have := trips_eight; omega⟩ := Fin.ext (word_toNat k)
  have e2 : (⟨(Scalar.indexCast (kvWord (word k))).toNat, kv_lt k⟩ : Fin 2) = ⟨k.val / 4, by have := k.isLt; have := trips_eight; omega⟩ := Fin.ext (kv_toNat k)
  have b : Upto σ (run (trip k) σ).2 D ⟨(Scalar.indexCast (word k)).toNat, word_lt k⟩ ⟨(Scalar.indexCast (kvWord (word k))).toNat, kv_lt k⟩ 8 := a
  rw [e1, e2] at b
  exact b

theorem trips_at {σ : St Ideal} {D : Data} (R : Ready σ D) (O : D.Ok) (n : Nat) (hn : n ≤ 8) : Ready (afterTrips trip σ n) D
    ∧ ∀ (h : Fin 8) d s, h.val < n → (afterTrips trip σ n .ot (ix3 h d s) : EReal) = outAt D h (keyHead h) (headSlope h) s d := by
  induction n with
  | zero => exact ⟨R, fun h d s hh => absurd hh (by omega)⟩
  | succ n ih =>
    obtain ⟨i1, i2⟩ := ih (by omega)
    have hk : n < k0_t1_loop.trips := by have := trips_eight; omega
    have U := trip_at i1 O ⟨n, hk⟩
    have e := afterTrips_succ trip σ (⟨n, hk⟩ : Fin k0_t1_loop.trips)
    change afterTrips trip σ (n + 1) = (run (trip ⟨n, hk⟩) (afterTrips trip σ n)).2 at e
    rw [e]
    refine ⟨U.ready, fun h d s hh => ?_⟩
    rw [U.ot]
    by_cases e1 : h.val = n
    · obtain ⟨h, hlt⟩ := h
      obtain rfl : h = n := e1
      rw [if_pos ⟨rfl, by omega⟩]
      rfl
    · rw [if_neg fun e' => e1 (congrArg Fin.val e'.1)]
      exact i2 h d s (by omega)

/-- What the body leaves of a batch. -/
structure Done (σ : St Ideal) (D : Data) : Prop where
  out : ∀ (s : Fin 2048) (j : Fin 512), (σ .out (ix3 0 s j) : EReal) = outAt D (colHead j) (keyHead (colHead j)) (headSlope (colHead j)) s (colDim j)
  qc : ∀ (h : Fin 8) (d : Fin 64) (s : Fin 2048), (σ .qc (ix4 0 h d s) : EReal) = ((code (D.q h s) d : ℝ) : EReal)
  qs : ∀ (h : Fin 8) (s : Fin 2048), (σ .qs (ix3 0 h s) : EReal) = (((2 : ℝ) ^ expq (D.q h s) : ℝ) : EReal)
  kc : ∀ (g : Fin 2) (d : Fin 64) (s : Fin 2048), (σ .kc (ix4 0 g d s) : EReal) = ((code (D.k g s) d : ℝ) : EReal)
  ks : ∀ (g : Fin 2) (s : Fin 2048), (σ .ks (ix3 0 g s) : EReal) = (((2 : ℝ) ^ expq (D.k g s) : ℝ) : EReal)
  vc : ∀ (g : Fin 2) (d : Fin 64) (s : Fin 2048), (σ .vc (ix4 0 g d s) : EReal) = ((code (D.v g s) d : ℝ) : EReal)
  vs : ∀ (g : Fin 2) (s : Fin 2048), (σ .vs (ix3 0 g s) : EReal) = (((2 : ℝ) ^ expq (D.v g s) : ℝ) : EReal)

theorem done {σ : St Ideal} {D : Data} (H : Holds σ D) (O : D.Ok) : Done (bodyRun (N := k0_t1_loop.trips) trip σ) D := by
  obtain ⟨R, r⟩ := trips_at (ready H O) O 8 le_rfl
  have e : bodyRun (N := k0_t1_loop.trips) trip σ = (run epilogue (afterTrips trip (run prologue σ).2 8)).2 :=
    congrArg (fun n => (run epilogue (afterTrips trip (run prologue σ).2 n)).2) trips_eight
  have o (b : B) (hb : b ≠ .out) : (run epilogue (afterTrips trip (run prologue σ).2 8)).2 b = afterTrips trip (run prologue σ).2 8 b := run_only epilogue_only _ hb
  rw [e]
  constructor
  · intro s j
    rw [epilogue_at]
    exact r _ _ _ (colHead j).isLt
  · rw [o .qc (by decide)]; exact R.qc
  · rw [o .qs (by decide)]; exact R.qs
  · rw [o .kc (by decide)]; exact R.kc
  · rw [o .ks (by decide)]; exact R.ks
  · rw [o .vc (by decide)]; exact R.vc
  · rw [o .vs (by decide)]; exact R.vs

end Cert.KernelIdeal.Body

end
-- ==== Proof.RefAttn.lean ====
/- The reference's attention at the ideal instance, from codes and scales of reals: its output is `outAt`. -/
module

public import proofs.«01_k».proof.Proof.RefQuant
public import proofs.«01_k».proof.Proof.Heads

@[expose] public section

set_option maxRecDepth 16384

noncomputable section

namespace Cert.ReferenceIdeal.Value

open Cert.ReferenceIdeal Cert.ReferenceIdeal.Gen Cert.Attn
open Idealize.ShloMosaic Idealize.SL.Sem

/-- Query head `r` of the group of key head `g`. -/
def head (g : Fin 2) (r : Fin 4) : Fin 8 := ⟨g.val * 4 + r.val, by omega⟩

theorem ofBits_eighth : Ideal.ofBits .f32 1040187392#32 = ((8⁻¹ : ℝ) : EReal) := by
  simp [Ideal.ofBits, Ideal.ieee]
  rw [← EReal.coe_mul]
  norm_num

theorem toInt_ofNat (n : ℕ) (h : n < 2048) : (BitVec.ofNat 32 n).toInt = n := by
  rw [BitVec.toInt_eq_toNat_of_lt] <;> simp <;> omega

theorem slope_eq (g : Fin 2) (r : Fin 4) :
    Ideal.pow (Ideal.ofBits .f32 1073741824#32) (-((FloatOps.sitofp .f32 (BitVec.ofNat 32 (g.val * 4 + r.val)) : Ideal .f32) + 1 : EReal)) = ((headSlope (head g r) : ℝ) : EReal) := by
  have e : (FloatOps.sitofp .f32 (BitVec.ofNat 32 (g.val * 4 + r.val)) : Ideal .f32) = ((((g.val * 4 + r.val : ℕ) : ℤ) : ℝ) : EReal) := by
    rw [← toInt_ofNat (g.val * 4 + r.val) (by omega)]
    rfl
  rw [e, ofBits_two, show (1 : EReal) = ((1 : ℝ) : EReal) from rfl, ← EReal.coe_add, ← EReal.coe_neg, Ideal.pow_coe_coe]
  refine congrArg _ ?_
  unfold headSlope head
  rw [← Real.rpow_intCast]
  push_cast
  ring_nf
  rfl

theorem dist_eq (q s : Fin 2048) :
    (FloatOps.sitofp .f32 (IntOp.subi (BitVec.ofNat 32 q.val) (BitVec.ofNat 32 s.val)) : Ideal .f32) = (((q.val : ℝ) - (s.val : ℝ) : ℝ) : EReal) := by
  have : (IntOp.subi (BitVec.ofNat 32 q.val) (BitVec.ofNat 32 s.val)).toInt = (q.val : ℤ) - s.val := by
    rw [IntOp.subi, BitVec.toInt_sub, toInt_ofNat _ q.isLt, toInt_ofNat _ s.isLt]
    apply Int.bmod_eq_of_le <;> omega
  show (((_ : ℤ) : ℝ) : EReal) = _
  rw [this]
  push_cast
  rfl

theorem sle_eq (q s : Fin 2048) : IntOp.cmpi CmpIPredicate.sle (BitVec.ofNat 32 s.val) (BitVec.ofNat 32 q.val) = if s.val ≤ q.val then 1#1 else 0#1 := by
  simp only [IntOp.cmpi, BitVec.sle_eq_decide, toInt_ofNat _ q.isLt, toInt_ofNat _ s.isLt]
  by_cases hij : s.val ≤ q.val
  · simp [hij]
  · simp [hij]

section
variable {E : Fin 9 → Data} {qc : FVec Ideal S9x2048x8x64 .f32} {qs : FVec Ideal S9x2048x8x1 .f32} {kc : FVec Ideal S9x2048x2x64 .f32} {ks : FVec Ideal S9x2048x2x1 .f32}
  (hqc : ∀ b s h d, qc (ix4 b s h d) = ((code ((E b).q h s) d : ℝ) : EReal)) (hqs : ∀ b s h, qs (ix4 b s h 0) = (((2 : ℝ) ^ expq ((E b).q h s) : ℝ) : EReal))
  (hkc : ∀ b s g d, kc (ix4 b s g d) = ((code ((E b).k g s) d : ℝ) : EReal)) (hks : ∀ b s g, ks (ix4 b s g 0) = (((2 : ℝ) ^ expq ((E b).k g s) : ℝ) : EReal))
include hqc hqs hkc hks

theorem scores_val (b : Fin 9) (g : Fin 2) (r : Fin 4) (q s : Fin 2048) :
    (scores qc qs kc ks (ix5 b g r q s) : EReal) = seen (fun s : Fin 2048 => s.val ≤ q.val) (zAt (E b) (head g r) g (headSlope (head g r)) q) s := by
  have hs : (∑ x : Fin 64, (qc (ix4 b q (head g r) x) * kc (ix4 b s g x) : EReal)) = ((∑ x, code ((E b).q (head g r) q) x * code ((E b).k g s) x : ℝ) : EReal) := by
    rw [coe_sum]
    refine Finset.sum_congr rfl fun x _ => ?_
    rw [hqc, hkc]
    exact (EReal.coe_mul _ _).symm
  have hz : ((∑ x : Fin 64, (qc (ix4 b q (head g r) x) * kc (ix4 b s g x) : EReal)) * ((qs (ix4 b q (head g r) 0) : EReal) * Ideal.ofBits .f32 1040187392#32) * (ks (ix4 b s g 0) : EReal)
      - Ideal.pow (Ideal.ofBits .f32 1073741824#32) (-((FloatOps.sitofp .f32 (BitVec.ofNat 32 (g.val * 4 + r.val)) : Ideal .f32) + 1 : EReal))
        * (FloatOps.sitofp .f32 (IntOp.subi (BitVec.ofNat 32 q.val) (BitVec.ofNat 32 s.val)) : Ideal .f32) : EReal)
      = ((zAt (E b) (head g r) g (headSlope (head g r)) q s : ℝ) : EReal) := by
    rw [hs, hqs, hks, ofBits_eighth, slope_eq, dist_eq]
    simp only [← EReal.coe_mul, ← EReal.coe_sub]
    rfl
  unfold scores
  pointwise
  simp only [id_eq, ValueIdx.constant_apply]
  refine (congrArg₂ (Scalar.select _) hz ofBits_bot).trans ?_
  rw [sle_eq]
  unfold seen
  by_cases hij : s.val ≤ q.val
  · rw [if_pos hij, if_pos hij]
    rfl
  · rw [if_neg hij, if_neg hij]
    rfl
end

section
variable {V : Fin 2048 → Prop} [DecidablePred V] {z : Fin 2048 → ℝ} {e : Fin 2048 → ℤ} {c : Fin 2048 → ℝ} (b : Fin 9) (g : Fin 2) (r : Fin 4) (q : Fin 2048)

theorem expos_val {u : FVec Ideal S9x2x4x2048x2048 .f32} (hu : ∀ s, u (ix5 b g r q s) = seen V z s) (s : Fin 2048) :
    (expos u (ix5 b g r q s) : EReal) = Ideal.exp (seen V z s - top (seen V z)) := by
  have ht : Finset.fold max (Ideal.ofBits FTy.f32 4286578688#32) (fun x : Fin 2048 => (u (ix5 b g r q x) : EReal)) Finset.univ = top (seen V z) := by
    rw [ofBits_bot]
    exact congrArg (fun f : Fin 2048 → EReal => Finset.fold max ⊥ f Finset.univ) (funext hu)
  unfold expos
  pointwise
  exact congrArg Ideal.exp (congrArg₂ (fun a b : EReal => a - b) (hu s) ht)

theorem probs_val {u : FVec Ideal S9x2x4x2048x2048 .f32} {vs : FVec Ideal S9x2048x2x1 .f32} (hu : ∀ s, u (ix5 b g r q s) = seen V z s)
    (hv : ∀ s, vs (ix4 b s g 0) = (((2 : ℝ) ^ e s : ℝ) : EReal)) (s : Fin 2048) : (probs (expos u) vs (ix5 b g r q s) : EReal) = prob V z e s := by
  have he := expos_val b g r q hu
  generalize expos u = w at he ⊢
  unfold probs
  pointwise
  exact congrArg₂ (fun a b : EReal => a * b) (congrArg₂ Ideal.div (he s) (Finset.sum_congr rfl fun x _ => he x)) (hv s)

theorem scalesP_val {p : FVec Ideal S9x2x4x2048x2048 .f32} (hp : ∀ s, p (ix5 b g r q s) = prob V z e s) :
    (scalesP (peakP p) (ix5 b g r q 0) : EReal) = probScale V z e := by
  rw [scalesP_at]
  refine congrArg tableScale ?_
  unfold peakP
  pointwise
  exact congrArg (fun f : Fin 2048 → EReal => Finset.fold max (Ideal.ofBits FTy.f32 4286578688#32) f Finset.univ) (funext fun x => congrArg (FloatOps.absf (F := Ideal) (φ := .f32)) (hp x))

end

theorem output_val (p : FVec Ideal S9x2x4x2048x2048 .f32) (y : FVec Ideal S9x2x4x2048x1 .f32) (vc : FVec Ideal S9x2048x2x64 .f32) (b : Fin 9) (q : Fin 2048) (j : Fin 512)
    {V : Fin 2048 → Prop} [DecidablePred V] {z : Fin 2048 → ℝ} {e : Fin 2048 → ℤ} {c : Fin 2048 → ℝ}
    (hp : ∀ s, p (ix5 b (⟨j.val / 256, by omega⟩ : Fin 2) (⟨j.val / 64 % 4, by omega⟩ : Fin 4) q s) = prob V z e s)
    (hy : y (ix5 b (⟨j.val / 256, by omega⟩ : Fin 2) (⟨j.val / 64 % 4, by omega⟩ : Fin 4) q 0) = probScale V z e)
    (hc : ∀ s, vc (ix4 b s (⟨j.val / 256, by omega⟩ : Fin 2) (⟨j.val % 64, by omega⟩ : Fin 64)) = ((c s : ℝ) : EReal)) :
    (output p y vc (ix3 b q j) : EReal) = refOut V z e c := by
  unfold output
  pointwise
  simp only [id_eq, ValueIdx.constant_apply]
  exact congrArg₂ (fun a b : EReal => a * b) (Finset.sum_congr rfl fun x _ => congrArg₂ (fun a b : EReal => a * b)
    (congrArg (fun t : EReal => min (Ideal.ofBits .f32 1138753536#32) (max (Ideal.ofBits .f32 3286237184#32) t)) (congrArg₂ Ideal.div (hp x) hy)) (hc x)) hy

end Cert.ReferenceIdeal.Value

end
-- ==== Proof.RunValue.lean ====
/- The kernel's run at the ideal instance, from arguments that hold nine batches: its seven results, as arrays. -/
module

public import proofs.«01_k».proof.Proof.Heads
public import proofs.«01_k».proof.Proof.RunIdeal
public import Idealize.ShloMosaic.Lib.Pipeline.ValueKit

@[expose] public section

set_option maxRecDepth 16384

noncomputable section

namespace Cert.Attn

open Idealize.ShloMosaic

/-- The attention of nine batches, in the layout of the result. -/
def outArr (E : Fin 9 → Data) : (V3 9 2048 512).Idx → EReal := fun i =>
  outAt (E (i 0)) (colHead (i 2)) (keyHead (colHead (i 2))) (headSlope (colHead (i 2))) (i 1) (colDim (i 2))

/-- The codes of nine batches of rows, in the layout the kernel stores them in. -/
def codeArr {n : Nat} (f : Fin 9 → Fin n → Fin 2048 → Fin 64 → ℝ) : (V4 9 n 64 2048).Idx → EReal := fun i => ((code (f (i 0) (i 1) (i 3)) (i 2) : ℝ) : EReal)

/-- Their scales. -/
def scaleArr {n : Nat} (f : Fin 9 → Fin n → Fin 2048 → Fin 64 → ℝ) : (V3 9 n 2048).Idx → EReal := fun i => (((2 : ℝ) ^ expq (f (i 0) (i 1) (i 2)) : ℝ) : EReal)

end Cert.Attn

namespace Cert.KernelIdeal.Body

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg) (D : Dev nD → Fin 9 → Data)

/-- The arguments hold the batches. -/
structure Args : Prop where
  x : ∀ (c : Dev nD) (b : Fin 9) (h : Fin 8) (s : Fin 2048) (d : Fin 64),
    (m ((c : Thread nD τ).loc main_arg0) (ix3 b s (⟨64 * h.val + d.val, by omega⟩ : Fin 512)) : EReal) = (((D c b).q h s d : ℝ) : EReal)
  k : ∀ (c : Dev nD) (b : Fin 9) (g : Fin 2) (s : Fin 2048) (d : Fin 64),
    (m ((c : Thread nD τ).loc main_arg1) (ix3 b s (⟨64 * g.val + d.val, by omega⟩ : Fin 128)) : EReal) = (((D c b).k g s d : ℝ) : EReal)
  v : ∀ (c : Dev nD) (b : Fin 9) (g : Fin 2) (s : Fin 2048) (d : Fin 64),
    (m ((c : Thread nD τ).loc main_arg2) (ix3 b s (⟨64 * g.val + d.val, by omega⟩ : Fin 128)) : EReal) = (((D c b).v g s d : ℝ) : EReal)
  ok : ∀ c b, (D c b).Ok

/-- The batch of a grid point. -/
def bat (t : Fin cfg0.N) : Fin 9 := ⟨t.val, lt_of_lt_of_eq t.isLt (by decide +kernel)⟩

/-- The proof data: the results' blocks are the batch's. -/
def datsV (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => fun (y : (V3 1 2048 512).Idx) => outArr (D c) (ix3 (bat t) (y 1) (y 2))
    | 4 => fun (y : (V4 1 8 64 2048).Idx) => codeArr (fun b => (D c b).q) (ix4 (bat t) (y 1) (y 2) (y 3))
    | 5 => fun (y : (V3 1 8 2048).Idx) => scaleArr (fun b => (D c b).q) (ix3 (bat t) (y 1) (y 2))
    | 6 => fun (y : (V4 1 2 64 2048).Idx) => codeArr (fun b => (D c b).k) (ix4 (bat t) (y 1) (y 2) (y 3))
    | 7 => fun (y : (V3 1 2 2048).Idx) => scaleArr (fun b => (D c b).k) (ix3 (bat t) (y 1) (y 2))
    | 8 => fun (y : (V4 1 2 64 2048).Idx) => codeArr (fun b => (D c b).v) (ix4 (bat t) (y 1) (y 2) (y 3))
    | 9 => fun (y : (V3 1 2 2048).Idx) => scaleArr (fun b => (D c b).v) (ix3 (bat t) (y 1) (y 2))
  Φ _ := Pipeline.ΦA spec0 c
  q _ := fullShare
  owed _ := 0

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0, 0] := (by decide +kernel : ∀ t : Fin grid0.N, _)
theorem idx7 : ∀ t : Fin cfg0.N, win0_7.index t = ![t.val, 0, 0] := (by decide +kernel : ∀ t : Fin grid0.N, _)
theorem idx8 : ∀ t : Fin cfg0.N, win0_8.index t = ![t.val, 0, 0, 0] := (by decide +kernel : ∀ t : Fin grid0.N, _)
theorem idx9 : ∀ t : Fin cfg0.N, win0_9.index t = ![t.val, 0, 0] := (by decide +kernel : ∀ t : Fin grid0.N, _)

theorem blk0 (c : Dev nD) (t : Fin cfg0.N) (s : Fin 2048) (j : Fin 512) :
    (iblk m c 0 t (ix3 0 s j) : EReal) = m ((c : Thread nD τ).loc main_arg0) (ix3 (bat t) s j) := by
  blk_simp [iblk]
  refine congrArg (m ((c : Thread nD τ).loc main_arg0)) ?_
  blk_ext [idx0 t, bat]

theorem blk1 (c : Dev nD) (t : Fin cfg0.N) (s : Fin 2048) (j : Fin 128) :
    (iblk m c 1 t (ix3 0 s j) : EReal) = m ((c : Thread nD τ).loc main_arg1) (ix3 (bat t) s j) := by
  blk_simp [iblk]
  refine congrArg (m ((c : Thread nD τ).loc main_arg1)) ?_
  blk_ext [idx1 t, bat]

theorem blk2 (c : Dev nD) (t : Fin cfg0.N) (s : Fin 2048) (j : Fin 128) :
    (iblk m c 2 t (ix3 0 s j) : EReal) = m ((c : Thread nD τ).loc main_arg2) (ix3 (bat t) s j) := by
  blk_simp [iblk]
  refine congrArg (m ((c : Thread nD τ).loc main_arg2)) ?_
  blk_ext [idx2 t, bat]

variable {m D} in
theorem done_at (H : Args m D) (c : Dev nD) (t : Fin cfg0.N) (σ : St Ideal) (h0 : σ .x = iblk m c 0 t) (h1 : σ .k = iblk m c 1 t) (h2 : σ .v = iblk m c 2 t) :
    Done (final σ) (D c (bat t)) := by
  refine done ⟨fun h s d => ?_, fun g s d => ?_, fun g s d => ?_⟩ (H.ok c (bat t))
  · rw [h0]
    exact (blk0 m c t s _).trans (H.x c (bat t) h s d)
  · rw [h1]
    exact (blk1 m c t s _).trans (H.k c (bat t) g s d)
  · rw [h2]
    exact (blk2 m c t s _).trans (H.v c (bat t) g s d)

theorem ext3 {a b : Nat} {f g : (V3 1 a b).Idx → EReal} (h : ∀ i j, f (ix3 0 i j) = g (ix3 0 i j)) : f = g := by
  funext y
  rw [eq_ix3 y, Fin.fin_one_eq_zero (y 0)]
  exact h _ _

theorem ext4 {a b e : Nat} {f g : (V4 1 a b e).Idx → EReal} (h : ∀ i j k, f (ix4 0 i j k) = g (ix4 0 i j k)) : f = g := by
  funext y
  rw [eq_ix4 y, Fin.fin_one_eq_zero (y 0)]
  exact h _ _ _

variable {m D} in
theorem soundV (H : Args m D) (c : Dev nD) (t : Fin cfg0.N) :
    iprop((datsV m D 0 c).Φ t.castSucc ∗ (datsV m D 0 c).owesAt () t.castSucc ∗ (∃ d, owns (c : Thread nD τ) (st0_0 t) fullShare ((datsV m D 0 c).before 0 t d)) ∗ (∃ d, owns (c : Thread nD τ) (st0_1 t) fullShare ((datsV m D 0 c).before 1 t d)) ∗ (∃ d, owns (c : Thread nD τ) (st0_2 t) fullShare ((datsV m D 0 c).before 2 t d)) ∗ (∃ d, owns (c : Thread nD τ) (st0_3 t) fullShare ((datsV m D 0 c).before 3 t d)) ∗ (∃ d, owns (c : Thread nD τ) (st0_4 t) fullShare ((datsV m D 0 c).before 4 t d)) ∗ (∃ d, owns (c : Thread nD τ) (st0_5 t) fullShare ((datsV m D 0 c).before 5 t d)) ∗ (∃ d, owns (c : Thread nD τ) (st0_6 t) fullShare ((datsV m D 0 c).before 6 t d)) ∗ (∃ d, owns (c : Thread nD τ) (st0_7 t) fullShare ((datsV m D 0 c).before 7 t d)) ∗ (∃ d, owns (c : Thread nD τ) (st0_8 t) fullShare ((datsV m D 0 c).before 8 t d)) ∗ (∃ d, owns (c : Thread nD τ) (st0_9 t) fullShare ((datsV m D 0 c).before 9 t d)))
      ⊢ wp frame (wpE (defs₀ (F := Ideal)) Variants.none (c : Thread nD τ) none) Set.univ (bodyAt0 t) fun _ =>
        iprop((datsV m D 0 c).Φ t.succ ∗ (datsV m D 0 c).owesAt () t.succ ∗ owns (c : Thread nD τ) (st0_0 t) fullShare ((datsV m D 0 c).after 0 t) ∗ owns (c : Thread nD τ) (st0_1 t) fullShare ((datsV m D 0 c).after 1 t) ∗ owns (c : Thread nD τ) (st0_2 t) fullShare ((datsV m D 0 c).after 2 t) ∗ owns (c : Thread nD τ) (st0_3 t) fullShare ((datsV m D 0 c).after 3 t) ∗ owns (c : Thread nD τ) (st0_4 t) fullShare ((datsV m D 0 c).after 4 t) ∗ owns (c : Thread nD τ) (st0_5 t) fullShare ((datsV m D 0 c).after 5 t) ∗ owns (c : Thread nD τ) (st0_6 t) fullShare ((datsV m D 0 c).after 6 t) ∗ owns (c : Thread nD τ) (st0_7 t) fullShare ((datsV m D 0 c).after 7 t) ∗ owns (c : Thread nD τ) (st0_8 t) fullShare ((datsV m D 0 c).after 8 t) ∗ owns (c : Thread nD τ) (st0_9 t) fullShare ((datsV m D 0 c).after 9 t)) := by
  rw [show (datsV m D 0 c).Φ t.succ = Pipeline.ΦA spec0 c from rfl, show (datsV m D 0 c).Φ t.castSucc = Pipeline.ΦA spec0 c from rfl,
    show (datsV m D 0 c).owesAt () t.succ = (datsV m D 0 c).owesAt () t.castSucc from rfl]
  simp only [before0_0_of m (datsV m D 0 c) rfl (fun _ => rfl), before0_1_of m (datsV m D 0 c) rfl (fun _ => rfl), before0_2_of m (datsV m D 0 c) rfl (fun _ => rfl)]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound Variants.none c t (iblk m c 0 t) (iblk m c 1 t) (iblk m c 2 t)) $$ [HP H0 H1 H2 H3 H4 H5 H6 H7 H8 H9]
  · isplitl [HP]; · iexact HP
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9
  iintro %σ %hσ ⟨HP, H0, H1, H2, H3, H4, H5, H6, H7, H8, H9⟩
  obtain ⟨h0, h1, h2⟩ := hσ
  have Q := done_at H c t σ h0 h1 h2
  have e3 : final σ .out = (datsV m D 0 c).after 3 t := ext3 fun s j => Q.out s j
  have e4 : final σ .qc = (datsV m D 0 c).after 4 t := ext4 fun h d s => Q.qc h d s
  have e5 : final σ .qs = (datsV m D 0 c).after 5 t := ext3 fun h s => Q.qs h s
  have e6 : final σ .kc = (datsV m D 0 c).after 6 t := ext4 fun h d s => Q.kc h d s
  have e7 : final σ .ks = (datsV m D 0 c).after 7 t := ext3 fun h s => Q.ks h s
  have e8 : final σ .vc = (datsV m D 0 c).after 8 t := ext4 fun h d s => Q.vc h d s
  have e9 : final σ .vs = (datsV m D 0 c).after 9 t := ext3 fun h s => Q.vs h s
  rw [h0, h1, h2, e3, e4, e5, e6, e7, e8, e9]
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

variable {m D} in
theorem bodyV (H : Args m D) (c : Dev nD) : BodyObligation (datsV m D 0 c) (defs₀ (F := Ideal)) Variants.none () Set.univ := fun t => by
  rw [bigSep_W0, bigSep_W0, defs₀_row]
  exact triple_restated (soundV H c t) rfl .rfl fun _ => .rfl

/-! ## The arrays -/

theorem arr3 (c : Dev nD) : (datsV m D 0 c).arrAt 3 cfg0.N = outArr (D c) := by
  refine (datsV m D 0 c).arrAt_eq_of_covers 3 _ (by decide +kernel) fun t hf y => ?_
  refine (show _ = outArr (D c) (ix3 (bat t) (y 1) (y 2)) from rfl).trans (congrArg (outArr (D c)) ?_)
  idx_bounds y
  blk_ext [idx3 t, bat]

end Cert.KernelIdeal.Body

end
-- ==== Proof.RunTail.lean ====
/- The kernel's run at the ideal instance to its end: the arrays after the region, and the six transposes after it. -/
module

public import proofs.«01_k».proof.Proof.RunValue

@[expose] public section

set_option maxRecDepth 16384

noncomputable section

namespace Cert.KernelIdeal.Body

open Cert.KernelIdeal Cert.KernelIdeal.Gen Cert.Attn
open Idealize.ShloMosaic Idealize.ShloMosaic.TcCoe Idealize.ShloMosaic.Tactic
open Idealize.SL.Sem
open Idealize.ShloMosaic.Pipeline (Dat BodyObligation)

variable (m : (ℓ : Loc nD τ sig) → Buf (Elt Ideal) ℓ) (ρ : Dev nD → PrngReg) (D : Dev nD → Fin 9 → Data)

theorem arr4 (c : Dev nD) : (datsV m D 0 c).arrAt 4 cfg0.N = codeArr (fun b => (D c b).q) := by
  refine (datsV m D 0 c).arrAt_eq_of_covers 4 _ (by decide +kernel) fun t hf y => ?_
  refine (show _ = codeArr (fun b => (D c b).q) (ix4 (bat t) (y 1) (y 2) (y 3)) from rfl).trans (congrArg (codeArr (fun b => (D c b).q)) ?_)
  idx_bounds y
  blk_ext [idx4 t, bat]

theorem arr5 (c : Dev nD) : (datsV m D 0 c).arrAt 5 cfg0.N = scaleArr (fun b => (D c b).q) := by
  refine (datsV m D 0 c).arrAt_eq_of_covers 5 _ (by decide +kernel) fun t hf y => ?_
  refine (show _ = scaleArr (fun b => (D c b).q) (ix3 (bat t) (y 1) (y 2)) from rfl).trans (congrArg (scaleArr (fun b => (D c b).q)) ?_)
  idx_bounds y
  blk_ext [idx5 t, bat]

theorem arr6 (c : Dev nD) : (datsV m D 0 c).arrAt 6 cfg0.N = codeArr (fun b => (D c b).k) := by
  refine (datsV m D 0 c).arrAt_eq_of_covers 6 _ (by decide +kernel) fun t hf y => ?_
  refine (show _ = codeArr (fun b => (D c b).k) (ix4 (bat t) (y 1) (y 2) (y 3)) from rfl).trans (congrArg (codeArr (fun b => (D c b).k)) ?_)
  idx_bounds y
  blk_ext [idx6 t, bat]

theorem arr7 (c : Dev nD) : (datsV m D 0 c).arrAt 7 cfg0.N = scaleArr (fun b => (D c b).k) := by
  refine (datsV m D 0 c).arrAt_eq_of_covers 7 _ (by decide +kernel) fun t hf y => ?_
  refine (show _ = scaleArr (fun b => (D c b).k) (ix3 (bat t) (y 1) (y 2)) from rfl).trans (congrArg (scaleArr (fun b => (D c b).k)) ?_)
  idx_bounds y
  blk_ext [idx7 t, bat]

theorem arr8 (c : Dev nD) : (datsV m D 0 c).arrAt 8 cfg0.N = codeArr (fun b => (D c b).v) := by
  refine (datsV m D 0 c).arrAt_eq_of_covers 8 _ (by decide +kernel) fun t hf y => ?_
  refine (show _ = codeArr (fun b => (D c b).v) (ix4 (bat t) (y 1) (y 2) (y 3)) from rfl).trans (congrArg (codeArr (fun b => (D c b).v)) ?_)
  idx_bounds y
  blk_ext [idx8 t, bat]

theorem arr9 (c : Dev nD) : (datsV m D 0 c).arrAt 9 cfg0.N = scaleArr (fun b => (D c b).v) := by
  refine (datsV m D 0 c).arrAt_eq_of_covers 9 _ (by decide +kernel) fun t hf y => ?_
  refine (show _ = scaleArr (fun b => (D c b).v) (ix3 (bat t) (y 1) (y 2)) from rfl).trans (congrArg (scaleArr (fun b => (D c b).v)) ?_)
  idx_bounds y
  blk_ext [idx9 t, bat]

/-- An array as the region leaves it, read by the operations after it. -/
theorem region_read (c : Dev nD) (w : Fin 10) :
    Pipeline.withArrays spec0 c (V0 m c) (fun w => (datsV m D 0 c).arrAt w cfg0.N) (Proc.devRef .tc (Pipeline.arrRef spec0 w)) = (datsV m D 0 c).arrAt w cfg0.N :=
  Pipeline.withArrays_arr spec0 (by decide) c _ _ w

/-- What the launch leaves in a buffer the host writes after it. -/
abbrev tail (c : Dev nD) (b : Ref sig .tc) : Buf (Elt Ideal) ((c.tc : Thread nD τ).loc b) :=
  Pipeline.afterTail₀ cfgs (datsV m D) (0 : Fin 1) (V0 m) [hostOps1] c b

theorem tail1 (c : Dev nD) : tail m D c main_v1 = transpose S9x2048x8x64 [0, 3, 1, 2] (codeArr (fun b => (D c b).q)) transposes_S9x8x64x2048_S9x2048x8x64_0_3_1_2 := by
  rw [← arr4 m D c, ← region_read m D c 4]
  unfold tail Pipeline.afterTail₀
  generalize Pipeline.withArrays _ _ _ _ = W
  simp only [List.flatten_cons, List.flatten_nil, List.append_nil]
  unfold_abbrev_sides
  after_results

theorem tail2 (c : Dev nD) : tail m D c main_v2 = transpose S9x2048x8 [0, 2, 1] (scaleArr (fun b => (D c b).q)) transposes_S9x8x2048_S9x2048x8_0_2_1 := by
  rw [← arr5 m D c, ← region_read m D c 5]
  unfold tail Pipeline.afterTail₀
  generalize Pipeline.withArrays _ _ _ _ = W
  simp only [List.flatten_cons, List.flatten_nil, List.append_nil]
  unfold_abbrev_sides
  after_results

theorem tail3 (c : Dev nD) : tail m D c main_v3 = transpose S9x2048x2x64 [0, 3, 1, 2] (codeArr (fun b => (D c b).k)) transposes_S9x2x64x2048_S9x2048x2x64_0_3_1_2 := by
  rw [← arr6 m D c, ← region_read m D c 6]
  unfold tail Pipeline.afterTail₀
  generalize Pipeline.withArrays _ _ _ _ = W
  simp only [List.flatten_cons, List.flatten_nil, List.append_nil]
  unfold_abbrev_sides
  after_results

theorem tail4 (c : Dev nD) : tail m D c main_v4 = transpose S9x2048x2 [0, 2, 1] (scaleArr (fun b => (D c b).k)) transposes_S9x2x2048_S9x2048x2_0_2_1 := by
  rw [← arr7 m D c, ← region_read m D c 7]
  unfold tail Pipeline.afterTail₀
  generalize Pipeline.withArrays _ _ _ _ = W
  simp only [List.flatten_cons, List.flatten_nil, List.append_nil]
  unfold_abbrev_sides
  after_results

theorem tail5 (c : Dev nD) : tail m D c main_v5 = transpose S9x2048x2x64 [0, 3, 1, 2] (codeArr (fun b => (D c b).v)) transposes_S9x2x64x2048_S9x2048x2x64_0_3_1_2 := by
  rw [← arr8 m D c, ← region_read m D c 8]
  unfold tail Pipeline.afterTail₀
  generalize Pipeline.withArrays _ _ _ _ = W
  simp only [List.flatten_cons, List.flatten_nil, List.append_nil]
  unfold_abbrev_sides
  after_results

theorem tail6 (c : Dev nD) : tail m D c main_v6 = transpose S9x2048x2 [0, 2, 1] (scaleArr (fun b => (D c b).v)) transposes_S9x2x2048_S9x2048x2_0_2_1 := by
  rw [← arr9 m D c, ← region_read m D c 9]
  unfold tail Pipeline.afterTail₀
  generalize Pipeline.withArrays _ _ _ _ = W
  simp only [List.flatten_cons, List.flatten_nil, List.append_nil]
  unfold_abbrev_sides
  after_results

/-- The kernel's results from arguments that hold the batches, the arguments unchanged. -/
structure Results (c : Dev nD) (M : (ℓ : Loc nD τ sig) → Buf (Elt Ideal) ℓ) : Prop where
  out : M ((c.tc : Thread nD τ).loc main_v0_0) = outArr (D c)
  qc : M ((c.tc : Thread nD τ).loc main_v1) = transpose S9x2048x8x64 [0, 3, 1, 2] (codeArr (fun b => (D c b).q)) transposes_S9x8x64x2048_S9x2048x8x64_0_3_1_2
  qs : M ((c.tc : Thread nD τ).loc main_v2) = transpose S9x2048x8 [0, 2, 1] (scaleArr (fun b => (D c b).q)) transposes_S9x8x2048_S9x2048x8_0_2_1
  kc : M ((c.tc : Thread nD τ).loc main_v3) = transpose S9x2048x2x64 [0, 3, 1, 2] (codeArr (fun b => (D c b).k)) transposes_S9x2x64x2048_S9x2048x2x64_0_3_1_2
  ks : M ((c.tc : Thread nD τ).loc main_v4) = transpose S9x2048x2 [0, 2, 1] (scaleArr (fun b => (D c b).k)) transposes_S9x2x2048_S9x2048x2_0_2_1
  vc : M ((c.tc : Thread nD τ).loc main_v5) = transpose S9x2048x2x64 [0, 3, 1, 2] (codeArr (fun b => (D c b).v)) transposes_S9x2x64x2048_S9x2048x2x64_0_3_1_2
  vs : M ((c.tc : Thread nD τ).loc main_v6) = transpose S9x2048x2 [0, 2, 1] (scaleArr (fun b => (D c b).v)) transposes_S9x2x2048_S9x2048x2_0_2_1
  arg0 : M ((c.tc : Thread nD τ).loc main_arg0) = m ((c.tc : Thread nD τ).loc main_arg0)
  arg1 : M ((c.tc : Thread nD τ).loc main_arg1) = m ((c.tc : Thread nD τ).loc main_arg1)
  arg2 : M ((c.tc : Thread nD τ).loc main_arg2) = m ((c.tc : Thread nD τ).loc main_arg2)

-- the implicit arguments are found by unifying the conclusion with this statement
set_option backward.isDefEq.respectTransparency.types false in
variable {m D} in
theorem run_value (H : Args m D) : θ_run defs (onTc (τ := τ) (main (F := Ideal))) ⟨m, fun _ => 0, ρ⟩ (fun r => ∀ c : Dev nD, Results m D c r.2.mem) :=
  Pipeline.θ_run_frame_around (Q' := _) cfgs (datsV m D) (0 : Fin 1) launch0 defs₀ Variants.none m ρ main
    (hbody := fun c => (bodyV H c).loose) (hshare := fun c => (datsV m D 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)
    (hQ' := fun r h c =>
      { out := (h.1.out_eq c 3).trans (arr3 m D c)
        qc := (h.1.rest_eq c main_v1 (by decide)).trans (tail1 m D c)
        qs := (h.1.rest_eq c main_v2 (by decide)).trans (tail2 m D c)
        kc := (h.1.rest_eq c main_v3 (by decide)).trans (tail3 m D c)
        ks := (h.1.rest_eq c main_v4 (by decide)).trans (tail4 m D c)
        vc := (h.1.rest_eq c main_v5 (by decide)).trans (tail5 m D c)
        vs := (h.1.rest_eq c main_v6 (by decide)).trans (tail6 m D c)
        arg0 := h.1.in_eq c 0 rfl
        arg1 := h.1.in_eq c 1 rfl
        arg2 := h.1.in_eq c 2 rfl })

end Cert.KernelIdeal.Body

end
-- ==== Proof.RefValue.lean ====
/- The reference's seven results at the ideal instance, from arguments that hold the batches: the arrays the kernel's run ends with. -/
module

public import proofs.«01_k».proof.Proof.RefAttn
public import proofs.«01_k».proof.Proof.RunTail

@[expose] public section

set_option maxRecDepth 16384

noncomputable section

namespace Cert.ReferenceIdeal.Value

open Cert.ReferenceIdeal Cert.ReferenceIdeal.Gen Cert.Attn
open Idealize.ShloMosaic Idealize.SL.Sem

/-! ## The layouts: a code and a scale, element by element, are the kernel's transposed arrays -/

theorem codes8_arr {x : FVec Ideal S9x2048x8x64 .f32} {f : Fin 9 → Fin 8 → Fin 2048 → Fin 64 → ℝ} (hx : ∀ b s h d, x (ix4 b s h d) = ((code (f b h s) d : ℝ) : EReal)) :
    (Host.convertf .fp8e4m3 x : S9x2048x8x64.Idx → EReal) = transpose Cert.KernelIdeal.S9x2048x8x64 [0, 3, 1, 2] (codeArr f) Cert.KernelIdeal.Gen.facts.transposes_S9x8x64x2048_S9x2048x8x64_0_3_1_2 := by
  funext i
  rw [eq_ix4 i]
  refine (hx (i 0) (i 1) (i 2) (i 3)).trans ?_
  pointwise
  rfl

theorem codes2_arr {x : FVec Ideal S9x2048x2x64 .f32} {f : Fin 9 → Fin 2 → Fin 2048 → Fin 64 → ℝ} (hx : ∀ b s h d, x (ix4 b s h d) = ((code (f b h s) d : ℝ) : EReal)) :
    (Host.convertf .fp8e4m3 x : S9x2048x2x64.Idx → EReal) = transpose Cert.KernelIdeal.S9x2048x2x64 [0, 3, 1, 2] (codeArr f) Cert.KernelIdeal.Gen.facts.transposes_S9x2x64x2048_S9x2048x2x64_0_3_1_2 := by
  funext i
  rw [eq_ix4 i]
  refine (hx (i 0) (i 1) (i 2) (i 3)).trans ?_
  pointwise
  rfl

theorem scales8_arr {x : FVec Ideal S9x2048x8x1 .f32} {f : Fin 9 → Fin 8 → Fin 2048 → Fin 64 → ℝ} (hx : ∀ b s h, x (ix4 b s h 0) = (((2 : ℝ) ^ expq (f b h s) : ℝ) : EReal)) :
    (shapeCast S9x2048x8 x shapeCasts_S9x2048x8x1_S9x2048x8 : S9x2048x8.Idx → EReal) = transpose Cert.KernelIdeal.S9x2048x8 [0, 2, 1] (scaleArr f) Cert.KernelIdeal.Gen.facts.transposes_S9x8x2048_S9x2048x8_0_2_1 := by
  funext i
  rw [eq_ix3 i]
  pointwise
  exact hx (i 0) (i 1) (i 2)

theorem scales2_arr {x : FVec Ideal S9x2048x2x1 .f32} {f : Fin 9 → Fin 2 → Fin 2048 → Fin 64 → ℝ} (hx : ∀ b s h, x (ix4 b s h 0) = (((2 : ℝ) ^ expq (f b h s) : ℝ) : EReal)) :
    (shapeCast S9x2048x2 x shapeCasts_S9x2048x2x1_S9x2048x2 : S9x2048x2.Idx → EReal) = transpose Cert.KernelIdeal.S9x2048x2 [0, 2, 1] (scaleArr f) Cert.KernelIdeal.Gen.facts.transposes_S9x2x2048_S9x2048x2_0_2_1 := by
  funext i
  rw [eq_ix3 i]
  pointwise
  exact hx (i 0) (i 1) (i 2)

/-! ## The output -/

section
variable {E : Fin 9 → Data} {qc : FVec Ideal S9x2048x8x64 .f32} {qs : FVec Ideal S9x2048x8x1 .f32} {kc vc : FVec Ideal S9x2048x2x64 .f32} {ks vs : FVec Ideal S9x2048x2x1 .f32}

theorem output_arr {p : FVec Ideal S9x2x4x2048x2048 .f32} {y : FVec Ideal S9x2x4x2048x1 .f32}
    (hp : ∀ b g r q s, p (ix5 b g r q s) = prob (fun s : Fin 2048 => s.val ≤ q.val) (zAt (E b) (head g r) g (headSlope (head g r)) q) (fun s => expq ((E b).v g s)) s)
    (hy : ∀ b g r q, y (ix5 b g r q 0) = probScale (fun s : Fin 2048 => s.val ≤ q.val) (zAt (E b) (head g r) g (headSlope (head g r)) q) (fun s => expq ((E b).v g s)))
    (hvc : ∀ b s g d, vc (ix4 b s g d) = ((code ((E b).v g s) d : ℝ) : EReal)) : (output p y vc : S9x2048x512.Idx → EReal) = outArr E := by
  suffices key : ∀ (b : Fin 9) (q : Fin 2048) (j : Fin 512), (output p y vc (ix3 b q j) : EReal) = outArr E (ix3 b q j) by
    funext i
    rw [eq_ix3 i]
    exact key (i 0) (i 1) (i 2)
  intro b q j
  refine (output_val p y vc b q j (hp b _ _ q) (hy b _ _ q) (fun s => hvc b s _ _)).trans ?_
  have eh : colHead j = head (⟨j.val / 256, by omega⟩ : Fin 2) (⟨j.val / 64 % 4, by omega⟩ : Fin 4) := Fin.ext (by show j.val / 64 = j.val / 256 * 4 + j.val / 64 % 4; omega)
  have eg : keyHead (colHead j) = (⟨j.val / 256, by omega⟩ : Fin 2) := Fin.ext (by show j.val / 64 / 4 = j.val / 256; omega)
  show _ = outAt (E b) (colHead j) (keyHead (colHead j)) (headSlope (colHead j)) q (colDim j)
  rw [eg, eh]
  rfl
end

/-! ## The printed run's terms -/

/-- The arguments hold the batches. -/
structure Args (V0 : Valuation τ sig (Elt Ideal)) (E : Fin 9 → Data) : Prop where
  x : ∀ (b : Fin 9) (h : Fin 8) (s : Fin 2048) (d : Fin 64), (V0 (Proc.devRef .tc main_arg0) (ix3 b s (⟨64 * h.val + d.val, by omega⟩ : Fin 512)) : EReal) = (((E b).q h s d : ℝ) : EReal)
  k : ∀ (b : Fin 9) (g : Fin 2) (s : Fin 2048) (d : Fin 64), (V0 (Proc.devRef .tc main_arg1) (ix3 b s (⟨64 * g.val + d.val, by omega⟩ : Fin 128)) : EReal) = (((E b).k g s d : ℝ) : EReal)
  v : ∀ (b : Fin 9) (g : Fin 2) (s : Fin 2048) (d : Fin 64), (V0 (Proc.devRef .tc main_arg2) (ix3 b s (⟨64 * g.val + d.val, by omega⟩ : Fin 128)) : EReal) = (((E b).v g s d : ℝ) : EReal)
  ok : ∀ b, (E b).Ok

variable {V0 : Valuation τ sig (Elt Ideal)} {E : Fin 9 → Data} (H : Args V0 E)
include H

theorem v1_at (b : Fin 9) (s : Fin 2048) (h : Fin 8) (d : Fin 64) : (res_main_v1 V0 (ix4 b s h d) : EReal) = (((E b).q h s d : ℝ) : EReal) :=
  (congrFun (v1_eq V0) _).trans ((rows8_at b s h d _).trans (H.x b h s d))
theorem v28_at (b : Fin 9) (s : Fin 2048) (g : Fin 2) (d : Fin 64) : (res_main_v28 V0 (ix4 b s g d) : EReal) = (((E b).k g s d : ℝ) : EReal) :=
  (congrFun (v28_eq V0) _).trans ((rows2_at b s g d _).trans (H.k b g s d))
theorem v55_at (b : Fin 9) (s : Fin 2048) (g : Fin 2) (d : Fin 64) : (res_main_v55 V0 (ix4 b s g d) : EReal) = (((E b).v g s d : ℝ) : EReal) :=
  (congrFun (v55_eq V0) _).trans ((rows2_at b s g d _).trans (H.v b g s d))

theorem v22_at (b : Fin 9) (s : Fin 2048) (h : Fin 8) : (res_main_v22 V0 (ix4 b s h 0) : EReal) = (((2 : ℝ) ^ expq ((E b).q h s) : ℝ) : EReal) :=
  (congrFun (v22_eq V0) _).trans (scales8_val (f := fun b => (E b).q) b s h (v1_at H) (fun b => (H.ok b).q))
theorem v49_at (b : Fin 9) (s : Fin 2048) (g : Fin 2) : (res_main_v49 V0 (ix4 b s g 0) : EReal) = (((2 : ℝ) ^ expq ((E b).k g s) : ℝ) : EReal) :=
  (congrFun (v49_eq V0) _).trans (scales2_val (f := fun b => (E b).k) b s g (v28_at H) (fun b => (H.ok b).k))
theorem v76_at (b : Fin 9) (s : Fin 2048) (g : Fin 2) : (res_main_v76 V0 (ix4 b s g 0) : EReal) = (((2 : ℝ) ^ expq ((E b).v g s) : ℝ) : EReal) :=
  (congrFun (v76_eq V0) _).trans (scales2_val (f := fun b => (E b).v) b s g (v55_at H) (fun b => (H.ok b).v))

theorem v25_at (b : Fin 9) (s : Fin 2048) (h : Fin 8) (d : Fin 64) : (res_main_v25 V0 (ix4 b s h d) : EReal) = ((code ((E b).q h s) d : ℝ) : EReal) :=
  (congrFun ((v25_eq V0).trans (congrArg (codes8 (res_main_v1 V0)) (v22_eq V0))) _).trans (codes8_val (f := fun b => (E b).q) b s h d (v1_at H) (fun b => (H.ok b).q))
theorem v52_at (b : Fin 9) (s : Fin 2048) (g : Fin 2) (d : Fin 64) : (res_main_v52 V0 (ix4 b s g d) : EReal) = ((code ((E b).k g s) d : ℝ) : EReal) :=
  (congrFun ((v52_eq V0).trans (congrArg (codes2 (res_main_v28 V0)) (v49_eq V0))) _).trans (codes2_val (f := fun b => (E b).k) b s g d (v28_at H) (fun b => (H.ok b).k))
theorem v79_at (b : Fin 9) (s : Fin 2048) (g : Fin 2) (d : Fin 64) : (res_main_v79 V0 (ix4 b s g d) : EReal) = ((code ((E b).v g s) d : ℝ) : EReal) :=
  (congrFun ((v79_eq V0).trans (congrArg (codes2 (res_main_v55 V0)) (v76_eq V0))) _).trans (codes2_val (f := fun b => (E b).v) b s g d (v55_at H) (fun b => (H.ok b).v))

theorem v126_at (b : Fin 9) (g : Fin 2) (r : Fin 4) (q s : Fin 2048) :
    (res_main_v126 V0 (ix5 b g r q s) : EReal) = seen (fun s : Fin 2048 => s.val ≤ q.val) (zAt (E b) (head g r) g (headSlope (head g r)) q) s :=
  (congrFun (v126_eq V0) _).trans (scores_val (v25_at H) (v22_at H) (v52_at H) (v49_at H) b g r q s)

theorem v137_at (b : Fin 9) (g : Fin 2) (r : Fin 4) (q s : Fin 2048) : (res_main_v137 V0 (ix5 b g r q s) : EReal)
    = prob (fun s : Fin 2048 => s.val ≤ q.val) (zAt (E b) (head g r) g (headSlope (head g r)) q) (fun s => expq ((E b).v g s)) s :=
  (congrFun (v137_eq V0) _).trans (probs_val b g r q (v126_at H b g r q) (fun s => v76_at H b s g) s)

theorem v158_at (b : Fin 9) (g : Fin 2) (r : Fin 4) (q : Fin 2048) : (res_main_v158 V0 (ix5 b g r q 0) : EReal)
    = probScale (fun s : Fin 2048 => s.val ≤ q.val) (zAt (E b) (head g r) g (headSlope (head g r)) q) (fun s => expq ((E b).v g s)) :=
  (congrFun (v158_eq V0) _).trans (scalesP_val b g r q (v137_at H b g r q))

theorem out_eq : (output (res_main_v137 V0) (res_main_v158 V0) (res_main_v79 V0) : S9x2048x512.Idx → EReal) = outArr E :=
  output_arr (v137_at H) (v158_at H) (v79_at H)

end Cert.ReferenceIdeal.Value

end
-- ==== Proof.Agree.lean ====
/- The batches read off arguments that meet the precondition; kernel and reference end with equal results from them. -/
module

public import proofs.«01_k».proof.Proof.Pre
public import proofs.«01_k».proof.Proof.RefValue

@[expose] public section

set_option maxRecDepth 16384

noncomputable section

namespace Cert.Attn

open Idealize.ShloMosaic Idealize.SL.Sem

/-- The batches an initial memory's arguments are. -/
def dataOf (m : (ℓ : Loc Cert.KernelIdeal.nD Cert.KernelIdeal.τ Cert.KernelIdeal.sig) → Buf (Elt Ideal) ℓ) (c : Dev Cert.KernelIdeal.nD) (b : Fin 9) : Data where
  q h s d := (m ((c.tc : Thread Cert.KernelIdeal.nD Cert.KernelIdeal.τ).loc Cert.KernelIdeal.main_arg0) (ix3 b s (⟨64 * h.val + d.val, by omega⟩ : Fin 512)) : EReal).toReal
  k g s d := (m ((c.tc : Thread Cert.KernelIdeal.nD Cert.KernelIdeal.τ).loc Cert.KernelIdeal.main_arg1) (ix3 b s (⟨64 * g.val + d.val, by omega⟩ : Fin 128)) : EReal).toReal
  v g s d := (m ((c.tc : Thread Cert.KernelIdeal.nD Cert.KernelIdeal.τ).loc Cert.KernelIdeal.main_arg2) (ix3 b s (⟨64 * g.val + d.val, by omega⟩ : Fin 128)) : EReal).toReal

/-- Under the precondition the arguments hold these batches, and their rows are tame. -/
theorem args_of_pre [Cert.Pre_inputs_tame.Facts] {m : (ℓ : Loc Cert.KernelIdeal.nD Cert.KernelIdeal.τ Cert.KernelIdeal.sig) → Buf (Elt Ideal) ℓ}
    (h : Cert.Pre_KernelIdeal_inputs_tame m) : Cert.KernelIdeal.Body.Args m (dataOf m) where
  x c _ _ _ _ := (tame_of_bit _ (pre_x _ _ _ (h c).1 _)).1
  k c _ _ _ _ := (tame_of_bit _ (pre_k _ _ _ (h c).2.1 _)).1
  v c _ _ _ _ := (tame_of_bit _ (pre_v _ _ _ (h c).2.2 _)).1
  ok c _ :=
    { q := fun _ _ _ => (tame_of_bit _ (pre_x _ _ _ (h c).1 _)).2
      k := fun _ _ _ => (tame_of_bit _ (pre_k _ _ _ (h c).2.1 _)).2
      v := fun _ _ _ => (tame_of_bit _ (pre_v _ _ _ (h c).2.2 _)).2 }

/-- Arguments equal to the kernel's hold the batches too. -/
theorem ref_args {m : (ℓ : Loc Cert.KernelIdeal.nD Cert.KernelIdeal.τ Cert.KernelIdeal.sig) → Buf (Elt Ideal) ℓ} {D : Dev Cert.KernelIdeal.nD → Fin 9 → Data}
    (H : Cert.KernelIdeal.Body.Args m D) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.Args (StableHlo.launchContents m' c) (D c) where
  x b h s d := (congrFun h0 _).trans (H.x c b h s d)
  k b g s d := (congrFun h1 _).trans (H.k c b g s d)
  v b g s d := (congrFun h2 _).trans (H.v c b g s d)
  ok b := H.ok c b

end Cert.Attn

end
-- ==== Proof.lean ====
/- The certificate's claims, assembled: the frames, the constants' names, and the equality of the seven results over the reals. -/
module

public import proofs.«01_k».proof.Defs
public import proofs.«01_k».proof.Proof.RunIdeal
public import proofs.«01_k».proof.Proof.RunKernel
public import proofs.«01_k».proof.Proof.Agree
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed runs to its end, its arguments and semaphores as they were. -/
theorem frame_p : Cert.quiescent_Kernel := fun m ρ _ => Cert.Kernel.Body.run_frame (F := Bits) m ρ

/-- So does the kernel over the reals. -/
theorem frame_pi : Cert.quiescent_KernelIdeal := fun m ρ _ => Cert.KernelIdeal.Body.run_frame (F := Ideal) m ρ

/-- So does the reference. -/
theorem frame_ri : Cert.quiescent_ReferenceIdeal := fun m ρ _ =>
  (θ_run Cert.ReferenceIdeal.defs _ _).mono (fun r h => ⟨fun c => (h c).2.2.2.2.2.2.2, Idealize.ShloMosaic.sem_eq_zero_of_no_sems (by decide) r.2⟩)
    (Cert.ReferenceIdeal.Value.run (F := Ideal) m ρ)

/-- The two named constants are the logarithm's reciprocal, and an eighth of it. -/
theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "log2_e_over_8" .f32 0x3E38AA3B#32 (((Real.log 2)⁻¹ * 8⁻¹ : ℝ) : EReal) rfl⟩

section
variable [Cert.Pre_inputs_tame.Facts]

/-- From equal arguments that meet the precondition, kernel and reference end with the same seven results. -/
theorem algebraic : Cert.algebraic_KernelIdeal_ReferenceIdeal_pre_inputs_tame := by
  intro m g m' g' hpre hagree
  have H := Cert.Attn.args_of_pre hpre
  have R := fun c => Cert.Attn.ref_args H m' c (hagree c).1 (hagree c).2.1 (hagree c).2.2
  refine ⟨fun c => Cert.Attn.outArr (Cert.Attn.dataOf m c),
    fun c => transpose Cert.KernelIdeal.S9x2048x8x64 [0, 3, 1, 2] (Cert.Attn.codeArr (fun b => (Cert.Attn.dataOf m c b).q)) Cert.KernelIdeal.Gen.facts.transposes_S9x8x64x2048_S9x2048x8x64_0_3_1_2,
    fun c => transpose Cert.KernelIdeal.S9x2048x8 [0, 2, 1] (Cert.Attn.scaleArr (fun b => (Cert.Attn.dataOf m c b).q)) Cert.KernelIdeal.Gen.facts.transposes_S9x8x2048_S9x2048x8_0_2_1,
    fun c => transpose Cert.KernelIdeal.S9x2048x2x64 [0, 3, 1, 2] (Cert.Attn.codeArr (fun b => (Cert.Attn.dataOf m c b).k)) Cert.KernelIdeal.Gen.facts.transposes_S9x2x64x2048_S9x2048x2x64_0_3_1_2,
    fun c => transpose Cert.KernelIdeal.S9x2048x2 [0, 2, 1] (Cert.Attn.scaleArr (fun b => (Cert.Attn.dataOf m c b).k)) Cert.KernelIdeal.Gen.facts.transposes_S9x2x2048_S9x2048x2_0_2_1,
    fun c => transpose Cert.KernelIdeal.S9x2048x2x64 [0, 3, 1, 2] (Cert.Attn.codeArr (fun b => (Cert.Attn.dataOf m c b).v)) Cert.KernelIdeal.Gen.facts.transposes_S9x2x64x2048_S9x2048x2x64_0_3_1_2,
    fun c => transpose Cert.KernelIdeal.S9x2048x2 [0, 2, 1] (Cert.Attn.scaleArr (fun b => (Cert.Attn.dataOf m c b).v)) Cert.KernelIdeal.Gen.facts.transposes_S9x2x2048_S9x2048x2_0_2_1,
    (θ_run Cert.KernelIdeal.defs _ _).mono (fun r h c => ?_) (Cert.KernelIdeal.Body.run_value g H),
    (θ_run Cert.ReferenceIdeal.defs _ _).mono (fun r h c => ?_) (Cert.ReferenceIdeal.Value.run (F := Ideal) m' g')⟩
  · exact ⟨(h c).out, (h c).qc, (h c).qs, (h c).kc, (h c).ks, (h c).vc, (h c).vs, (h c).arg0, (h c).arg1, (h c).arg2⟩
  · obtain ⟨o, qc, qs, kc, ks, vc, vs, args⟩ := h c
    exact ⟨o.trans (Cert.ReferenceIdeal.Value.out_eq (R c)), qc.trans (Cert.ReferenceIdeal.Value.codes8_arr (Cert.ReferenceIdeal.Value.v25_at (R c))),
      qs.trans (Cert.ReferenceIdeal.Value.scales8_arr (Cert.ReferenceIdeal.Value.v22_at (R c))), kc.trans (Cert.ReferenceIdeal.Value.codes2_arr (Cert.ReferenceIdeal.Value.v52_at (R c))),
      ks.trans (Cert.ReferenceIdeal.Value.scales2_arr (Cert.ReferenceIdeal.Value.v49_at (R c))), vc.trans (Cert.ReferenceIdeal.Value.codes2_arr (Cert.ReferenceIdeal.Value.v79_at (R c))),
      vs.trans (Cert.ReferenceIdeal.Value.scales2_arr (Cert.ReferenceIdeal.Value.v76_at (R c))), args⟩

end

instance : Cert.Pre_inputs_tame.Facts := Cert.Attn.pre_facts

/-- Everything claimed. -/
theorem claim : Cert.Claim :=
  ⟨Cert.Kernel.Gen.facts, Cert.KernelIdeal.Gen.facts, Cert.ReferenceIdeal.Gen.facts, Cert.Attn.pre_facts, frame_p, frame_pi, fun m ρ _ => frame_pi m ρ trivial,
    frame_ri, fun m ρ _ => frame_ri m ρ trivial, preserves, algebraic⟩

end Cert.Proof

end
